-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_qk [hPre_finite_qk : Cert.Pre_finite_qk.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_qk.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite_qk.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_qk [hPre_finite_qk : Cert.Pre_finite_qk.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_qk.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite_qk.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_qk [hKernel11Ideal : Cert.Kernel11Ideal.Facts] [hPre_finite_qk : Cert.Pre_finite_qk.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_qk m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_qk [hReference11Ideal : Cert.Reference11Ideal.Facts] [hPre_finite_qk : Cert.Pre_finite_qk.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_qk m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "mask" .f32 0xF149F2CA#32 ⊥
  ∧ IdealRules.named_const.Statement Cert.Kernel11Ideal.κ "log2e" .f32 0x3FB8AA3B#32 (((Real.log 2)⁻¹ : ℝ) : EReal)

def algebraic_Kernel11Ideal_Reference11Ideal_pre_finite_qk [hKernel11Ideal : Cert.Kernel11Ideal.Facts] [hReference11Ideal : Cert.Reference11Ideal.Facts] [hPre_finite_qk : Cert.Pre_finite_qk.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_qk m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v11) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v41) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v21)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v21) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v6)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_v7) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v8)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v8) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v8_0)) (v1 : (c : Dev Cert.Kernel26Ideal.nD) → Buf (Elt Ideal) ((c.tc : Thread Cert.Kernel26Ideal.nD Cert.Kernel26Ideal.τ).loc Cert.Kernel26Ideal.main_v8_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v8_0) = v0 c
          ∧ r.2.mem ((c.tc : Thread Cert.Kernel26Ideal.nD Cert.Kernel26Ideal.τ).loc Cert.Kernel26Ideal.main_v8_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v16) = v0 c
          ∧ r.2.mem ((c.tc : Thread Cert.Reference26Ideal.nD Cert.Reference26Ideal.τ).loc Cert.Reference26Ideal.main_v19) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v2_0)) (v1 : (c : Dev Cert.Kernel28Ideal.nD) → Buf (Elt Ideal) ((c.tc : Thread Cert.Kernel28Ideal.nD Cert.Kernel28Ideal.τ).loc Cert.Kernel28Ideal.main_v2_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2_0) = v0 c
          ∧ r.2.mem ((c.tc : Thread Cert.Kernel28Ideal.nD Cert.Kernel28Ideal.τ).loc Cert.Kernel28Ideal.main_v2_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v13) = v0 c
          ∧ r.2.mem ((c.tc : Thread Cert.Reference28Ideal.nD Cert.Reference28Ideal.τ).loc Cert.Reference28Ideal.main_v27) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_qk (hKernel11Ideal := hKernel11Ideal) (hPre_finite_qk := hPre_finite_qk)
    ∧ quiescent_Reference11Ideal (hReference11Ideal := hReference11Ideal)
    ∧ quiescent_Reference11Ideal_pre_finite_qk (hReference11Ideal := hReference11Ideal) (hPre_finite_qk := hPre_finite_qk)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_qk (hKernel11Ideal := hKernel11Ideal) (hReference11Ideal := hReference11Ideal) (hPre_finite_qk := hPre_finite_qk)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S8x8448x256 : Shape := ⟨3, ![8, 8448, 256]⟩
abbrev S8x8448x128 : Shape := ⟨3, ![8, 8448, 128]⟩
abbrev S_ : Shape := ⟨0, ![]⟩

class Facts : Prop where
  bcast_S_S8x8448x256 : S_.BroadcastsInDim S8x8448x256 (![] : Fin 0 → Fin S8x8448x256.rank)
  bcast_S_S8x8448x128 : S_.BroadcastsInDim S8x8448x128 (![] : Fin 0 → Fin S8x8448x128.rank)

variable [Facts]

def fn {F : FTy → Type} [FloatOps F] (main_arg0 : FVec F S8x8448x256 .f32) (main_arg1 : FVec F S8x8448x256 .f32) (main_arg2 : FVec F S8x8448x128 .f32) (main_arg3 : FVec F S8x8448x128 .f32) : IVec S8x8448x256 1 × IVec S8x8448x256 1 × IVec S8x8448x128 1 × IVec S8x8448x128 1 :=
  let main_v0 : FVec F S8x8448x256 .f32 := Host.absf main_arg0
  let main_cst : FVec F S_ .f32 := constant S_ .f32 0x7F800000#32
  let main_v1 : FVec F S8x8448x256 .f32 := broadcastInDim S8x8448x256 ![] bcast_S_S8x8448x256 main_cst
  let main_v2 : IVec S8x8448x256 1 := cmpf .olt main_v0 main_v1
  let main_v3 : FVec F S8x8448x256 .f32 := Host.absf main_arg1
  let main_cst_0 : FVec F S_ .f32 := constant S_ .f32 0x7F800000#32
  let main_v4 : FVec F S8x8448x256 .f32 := broadcastInDim S8x8448x256 ![] bcast_S_S8x8448x256 main_cst_0
  let main_v5 : IVec S8x8448x256 1 := cmpf .olt main_v3 main_v4
  let main_v6 : FVec F S8x8448x128 .f32 := Host.absf main_arg2
  let main_cst_1 : FVec F S_ .f32 := constant S_ .f32 0x7F800000#32
  let main_v7 : FVec F S8x8448x128 .f32 := broadcastInDim S8x8448x128 ![] bcast_S_S8x8448x128 main_cst_1
  let main_v8 : IVec S8x8448x128 1 := cmpf .olt main_v6 main_v7
  let main_v9 : FVec F S8x8448x128 .f32 := Host.absf main_arg3
  let main_cst_2 : FVec F S_ .f32 := constant S_ .f32 0x7F800000#32
  let main_v10 : FVec F S8x8448x128 .f32 := broadcastInDim S8x8448x128 ![] bcast_S_S8x8448x128 main_cst_2
  let main_v11 : IVec S8x8448x128 1 := cmpf .olt main_v9 main_v10
  (main_v2, main_v5, main_v8, main_v11)
-- ==== Pre_finite_qk.lean ====
abbrev S8x8448x256 : Shape := ⟨3, ![8, 8448, 256]⟩
abbrev S8x8448x128 : Shape := ⟨3, ![8, 8448, 128]⟩
abbrev S_ : Shape := ⟨0, ![]⟩

class Facts : Prop where
  bcast_S_S8x8448x256 : S_.BroadcastsInDim S8x8448x256 (![] : Fin 0 → Fin S8x8448x256.rank)

variable [Facts]

def fn {F : FTy → Type} [FloatOps F] (main_arg0 : FVec F S8x8448x256 .f32) (main_arg1 : FVec F S8x8448x256 .f32) (main_arg2 : FVec F S8x8448x128 .f32) : IVec S8x8448x256 1 × IVec S8x8448x256 1 :=
  let main_v0 : FVec F S8x8448x256 .f32 := Host.absf main_arg0
  let main_cst : FVec F S_ .f32 := constant S_ .f32 0x7F800000#32
  let main_v1 : FVec F S8x8448x256 .f32 := broadcastInDim S8x8448x256 ![] bcast_S_S8x8448x256 main_cst
  let main_v2 : IVec S8x8448x256 1 := cmpf .olt main_v0 main_v1
  let main_v3 : FVec F S8x8448x256 .f32 := Host.absf main_arg1
  let main_cst_0 : FVec F S_ .f32 := constant S_ .f32 0x7F800000#32
  let main_v4 : FVec F S8x8448x256 .f32 := broadcastInDim S8x8448x256 ![] bcast_S_S8x8448x256 main_cst_0
  let main_v5 : IVec S8x8448x256 1 := cmpf .olt main_v3 main_v4
  (main_v2, main_v5)
-- ==== Kernel.lean ====
abbrev S8x8448x256 : Shape := ⟨3, ![8, 8448, 256]⟩
abbrev S8x8448x128 : Shape := ⟨3, ![8, 8448, 128]⟩
abbrev S_ : Shape := ⟨0, ![]⟩
abbrev S8448 : Shape := ⟨1, ![8448]⟩
abbrev S8x8448x8448 : Shape := ⟨3, ![8, 8448, 8448]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8x11x1x768 : Shape := ⟨4, ![8, 11, 1, 768]⟩
abbrev S1x8448x256 : Shape := ⟨3, ![1, 8448, 256]⟩
abbrev S1x8448x128 : Shape := ⟨3, ![1, 8448, 128]⟩
abbrev S1x11x1x768 : Shape := ⟨4, ![1, 11, 1, 768]⟩
abbrev S1x768x256 : Shape := ⟨3, ![1, 768, 256]⟩
abbrev S1x768x128 : Shape := ⟨3, ![1, 768, 128]⟩
abbrev S768x256 : Shape := ⟨2, ![768, 256]⟩
abbrev S768x128 : Shape := ⟨2, ![768, 128]⟩
abbrev S768x768 : Shape := ⟨2, ![768, 768]⟩
abbrev S1x1x1x768 : Shape := ⟨4, ![1, 1, 1, 768]⟩
abbrev S1x768 : Shape := ⟨2, ![1, 768]⟩

abbrev nBuf : Space → Nat
  | .hbm => 57
  | .vmem => 20
  | .smem => 0
  | _ => 0

abbrev bufTy : (tb : Table) → Fin (tcTables nBuf tb) → BufTy
  | .hbm, ⟨0, _⟩ => ⟨S8x8448x256, .f32⟩
  | .hbm, ⟨1, _⟩ => ⟨S8x8448x256, .f32⟩
  | .hbm, ⟨2, _⟩ => ⟨S8x8448x128, .f32⟩
  | .hbm, ⟨3, _⟩ => ⟨S8x8448x128, .f32⟩
  | .hbm, ⟨4, _⟩ => ⟨S_, .f32⟩
  | .hbm, ⟨5, _⟩ => ⟨S_, .f32⟩
  | .hbm, ⟨6, _⟩ => ⟨S8448, .i32⟩
  | .hbm, ⟨7, _⟩ => ⟨S8x8448x8448, .f32⟩
  | .hbm, ⟨8, _⟩ => ⟨S_, .f32⟩
  | .hbm, ⟨9, _⟩ => ⟨S8x8448x8448, .f32⟩
  | .hbm, ⟨10, _⟩ => ⟨S8x8448x8448, .f32⟩
  | .hbm, ⟨11, _⟩ => ⟨S1x8448, .i32⟩
  | .hbm, ⟨12, _⟩ => ⟨S8448x1, .i32⟩
  | .hbm, ⟨13, _⟩ => ⟨S8448x8448, .i32⟩
  | .hbm, ⟨14, _⟩ => ⟨S8448x8448, .i32⟩
  | .hbm, ⟨15, _⟩ => ⟨S8448x8448, .i1⟩
  | .hbm, ⟨16, _⟩ => ⟨S_, .f32⟩
  | .hbm, ⟨17, _⟩ => ⟨S_, .f32⟩
  | .hbm, ⟨18, _⟩ => ⟨S8x8448x8448, .i1⟩
  | .hbm, ⟨19, _⟩ => ⟨S8x8448x8448, .f32⟩
  | .hbm, ⟨20, _⟩ => ⟨S8x8448x8448, .f32⟩
  | .hbm, ⟨21, _⟩ => ⟨S_, .f32⟩
  | .hbm, ⟨22, _⟩ => ⟨S8x8448, .f32⟩
  | .hbm, ⟨23, _⟩ => ⟨S8x8448x1, .f32⟩
  | .hbm, ⟨24, _⟩ => ⟨S8x8448x8448, .f32⟩
  | .hbm, ⟨25, _⟩ => ⟨S8x8448x8448, .f32⟩
  | .hbm, ⟨26, _⟩ => ⟨S8x8448x8448, .f32⟩
  | .hbm, ⟨27, _⟩ => ⟨S_, .f32⟩
  | .hbm, ⟨28, _⟩ => ⟨S8x8448, .f32⟩
  | .hbm, ⟨29, _⟩ => ⟨S8x8448x1, .f32⟩
  | .hbm, ⟨30, _⟩ => ⟨S8x8448x8448, .f32⟩
  | .hbm, ⟨31, _⟩ => ⟨S8x8448x8448, .f32⟩
  | .hbm, ⟨32, _⟩ => ⟨S8x8448x128, .f32⟩
  | .hbm, ⟨33, _⟩ => ⟨S8x8448x1, .f32⟩
  | .hbm, ⟨34, _⟩ => ⟨S8x8448x1, .f32⟩
  | .hbm, ⟨35, _⟩ => ⟨S8x8448x1, .f32⟩
  | .hbm, ⟨36, _⟩ => ⟨S8x8448x1, .f32⟩
  | .hbm, ⟨37, _⟩ => ⟨S8x11x1x768, .f32⟩
  | .hbm, ⟨38, _⟩ => ⟨S8x8448x128, .f32⟩
  | .hbm, ⟨39, _⟩ => ⟨S_, .f32⟩
  | .hbm, ⟨40, _⟩ => ⟨S8x8448, .f32⟩
  | .hbm, ⟨41, _⟩ => ⟨S8x11x1x768, .f32⟩
  | .hbm, ⟨42, _⟩ => ⟨S_, .f32⟩
  | .hbm, ⟨43, _⟩ => ⟨S8x8448x256, .f32⟩
  | .hbm, ⟨44, _⟩ => ⟨S8x8448x256, .f32⟩
  | .hbm, ⟨45, _⟩ => ⟨S8x8448x256, .f32⟩
  | .hbm, ⟨46, _⟩ => ⟨S8x8448x256, .f32⟩
  | .hbm, ⟨47, _⟩ => ⟨S8x8448x256, .bf16⟩
  | .hbm, ⟨48, _⟩ => ⟨S8x8448x256, .bf16⟩
  | .hbm, ⟨49, _⟩ => ⟨S8x8448x128, .bf16⟩
  | .hbm, ⟨50, _⟩ => ⟨S8x8448x128, .bf16⟩
  | .hbm, ⟨51, _⟩ => ⟨S8x8448x256, .f32⟩
  | .hbm, ⟨52, _⟩ => ⟨S8x8448x256, .f32⟩
  | .hbm, ⟨53, _⟩ => ⟨S8x8448x128, .f32⟩
  | .hbm, ⟨54, _⟩ => ⟨S_, .f32⟩
  | .hbm, ⟨55, _⟩ => ⟨S8x8448x256, .f32⟩
  | .hbm, ⟨56, _⟩ => ⟨S8x8448x256, .f32⟩
  | .local _ .vmem, ⟨0, _⟩ => ⟨S1x8448x256, .bf16⟩
  | .local _ .vmem, ⟨1, _⟩ => ⟨S1x8448x256, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x11x1x768, .f32⟩
  | .local _ .vmem, ⟨5, _⟩ => ⟨S1x11x1x768, .f32⟩
  | .local _ .vmem, ⟨6, _⟩ => ⟨S1x11x1x768, .f32⟩
  | .local _ .vmem, ⟨7, _⟩ => ⟨S1x11x1x768, .f32⟩
  | .local _ .vmem, ⟨8, _⟩ => ⟨S1x768x256, .bf16⟩
  | .local _ .vmem, ⟨9, _⟩ => ⟨S1x768x256, .bf16⟩
  | .local _ .vmem, ⟨10, _⟩ => ⟨S1x768x128, .bf16⟩
  | .local _ .vmem, ⟨11, _⟩ => ⟨S1x768x128, .bf16⟩
  | .local _ .vmem, ⟨12, _⟩ => ⟨S1x8448x256, .f32⟩
  | .local _ .vmem, ⟨13, _⟩ => ⟨S1x8448x256, .f32⟩
  | .local _ .vmem, ⟨14, _⟩ => ⟨S1x768x256, .f32⟩
  | .local _ .vmem, ⟨15, _⟩ => ⟨S1x768x256, .f32⟩
  | .local _ .vmem, ⟨16, _⟩ => ⟨S1x768x128, .f32⟩
  | .local _ .vmem, ⟨17, _⟩ => ⟨S1x768x128, .f32⟩
  | .local _ .vmem, ⟨18, _⟩ => ⟨S768x256, .f32⟩
  | .local _ .vmem, ⟨19, _⟩ => ⟨S768x128, .f32⟩
  | _, _ => ⟨S8x8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c768_i32 : BitVec 32 := 768#32
  let v15 : BitVec 32 := Scalar.muli arg1 c768_i32
  v15
def k0_off1 (i : grid0.Coords) : Fin 3 → Nat :=
  let c0_11 : Index := 0#32
  let arg1 : BitVec 32 := BitVec.ofNat 32 (i 1).val
  let c768_i32 : BitVec 32 := 768#32
  let v15 : BitVec 32 := Scalar.muli arg1 c768_i32
  let v16 : BitVec 32 := v15
  let v17 : Index := Scalar.indexCast v16
  let c0_12 : Index := 0#32
  ![0, v17.toNat, 0]
def k0_off2 (i : grid0.Coords) : Fin 3 → Nat :=
  let c0_13 : Index := 0#32
  let arg1 : BitVec 32 := BitVec.ofNat 32 (i 1).val
  let c768_i32 : BitVec 32 := 768#32
  let v15 : BitVec 32 := Scalar.muli arg1 c768_i32
  let v16 : BitVec 32 := v15
  let v20 : Index := Scalar.indexCast v16
  let c0_14 : Index := 0#32
  ![0, v20.toNat, 0]
def k0_off3 (i : grid0.Coords) : Fin 4 → Nat :=
  let c0_17 : Index := 0#32
  let arg1 : BitVec 32 := BitVec.ofNat 32 (i 1).val
  let v29 : Index := Scalar.indexCast arg1
  let c0_18 : Index := 0#32
  let c0_19 : Index := 0#32
  ![0, v29.toNat, 0, 0]
@[reducible] def k0_t1_loop (i : grid0.Coords) : Scf.Loop 32 :=
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_41 : BitVec 32 := 1#32
  ⟨v65, v70, c1_i32_41⟩
def k0_mult2 (i : grid0.Coords) (k0_t1 : Fin (k0_t1_loop i).trips) : BitVec 32 :=
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let c768_i32_54 : BitVec 32 := 768#32
  let v81 : BitVec 32 := Scalar.muli arg13 c768_i32_54
  v81
def k0_off4 (i : grid0.Coords) (k0_t1 : Fin (k0_t1_loop i).trips) : Fin 3 → Nat :=
  let c0_55 : Index := 0#32
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let c768_i32_54 : BitVec 32 := 768#32
  let v81 : BitVec 32 := Scalar.muli arg13 c768_i32_54
  let v82 : BitVec 32 := v81
  let v83 : Index := Scalar.indexCast v82
  let c0_56 : Index := 0#32
  ![0, v83.toNat, 0]
def k0_off5 (i : grid0.Coords) (k0_t1 : Fin (k0_t1_loop i).trips) : Fin 3 → Nat :=
  let c0_57 : Index := 0#32
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let c768_i32_54 : BitVec 32 := 768#32
  let v81 : BitVec 32 := Scalar.muli arg13 c768_i32_54
  let v82 : BitVec 32 := v81
  let v86 : Index := Scalar.indexCast v82
  let c0_58 : Index := 0#32
  ![0, v86.toNat, 0]
def k0_off6 (i : grid0.Coords) (k0_t1 : Fin (k0_t1_loop i).trips) : Fin 4 → Nat :=
  let c0_60 : Index := 0#32
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let v90 : Index := Scalar.indexCast arg13
  let c0_61 : Index := 0#32
  let c0_62 : Index := 0#32
  ![0, v90.toNat, 0, 0]
@[reducible] def k0_t2_loop (i : grid0.Coords) : Scf.Loop 32 :=
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let v67 : BitVec 32 := Scalar.addi v65 v66
  let c1_i32_42 : BitVec 32 := 1#32
  ⟨v70, v67, c1_i32_42⟩
def k0_mult3 (i : grid0.Coords) (k0_t2 : Fin (k0_t2_loop i).trips) : BitVec 32 :=
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let c768_i32_54 : BitVec 32 := 768#32
  let v81 : BitVec 32 := Scalar.muli arg13 c768_i32_54
  v81
def k0_off7 (i : grid0.Coords) (k0_t2 : Fin (k0_t2_loop i).trips) : Fin 3 → Nat :=
  let c0_55 : Index := 0#32
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let c768_i32_54 : BitVec 32 := 768#32
  let v81 : BitVec 32 := Scalar.muli arg13 c768_i32_54
  let v82 : BitVec 32 := v81
  let v83 : Index := Scalar.indexCast v82
  let c0_56 : Index := 0#32
  ![0, v83.toNat, 0]
def k0_off8 (i : grid0.Coords) (k0_t2 : Fin (k0_t2_loop i).trips) : Fin 3 → Nat :=
  let c0_57 : Index := 0#32
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let c768_i32_54 : BitVec 32 := 768#32
  let v81 : BitVec 32 := Scalar.muli arg13 c768_i32_54
  let v82 : BitVec 32 := v81
  let v86 : Index := Scalar.indexCast v82
  let c0_58 : Index := 0#32
  ![0, v86.toNat, 0]
def k0_off9 (i : grid0.Coords) (k0_t2 : Fin (k0_t2_loop i).trips) : Fin 4 → Nat :=
  let c0_60 : Index := 0#32
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let v90 : Index := Scalar.indexCast arg13
  let c0_61 : Index := 0#32
  let c0_62 : Index := 0#32
  ![0, v90.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x11x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x11x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8448x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8x8448x256 : Shape := ⟨3, ![8, 8448, 256]⟩
abbrev S8x8448x128 : Shape := ⟨3, ![8, 8448, 128]⟩
abbrev S8448 : Shape := ⟨1, ![8448]⟩
abbrev S8x8448x8448 : Shape := ⟨3, ![8, 8448, 8448]⟩
abbrev S_ : Shape := ⟨0, ![]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8x128x8448 : Shape := ⟨3, ![8, 128, 8448]⟩

abbrev nBuf : Space → Nat
  | .hbm => 85
  | .vmem => 0
  | .smem => 0
  | _ => 0

abbrev bufTy : (tb : Table) → Fin (tcTables nBuf tb) → BufTy
  | .hbm, ⟨0, _⟩ => ⟨S8x8448x256, .f32⟩
  | .hbm, ⟨1, _⟩ => ⟨S8x8448x256, .f32⟩
  | .hbm, ⟨2, _⟩ => ⟨S8x8448x128, .f32⟩
  | .hbm, ⟨3, _⟩ => ⟨S8x8448x128, .f32⟩
  | .hbm, ⟨4, _⟩ => ⟨S8448, .i32⟩
  | .hbm, ⟨5, _⟩ => ⟨S8x8448x8448, .f32⟩
  | .hbm, ⟨6, _⟩ => ⟨S_, .f32⟩
  | .hbm, ⟨7, _⟩ => ⟨S8x8448x8448, .f32⟩
  | .hbm, ⟨8, _⟩ => ⟨S8x8448x8448, .f32⟩
  | .hbm, ⟨9, _⟩ => ⟨S1x8448, .i32⟩
  | .hbm, ⟨10, _⟩ => ⟨S8448x1, .i32⟩
  | .hbm, ⟨11, _⟩ => ⟨S8448x8448, .i32⟩
  | .hbm, ⟨12, _⟩ => ⟨S8448x8448, .i32⟩
  | .hbm, ⟨13, _⟩ => ⟨S8448x8448, .i1⟩
  | .hbm, ⟨14, _⟩ => ⟨S_, .f32⟩
  | .hbm, ⟨15, _⟩ => ⟨S_, .f32⟩
  | .hbm, ⟨16, _⟩ => ⟨S8x8448x8448, .i1⟩
  | .hbm, ⟨17, _⟩ => ⟨S8x8448x8448, .f32⟩
  | .hbm, ⟨18, _⟩ => ⟨S8x8448x8448, .f32⟩
  | .hbm, ⟨19, _⟩ => ⟨S_, .f32⟩
  | .hbm, ⟨20, _⟩ => ⟨S8x8448x8448, .f32⟩
  | .hbm, ⟨21, _⟩ => ⟨S_, .f32⟩
  | .hbm, ⟨22, _⟩ => ⟨S8x8448, .f32⟩
  | .hbm, ⟨23, _⟩ => ⟨S8x8448x1, .f32⟩
  | .hbm, ⟨24, _⟩ => ⟨S8x8448x8448, .f32⟩
  | .hbm, ⟨25, _⟩ => ⟨S8x8448x8448, .i1⟩
  | .hbm, ⟨26, _⟩ => ⟨S8x8448x8448, .f32⟩
  | .hbm, ⟨27, _⟩ => ⟨S_, .f32⟩
  | .hbm, ⟨28, _⟩ => ⟨S8x8448, .f32⟩
  | .hbm, ⟨29, _⟩ => ⟨S_, .f32⟩
  | .hbm, ⟨30, _⟩ => ⟨S8x8448, .f32⟩
  | .hbm, ⟨31, _⟩ => ⟨S8x8448, .f32⟩
  | .hbm, ⟨32, _⟩ => ⟨S_, .f32⟩
  | .hbm, ⟨33, _⟩ => ⟨S8x8448, .f32⟩
  | .hbm, ⟨34, _⟩ => ⟨S8x8448, .i1⟩
  | .hbm, ⟨35, _⟩ => ⟨S_, .f32⟩
  | .hbm, ⟨36, _⟩ => ⟨S8x8448, .f32⟩
  | .hbm, ⟨37, _⟩ => ⟨S8x8448, .i1⟩
  | .hbm, ⟨38, _⟩ => ⟨S_, .f32⟩
  | .hbm, ⟨39, _⟩ => ⟨S8x8448, .f32⟩
  | .hbm, ⟨40, _⟩ => ⟨S_, .f32⟩
  | .hbm, ⟨41, _⟩ => ⟨S8x8448, .f32⟩
  | .hbm, ⟨42, _⟩ => ⟨S_, .f32⟩
  | .hbm, ⟨43, _⟩ => ⟨S8x8448, .f32⟩
  | .hbm, ⟨44, _⟩ => ⟨S8x8448, .f32⟩
  | .hbm, ⟨45, _⟩ => ⟨S8x8448, .f32⟩
  | .hbm, ⟨46, _⟩ => ⟨S8x8448x1, .f32⟩
  | .hbm, ⟨47, _⟩ => ⟨S8x8448x8448, .f32⟩
  | .hbm, ⟨48, _⟩ => ⟨S8x8448x8448, .f32⟩
  | .hbm, ⟨49, _⟩ => ⟨S8x8448x8448, .f32⟩
  | .hbm, ⟨50, _⟩ => ⟨S_, .f32⟩
  | .hbm, ⟨51, _⟩ => ⟨S8x8448, .f32⟩
  | .hbm, ⟨52, _⟩ => ⟨S8x8448x1, .f32⟩
  | .hbm, ⟨53, _⟩ => ⟨S8x8448x8448, .f32⟩
  | .hbm, ⟨54, _⟩ => ⟨S8x8448x8448, .f32⟩
  | .hbm, ⟨55, _⟩ => ⟨S8x8448x1, .f32⟩
  | .hbm, ⟨56, _⟩ => ⟨S_, .f32⟩
  | .hbm, ⟨57, _⟩ => ⟨S8x8448x1, .f32⟩
  | .hbm, ⟨58, _⟩ => ⟨S8x8448x1, .f32⟩
  | .hbm, ⟨59, _⟩ => ⟨S8x8448x128, .f32⟩
  | .hbm, ⟨60, _⟩ => ⟨S8x128x8448, .f32⟩
  | .hbm, ⟨61, _⟩ => ⟨S8x8448x128, .f32⟩
  | .hbm, ⟨62, _⟩ => ⟨S8x8448x8448, .f32⟩
  | .hbm, ⟨63, _⟩ => ⟨S8x8448x8448, .f32⟩
  | .hbm, ⟨64, _⟩ => ⟨S8x8448x8448, .f32⟩
  | .hbm, ⟨65, _⟩ => ⟨S8x8448x8448, .f32⟩
  | .hbm, ⟨66, _⟩ => ⟨S_, .f32⟩
  | .hbm, ⟨67, _⟩ => ⟨S8x8448, .f32⟩
  | .hbm, ⟨68, _⟩ => ⟨S8x8448x1, .f32⟩
  | .hbm, ⟨69, _⟩ => ⟨S8x8448x1, .f32⟩
  | .hbm, ⟨70, _⟩ => ⟨S8x8448x8448, .f32⟩
  | .hbm, ⟨71, _⟩ => ⟨S8x8448x8448, .f32⟩
  | .hbm, ⟨72, _⟩ => ⟨S_, .f32⟩
  | .hbm, ⟨73, _⟩ => ⟨S8x8448, .f32⟩
  | .hbm, ⟨74, _⟩ => ⟨S8x8448x8448, .f32⟩
  | .hbm, ⟨75, _⟩ => ⟨S8x8448x8448, .f32⟩
  | .hbm, ⟨76, _⟩ => ⟨S8x8448x8448, .f32⟩
  | .hbm, ⟨77, _⟩ => ⟨S_, .f32⟩
  | .hbm, ⟨78, _⟩ => ⟨S8x8448x8448, .f32⟩
  | .hbm, ⟨79, _⟩ => ⟨S8x8448x8448, .f32⟩
  | .hbm, ⟨80, _⟩ => ⟨S_, .f32⟩
  | .hbm, ⟨81, _⟩ => ⟨S8x8448x8448, .f32⟩
  | .hbm, ⟨82, _⟩ => ⟨S8x8448x8448, .f32⟩
  | .hbm, ⟨83, _⟩ => ⟨S8x8448x256, .f32⟩
  | .hbm, ⟨84, _⟩ => ⟨S8x8448x256, .f32⟩
  | _, _ => ⟨S8x8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Kernel2.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S1024x2816 : Shape := ⟨2, ![1024, 2816]⟩
abbrev S768x2816 : Shape := ⟨2, ![768, 2816]⟩
abbrev S512x2816 : Shape := ⟨2, ![512, 2816]⟩
abbrev S768x512 : Shape := ⟨2, ![768, 512]⟩

abbrev nBuf : Space → Nat
  | .hbm => 10
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S1024x5632, .bf16⟩
  | .hbm, ⟨4, _⟩ => ⟨S8448x5632, .bf16⟩
  | .hbm, ⟨5, _⟩ => ⟨S8448x2816, .bf16⟩
  | .hbm, ⟨6, _⟩ => ⟨S1024x2816, .bf16⟩
  | .hbm, ⟨7, _⟩ => ⟨S8448x2816, .bf16⟩
  | .hbm, ⟨8, _⟩ => ⟨S1024x2816, .bf16⟩
  | .hbm, ⟨9, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S512x2816, .bf16⟩
  | .local _ .vmem, ⟨3, _⟩ => ⟨S512x2816, .bf16⟩
  | .local _ .vmem, ⟨4, _⟩ => ⟨S768x2816, .bf16⟩
  | .local _ .vmem, ⟨5, _⟩ => ⟨S768x2816, .bf16⟩
  | .local _ .vmem, ⟨6, _⟩ => ⟨S512x2816, .bf16⟩
  | .local _ .vmem, ⟨7, _⟩ => ⟨S512x2816, .bf16⟩
  | .local _ .vmem, ⟨8, _⟩ => ⟨S768x512, .f32⟩
  | .local _ .vmem, ⟨9, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S8448x1024 : Shape := ⟨2, ![8448, 1024]⟩
abbrev S1024x2816 : Shape := ⟨2, ![1024, 2816]⟩
abbrev S8448x2816 : Shape := ⟨2, ![8448, 2816]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S8448x2816, .f32⟩
  | .hbm, ⟨3, _⟩ => ⟨S8448x1024, .bf16⟩
  | .hbm, ⟨4, _⟩ => ⟨S8448x2816, .bf16⟩
  | .hbm, ⟨5, _⟩ => ⟨S1024x2816, .f32⟩
  | .local _ .vmem, ⟨0, _⟩ => ⟨S768x1024, .bf16⟩
  | .local _ .vmem, ⟨1, _⟩ => ⟨S768x1024, .bf16⟩
  | .local _ .vmem, ⟨2, _⟩ => ⟨S768x1408, .bf16⟩
  | .local _ .vmem, ⟨3, _⟩ => ⟨S768x1408, .bf16⟩
  | .local _ .vmem, ⟨4, _⟩ => ⟨S1024x1408, .f32⟩
  | .local _ .vmem, ⟨5, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S1024x2816 : Shape := ⟨2, ![1024, 2816]⟩
abbrev S8448x2816 : Shape := ⟨2, ![8448, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S8448x2816, .f32⟩
  | .hbm, ⟨3, _⟩ => ⟨S8448x2816, .f32⟩
  | .hbm, ⟨4, _⟩ => ⟨S2816x1024, .f32⟩
  | .hbm, ⟨5, _⟩ => ⟨S1024x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8448x2816 : Shape := ⟨2, ![8448, 2816]⟩
abbrev S2816x1024 : Shape := ⟨2, ![2816, 1024]⟩
abbrev S8448x1024 : Shape := ⟨2, ![8448, 1024]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .bf16⟩
  | .hbm, ⟨4, _⟩ => ⟨S2816x1024, .bf16⟩
  | .hbm, ⟨5, _⟩ => ⟨S8448x2816, .f32⟩
  | .local _ .vmem, ⟨0, _⟩ => ⟨S768x1024, .bf16⟩
  | .local _ .vmem, ⟨1, _⟩ => ⟨S768x1024, .bf16⟩
  | .local _ .vmem, ⟨2, _⟩ => ⟨S1408x1024, .bf16⟩
  | .local _ .vmem, ⟨3, _⟩ => ⟨S1408x1024, .bf16⟩
  | .local _ .vmem, ⟨4, _⟩ => ⟨S768x1408, .f32⟩
  | .local _ .vmem, ⟨5, _⟩ => ⟨S768x1408, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x2816, .bf16⟩
  | .hbm, ⟨4, _⟩ => ⟨S8448x1024, .bf16⟩
  | .hbm, ⟨5, _⟩ => ⟨S2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8448x1024 : Shape := ⟨2, ![8448, 1024]⟩
abbrev S1024x1024 : Shape := ⟨2, ![1024, 1024]⟩
abbrev S768x1024 : Shape := ⟨2, ![768, 1024]⟩
abbrev S512x1024 : Shape := ⟨2, ![512, 1024]⟩
abbrev S768x512 : Shape := ⟨2, ![768, 512]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .bf16⟩
  | .hbm, ⟨4, _⟩ => ⟨S1024x1024, .bf16⟩
  | .hbm, ⟨5, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S512x1024, .bf16⟩
  | .local _ .vmem, ⟨4, _⟩ => ⟨S768x512, .f32⟩
  | .local _ .vmem, ⟨5, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .bf16⟩
  | .hbm, ⟨4, _⟩ => ⟨S8448x1024, .bf16⟩
  | .hbm, ⟨5, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x1024, .bf16⟩
  | .hbm, ⟨3, _⟩ => ⟨S1024x5632, .bf16⟩
  | .hbm, ⟨4, _⟩ => ⟨S8448x5632, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S2816x512 : Shape := ⟨2, ![2816, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x2816, .bf16⟩
  | .hbm, ⟨3, _⟩ => ⟨S2816x1024, .bf16⟩
  | .hbm, ⟨4, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x512, .bf16⟩
  | .local _ .vmem, ⟨3, _⟩ => ⟨S2816x512, .bf16⟩
  | .local _ .vmem, ⟨4, _⟩ => ⟨S768x512, .f32⟩
  | .local _ .vmem, ⟨5, _⟩ => ⟨S768x512, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8448x1024 : Shape := ⟨2, ![8448, 1024]⟩
abbrev S2048x1024 : Shape := ⟨2, ![2048, 1024]⟩
abbrev S1024x1024 : Shape := ⟨2, ![1024, 1024]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 9
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2048x1024, .f32⟩
  | .hbm, ⟨3, _⟩ => ⟨S2048x1024, .bf16⟩
  | .hbm, ⟨4, _⟩ => ⟨S8448x1024, .bf16⟩
  | .hbm, ⟨5, _⟩ => ⟨S1024x1024, .bf16⟩
  | .hbm, ⟨6, _⟩ => ⟨S8448x1024, .bf16⟩
  | .hbm, ⟨7, _⟩ => ⟨S1024x1024, .bf16⟩
  | .hbm, ⟨8, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x1024, .bf16⟩
  | .local _ .vmem, ⟨5, _⟩ => ⟨S768x1024, .bf16⟩
  | .local _ .vmem, ⟨6, _⟩ => ⟨S1024x512, .bf16⟩
  | .local _ .vmem, ⟨7, _⟩ => ⟨S1024x512, .bf16⟩
  | .local _ .vmem, ⟨8, _⟩ => ⟨S768x512, .f32⟩
  | .local _ .vmem, ⟨9, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8448x1024 : Shape := ⟨2, ![8448, 1024]⟩
abbrev S2048x1024 : Shape := ⟨2, ![2048, 1024]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2048x1024, .f32⟩
  | .hbm, ⟨3, _⟩ => ⟨S8448x2048, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8x8448x256 : Shape := ⟨3, ![8, 8448, 256]⟩
abbrev S8x8448x128 : Shape := ⟨3, ![8, 8448, 128]⟩
abbrev S_ : Shape := ⟨0, ![]⟩
abbrev S8448x1024 : Shape := ⟨2, ![8448, 1024]⟩
abbrev S8x11x1x768 : Shape := ⟨4, ![8, 11, 1, 768]⟩
abbrev S1x768x256 : Shape := ⟨3, ![1, 768, 256]⟩
abbrev S1x8448x256 : Shape := ⟨3, ![1, 8448, 256]⟩
abbrev S1x8448x128 : Shape := ⟨3, ![1, 8448, 128]⟩
abbrev S768x128 : Shape := ⟨2, ![768, 128]⟩
abbrev S1x1x1x768 : Shape := ⟨4, ![1, 1, 1, 768]⟩
abbrev S768x768 : Shape := ⟨2, ![768, 768]⟩
abbrev S768x256 : Shape := ⟨2, ![768, 256]⟩
abbrev S768 : Shape := ⟨1, ![768]⟩
abbrev S768x1 : Shape := ⟨2, ![768, 1]⟩
abbrev S1x768x128 : Shape := ⟨3, ![1, 768, 128]⟩
abbrev S128x768 : Shape := ⟨2, ![128, 768]⟩
abbrev S1x768 : Shape := ⟨2, ![1, 768]⟩
abbrev S8x8448 : Shape := ⟨2, ![8, 8448]⟩

abbrev nBuf : Space → Nat
  | .hbm => 18
  | .vmem => 15
  | .smem => 0
  | _ => 0

abbrev bufTy : (tb : Table) → Fin (tcTables nBuf tb) → BufTy
  | .hbm, ⟨0, _⟩ => ⟨S8x8448x256, .f32⟩
  | .hbm, ⟨1, _⟩ => ⟨S8x8448x256, .f32⟩
  | .hbm, ⟨2, _⟩ => ⟨S8x8448x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x8448x256, .f32⟩
  | .hbm, ⟨7, _⟩ => ⟨S8x8448x256, .f32⟩
  | .hbm, ⟨8, _⟩ => ⟨S8x8448x256, .f32⟩
  | .hbm, ⟨9, _⟩ => ⟨S8x8448x256, .f32⟩
  | .hbm, ⟨10, _⟩ => ⟨S8x8448x256, .bf16⟩
  | .hbm, ⟨11, _⟩ => ⟨S8x8448x256, .bf16⟩
  | .hbm, ⟨12, _⟩ => ⟨S8x8448x128, .bf16⟩
  | .hbm, ⟨13, _⟩ => ⟨S8448x1024, .f32⟩
  | .hbm, ⟨14, _⟩ => ⟨S8x11x1x768, .f32⟩
  | .hbm, ⟨15, _⟩ => ⟨S8x8448, .f32⟩
  | .hbm, ⟨16, _⟩ => ⟨S8x8448, .f32⟩
  | .hbm, ⟨17, _⟩ => ⟨S8x8448, .f32⟩
  | .local _ .vmem, ⟨0, _⟩ => ⟨S1x768x256, .bf16⟩
  | .local _ .vmem, ⟨1, _⟩ => ⟨S1x768x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S768x128, .f32⟩
  | .local _ .vmem, ⟨7, _⟩ => ⟨S768x128, .f32⟩
  | .local _ .vmem, ⟨8, _⟩ => ⟨S1x1x1x768, .f32⟩
  | .local _ .vmem, ⟨9, _⟩ => ⟨S1x1x1x768, .f32⟩
  | .local _ .vmem, ⟨10, _⟩ => ⟨S768x768, .f32⟩
  | .local _ .vmem, ⟨11, _⟩ => ⟨S768x768, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | _, _ => ⟨S8x8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_mult1 : BitVec 32 :=
  let c0_i32 : BitVec 32 := 0#32
  c0_i32
@[reducible] def k0_t1_loop (i : grid0.Coords) : Scf.Loop 32 :=
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_23 : BitVec 32 := 1#32
  ⟨c0_i32_21, v43, c1_i32_23⟩
def k0_mult2 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c1_i32_55 : BitVec 32 := 1#32
  let v85 : BitVec 32 := Scalar.addi v84 c1_i32_55
  let c768_i32 : BitVec 32 := 768#32
  let v86 : BitVec 32 := Scalar.muli v85 c768_i32
  v86
def k0_off1 (i : grid0.Coords) (k0_t1 : Fin (k0_t1_loop i).trips) (c1_i32_55 : BitVec 32) : Fin 3 → Nat :=
  let c0_56 : Index := 0#32
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let v85 : BitVec 32 := Scalar.addi v84 c1_i32_55
  let c768_i32 : BitVec 32 := 768#32
  let v86 : BitVec 32 := Scalar.muli v85 c768_i32
  let v87 : BitVec 32 := v86
  let v88 : Index := Scalar.indexCast v87
  let c0_57 : Index := 0#32
  ![0, v88.toNat, 0]
def k0_mult3 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c768_i32_61 : BitVec 32 := 768#32
  let v95 : BitVec 32 := Scalar.muli v84 c768_i32_61
  v95
def k0_off2 (i : grid0.Coords) (k0_t1 : Fin (k0_t1_loop i).trips) : Fin 3 → Nat :=
  let c0_74 : Index := 0#32
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c768_i32_61 : BitVec 32 := 768#32
  let v95 : BitVec 32 := Scalar.muli v84 c768_i32_61
  let v96 : BitVec 32 := v95
  let v121 : Index := Scalar.indexCast v96
  let c0_75 : Index := 0#32
  ![0, v121.toNat, 0]
def k0_mult4 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c2_i32_81 : BitVec 32 := 2#32
  let v132 : BitVec 32 := Scalar.addi v84 c2_i32_81
  let c768_i32_82 : BitVec 32 := 768#32
  let v133 : BitVec 32 := Scalar.muli v132 c768_i32_82
  v133
def k0_mult5 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  v143
def k0_off3 (i : grid0.Coords) (k0_t1 : Fin (k0_t1_loop i).trips) : Fin 3 → Nat :=
  let c0_102 : Index := 0#32
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  let v144 : BitVec 32 := v143
  let v169 : Index := Scalar.indexCast v144
  let c0_103 : Index := 0#32
  ![0, v169.toNat, 0]
@[reducible] def k0_t2_loop (i : grid0.Coords) : Scf.Loop 32 :=
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let v40 : BitVec 32 := Scalar.addi c0_i32_21 v39
  let c1_i32_24 : BitVec 32 := 1#32
  ⟨v43, v40, c1_i32_24⟩
def k0_mult6 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c1_i32_55 : BitVec 32 := 1#32
  let v85 : BitVec 32 := Scalar.addi v84 c1_i32_55
  let c768_i32 : BitVec 32 := 768#32
  let v86 : BitVec 32 := Scalar.muli v85 c768_i32
  v86
def k0_off4 (i : grid0.Coords) (k0_t2 : Fin (k0_t2_loop i).trips) (c1_i32_55 : BitVec 32) : Fin 3 → Nat :=
  let c0_56 : Index := 0#32
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let v85 : BitVec 32 := Scalar.addi v84 c1_i32_55
  let c768_i32 : BitVec 32 := 768#32
  let v86 : BitVec 32 := Scalar.muli v85 c768_i32
  let v87 : BitVec 32 := v86
  let v88 : Index := Scalar.indexCast v87
  let c0_57 : Index := 0#32
  ![0, v88.toNat, 0]
def k0_mult7 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c768_i32_61 : BitVec 32 := 768#32
  let v95 : BitVec 32 := Scalar.muli v84 c768_i32_61
  v95
def k0_off5 (i : grid0.Coords) (k0_t2 : Fin (k0_t2_loop i).trips) : Fin 3 → Nat :=
  let c0_74 : Index := 0#32
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c768_i32_61 : BitVec 32 := 768#32
  let v95 : BitVec 32 := Scalar.muli v84 c768_i32_61
  let v96 : BitVec 32 := v95
  let v121 : Index := Scalar.indexCast v96
  let c0_75 : Index := 0#32
  ![0, v121.toNat, 0]
def k0_mult8 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c2_i32_81 : BitVec 32 := 2#32
  let v132 : BitVec 32 := Scalar.addi v84 c2_i32_81
  let c768_i32_82 : BitVec 32 := 768#32
  let v133 : BitVec 32 := Scalar.muli v132 c768_i32_82
  v133
def k0_mult9 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  v143
def k0_off6 (i : grid0.Coords) (k0_t2 : Fin (k0_t2_loop i).trips) : Fin 3 → Nat :=
  let c0_102 : Index := 0#32
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  let v144 : BitVec 32 := v143
  let v169 : Index := Scalar.indexCast v144
  let c0_103 : Index := 0#32
  ![0, v169.toNat, 0]
def k0_cond1 (i : grid0.Coords) : BitVec 1 :=
  let arg1 : BitVec 32 := BitVec.ofNat 32 (i 1).val
  let c2_i32_25 : BitVec 32 := 2#32
  let c0_i32_26 : BitVec 32 := 0#32
  let v44 : BitVec 1 := Scalar.cmpi .eq c2_i32_25 c0_i32_26
  let c1_i32_27 : BitVec 32 := 1#32
  let v45 : BitVec 32 := Scalar.select v44 c1_i32_27 c2_i32_25
  let v46 : BitVec 32 := Scalar.remsi arg1 v45
  let c0_i32_29 : BitVec 32 := 0#32
  let v48 : BitVec 1 := Scalar.cmpi .slt v46 c0_i32_29
  let c0_i32_30 : BitVec 32 := 0#32
  let v49 : BitVec 1 := Scalar.cmpi .slt v45 c0_i32_30
  let v50 : BitVec 1 := Scalar.xori v48 v49
  let c0_i32_28 : BitVec 32 := 0#32
  let v47 : BitVec 1 := Scalar.cmpi .ne v46 c0_i32_28
  let v51 : BitVec 1 := Scalar.andi v50 v47
  let v52 : BitVec 32 := Scalar.addi v46 v45
  let v53 : BitVec 32 := Scalar.select v51 v52 v46
  let c0_i32_31 : BitVec 32 := 0#32
  let v54 : BitVec 1 := Scalar.cmpi .eq v53 c0_i32_31
  let v55 : BitVec 32 := Scalar.extui v54
  let c0_i32_32 : BitVec 32 := 0#32
  let v56 : BitVec 1 := Scalar.cmpi .ne v55 c0_i32_32
  v56

def k0_mult10 (i : grid0.Coords) : BitVec 32 :=
  let arg1 : BitVec 32 := BitVec.ofNat 32 (i 1).val
  let c768_i32 : BitVec 32 := 768#32
  let v84 : BitVec 32 := Scalar.muli arg1 c768_i32
  v84
def k0_off7 (i : grid0.Coords) : Fin 3 → Nat :=
  let c0_67 : Index := 0#32
  let arg1 : BitVec 32 := BitVec.ofNat 32 (i 1).val
  let c768_i32 : BitVec 32 := 768#32
  let v84 : BitVec 32 := Scalar.muli arg1 c768_i32
  let v85 : BitVec 32 := v84
  let v115 : Index := Scalar.indexCast v85
  let c0_68 : Index := 0#32
  ![0, v115.toNat, 0]
def k0_cond2 (i : grid0.Coords) : BitVec 1 :=
  let arg1 : BitVec 32 := BitVec.ofNat 32 (i 1).val
  let c2_i32_33 : BitVec 32 := 2#32
  let c0_i32_34 : BitVec 32 := 0#32
  let v57 : BitVec 1 := Scalar.cmpi .eq c2_i32_33 c0_i32_34
  let c1_i32_35 : BitVec 32 := 1#32
  let v58 : BitVec 32 := Scalar.select v57 c1_i32_35 c2_i32_33
  let v59 : BitVec 32 := Scalar.remsi arg1 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1_i32_39 : BitVec 32 := 1#32
  let v67 : BitVec 1 := Scalar.cmpi .eq v66 c1_i32_39
  let v68 : BitVec 32 := Scalar.extui v67
  let c0_i32_40 : BitVec 32 := 0#32
  let v69 : BitVec 1 := Scalar.cmpi .ne v68 c0_i32_40
  v69

def k0_mult11 (i : grid0.Coords) : BitVec 32 :=
  let arg1 : BitVec 32 := BitVec.ofNat 32 (i 1).val
  let c768_i32 : BitVec 32 := 768#32
  let v84 : BitVec 32 := Scalar.muli arg1 c768_i32
  v84
def k0_off8 (i : grid0.Coords) : Fin 3 → Nat :=
  let c0_54 : Index := 0#32
  let arg1 : BitVec 32 := BitVec.ofNat 32 (i 1).val
  let c768_i32 : BitVec 32 := 768#32
  let v84 : BitVec 32 := Scalar.muli arg1 c768_i32
  let v85 : BitVec 32 := v84
  let v86 : Index := Scalar.indexCast v85
  let c0_55 : Index := 0#32
  ![0, v86.toNat, 0]
def k0_mult12 (i : grid0.Coords) : BitVec 32 :=
  let arg1 : BitVec 32 := BitVec.ofNat 32 (i 1).val
  let c1_i32_59 : BitVec 32 := 1#32
  let v93 : BitVec 32 := Scalar.subi arg1 c1_i32_59
  let c768_i32_60 : BitVec 32 := 768#32
  let v94 : BitVec 32 := Scalar.muli v93 c768_i32_60
  v94
def k0_off9 (i : grid0.Coords) : Fin 3 → Nat :=
  let c0_73 : Index := 0#32
  let arg1 : BitVec 32 := BitVec.ofNat 32 (i 1).val
  let c1_i32_59 : BitVec 32 := 1#32
  let v93 : BitVec 32 := Scalar.subi arg1 c1_i32_59
  let c768_i32_60 : BitVec 32 := 768#32
  let v94 : BitVec 32 := Scalar.muli v93 c768_i32_60
  let v95 : BitVec 32 := v94
  let v120 : Index := Scalar.indexCast v95
  let c0_74 : Index := 0#32
  ![0, v120.toNat, 0]
def k0_mult13 (i : grid0.Coords) : BitVec 32 :=
  let arg1 : BitVec 32 := BitVec.ofNat 32 (i 1).val
  let c768_i32_80 : BitVec 32 := 768#32
  let v131 : BitVec 32 := Scalar.muli arg1 c768_i32_80
  v131
def k0_off10 (i : grid0.Coords) : Fin 3 → Nat :=
  let c0_94 : Index := 0#32
  let arg1 : BitVec 32 := BitVec.ofNat 32 (i 1).val
  let c768_i32_80 : BitVec 32 := 768#32
  let v131 : BitVec 32 := Scalar.muli arg1 c768_i32_80
  let v132 : BitVec 32 := v131
  let v162 : Index := Scalar.indexCast v132
  let c0_95 : Index := 0#32
  ![0, v162.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel11Ideal.lean ====
variable {F : FTy → Type} [FloatOps F] [Named F]
def κ : String → Option EReal := fun
  | "log2e" => some (((Real.log 2)⁻¹ : ℝ) : EReal)
  | "mask" => some ⊥
  | _ => none
-- ==== Reference11Ideal.lean ====
abbrev S8x8448x256 : Shape := ⟨3, ![8, 8448, 256]⟩
abbrev S8x8448x128 : Shape := ⟨3, ![8, 8448, 128]⟩
abbrev S8448 : Shape := ⟨1, ![8448]⟩
abbrev S8x8448x8448 : Shape := ⟨3, ![8, 8448, 8448]⟩
abbrev S_ : Shape := ⟨0, ![]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8448x8x128 : Shape := ⟨3, ![8448, 8, 128]⟩
abbrev S8448x1024 : Shape := ⟨2, ![8448, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x8448x256, .f32⟩
  | .hbm, ⟨1, _⟩ => ⟨S8x8448x256, .f32⟩
  | .hbm, ⟨2, _⟩ => ⟨S8x8448x128, .f32⟩
  | .hbm, ⟨3, _⟩ => ⟨S8448, .i32⟩
  | .hbm, ⟨4, _⟩ => ⟨S8x8448x8448, .f32⟩
  | .hbm, ⟨5, _⟩ => ⟨S_, .f32⟩
  | .hbm, ⟨6, _⟩ => ⟨S8x8448x8448, .f32⟩
  | .hbm, ⟨7, _⟩ => ⟨S8x8448x8448, .f32⟩
  | .hbm, ⟨8, _⟩ => ⟨S1x8448, .i32⟩
  | .hbm, ⟨9, _⟩ => ⟨S8448x1, .i32⟩
  | .hbm, ⟨10, _⟩ => ⟨S8448x8448, .i32⟩
  | .hbm, ⟨11, _⟩ => ⟨S8448x8448, .i32⟩
  | .hbm, ⟨12, _⟩ => ⟨S8448x8448, .i1⟩
  | .hbm, ⟨13, _⟩ => ⟨S_, .f32⟩
  | .hbm, ⟨14, _⟩ => ⟨S_, .f32⟩
  | .hbm, ⟨15, _⟩ => ⟨S8x8448x8448, .i1⟩
  | .hbm, ⟨16, _⟩ => ⟨S8x8448x8448, .f32⟩
  | .hbm, ⟨17, _⟩ => ⟨S8x8448x8448, .f32⟩
  | .hbm, ⟨18, _⟩ => ⟨S_, .f32⟩
  | .hbm, ⟨19, _⟩ => ⟨S8x8448, .f32⟩
  | .hbm, ⟨20, _⟩ => ⟨S8x8448x1, .f32⟩
  | .hbm, ⟨21, _⟩ => ⟨S8x8448x8448, .f32⟩
  | .hbm, ⟨22, _⟩ => ⟨S8x8448x8448, .f32⟩
  | .hbm, ⟨23, _⟩ => ⟨S8x8448x8448, .f32⟩
  | .hbm, ⟨24, _⟩ => ⟨S_, .f32⟩
  | .hbm, ⟨25, _⟩ => ⟨S8x8448, .f32⟩
  | .hbm, ⟨26, _⟩ => ⟨S8x8448, .f32⟩
  | .hbm, ⟨27, _⟩ => ⟨S8x8448, .f32⟩
  | .hbm, ⟨28, _⟩ => ⟨S8448, .i32⟩
  | .hbm, ⟨29, _⟩ => ⟨S8x8448x8448, .f32⟩
  | .hbm, ⟨30, _⟩ => ⟨S_, .f32⟩
  | .hbm, ⟨31, _⟩ => ⟨S8x8448x8448, .f32⟩
  | .hbm, ⟨32, _⟩ => ⟨S8x8448x8448, .f32⟩
  | .hbm, ⟨33, _⟩ => ⟨S1x8448, .i32⟩
  | .hbm, ⟨34, _⟩ => ⟨S8448x1, .i32⟩
  | .hbm, ⟨35, _⟩ => ⟨S8448x8448, .i32⟩
  | .hbm, ⟨36, _⟩ => ⟨S8448x8448, .i32⟩
  | .hbm, ⟨37, _⟩ => ⟨S8448x8448, .i1⟩
  | .hbm, ⟨38, _⟩ => ⟨S_, .f32⟩
  | .hbm, ⟨39, _⟩ => ⟨S_, .f32⟩
  | .hbm, ⟨40, _⟩ => ⟨S8x8448x8448, .i1⟩
  | .hbm, ⟨41, _⟩ => ⟨S8x8448x8448, .f32⟩
  | .hbm, ⟨42, _⟩ => ⟨S8x8448x8448, .f32⟩
  | .hbm, ⟨43, _⟩ => ⟨S_, .f32⟩
  | .hbm, ⟨44, _⟩ => ⟨S8x8448, .f32⟩
  | .hbm, ⟨45, _⟩ => ⟨S_, .f32⟩
  | .hbm, ⟨46, _⟩ => ⟨S8x8448, .f32⟩
  | .hbm, ⟨47, _⟩ => ⟨S8x8448, .f32⟩
  | .hbm, ⟨48, _⟩ => ⟨S8x8448x1, .f32⟩
  | .hbm, ⟨49, _⟩ => ⟨S8x8448x8448, .f32⟩
  | .hbm, ⟨50, _⟩ => ⟨S8x8448x8448, .f32⟩
  | .hbm, ⟨51, _⟩ => ⟨S8x8448x8448, .f32⟩
  | .hbm, ⟨52, _⟩ => ⟨S_, .f32⟩
  | .hbm, ⟨53, _⟩ => ⟨S8x8448, .f32⟩
  | .hbm, ⟨54, _⟩ => ⟨S8x8448x1, .f32⟩
  | .hbm, ⟨55, _⟩ => ⟨S8x8448x8448, .f32⟩
  | .hbm, ⟨56, _⟩ => ⟨S8x8448x8448, .f32⟩
  | .hbm, ⟨57, _⟩ => ⟨S8x8448x128, .f32⟩
  | .hbm, ⟨58, _⟩ => ⟨S8448x8x128, .f32⟩
  | .hbm, ⟨59, _⟩ => ⟨S8448x1024, .f32⟩
  | _, _ => ⟨S8x8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel12.lean ====
abbrev S8448x1024 : Shape := ⟨2, ![8448, 1024]⟩
abbrev S1024x3280 : Shape := ⟨2, ![1024, 3280]⟩
abbrev S8448x3280 : Shape := ⟨2, ![8448, 3280]⟩
abbrev S1024x384 : Shape := ⟨2, ![1024, 384]⟩
abbrev S1024x256 : Shape := ⟨2, ![1024, 256]⟩
abbrev S1024x64 : Shape := ⟨2, ![1024, 64]⟩
abbrev S1024x1024 : Shape := ⟨2, ![1024, 1024]⟩
abbrev S1024x1536 : Shape := ⟨2, ![1024, 1536]⟩
abbrev S1024x16 : Shape := ⟨2, ![1024, 16]⟩
abbrev S8448x384 : Shape := ⟨2, ![8448, 384]⟩
abbrev S8448x256 : Shape := ⟨2, ![8448, 256]⟩
abbrev S8448x64 : Shape := ⟨2, ![8448, 64]⟩
abbrev S8448x1536 : Shape := ⟨2, ![8448, 1536]⟩
abbrev S8448x16 : Shape := ⟨2, ![8448, 16]⟩
abbrev S_ : Shape := ⟨0, ![]⟩
abbrev S8448x128 : Shape := ⟨2, ![8448, 128]⟩
abbrev S1024x128 : Shape := ⟨2, ![1024, 128]⟩
abbrev S768x384 : Shape := ⟨2, ![768, 384]⟩
abbrev S512x384 : Shape := ⟨2, ![512, 384]⟩
abbrev S768x256 : Shape := ⟨2, ![768, 256]⟩
abbrev S512x256 : Shape := ⟨2, ![512, 256]⟩
abbrev S768x128 : Shape := ⟨2, ![768, 128]⟩
abbrev S512x128 : Shape := ⟨2, ![512, 128]⟩
abbrev S768x1024 : Shape := ⟨2, ![768, 1024]⟩
abbrev S512x1024 : Shape := ⟨2, ![512, 1024]⟩
abbrev S768x1536 : Shape := ⟨2, ![768, 1536]⟩
abbrev S512x1536 : Shape := ⟨2, ![512, 1536]⟩
abbrev S768x512 : Shape := ⟨2, ![768, 512]⟩

abbrev nBuf : Space → Nat
  | .hbm => 29
  | .vmem => 26
  | .smem => 0
  | _ => 0

abbrev bufTy : (tb : Table) → Fin (tcTables nBuf tb) → BufTy
  | .hbm, ⟨0, _⟩ => ⟨S8448x1024, .f32⟩
  | .hbm, ⟨1, _⟩ => ⟨S1024x3280, .f32⟩
  | .hbm, ⟨2, _⟩ => ⟨S8448x3280, .f32⟩
  | .hbm, ⟨3, _⟩ => ⟨S1024x3280, .bf16⟩
  | .hbm, ⟨4, _⟩ => ⟨S1024x384, .bf16⟩
  | .hbm, ⟨5, _⟩ => ⟨S1024x256, .bf16⟩
  | .hbm, ⟨6, _⟩ => ⟨S1024x64, .bf16⟩
  | .hbm, ⟨7, _⟩ => ⟨S1024x1024, .bf16⟩
  | .hbm, ⟨8, _⟩ => ⟨S1024x1536, .bf16⟩
  | .hbm, ⟨9, _⟩ => ⟨S1024x16, .bf16⟩
  | .hbm, ⟨10, _⟩ => ⟨S8448x384, .f32⟩
  | .hbm, ⟨11, _⟩ => ⟨S8448x256, .f32⟩
  | .hbm, ⟨12, _⟩ => ⟨S8448x64, .f32⟩
  | .hbm, ⟨13, _⟩ => ⟨S8448x1024, .f32⟩
  | .hbm, ⟨14, _⟩ => ⟨S8448x1536, .f32⟩
  | .hbm, ⟨15, _⟩ => ⟨S8448x16, .f32⟩
  | .hbm, ⟨16, _⟩ => ⟨S8448x384, .bf16⟩
  | .hbm, ⟨17, _⟩ => ⟨S8448x256, .bf16⟩
  | .hbm, ⟨18, _⟩ => ⟨S_, .f32⟩
  | .hbm, ⟨19, _⟩ => ⟨S8448x128, .f32⟩
  | .hbm, ⟨20, _⟩ => ⟨S_, .bf16⟩
  | .hbm, ⟨21, _⟩ => ⟨S1024x128, .bf16⟩
  | .hbm, ⟨22, _⟩ => ⟨S8448x1024, .bf16⟩
  | .hbm, ⟨23, _⟩ => ⟨S8448x1536, .bf16⟩
  | .hbm, ⟨24, _⟩ => ⟨S_, .f32⟩
  | .hbm, ⟨25, _⟩ => ⟨S8448x128, .f32⟩
  | .hbm, ⟨26, _⟩ => ⟨S_, .bf16⟩
  | .hbm, ⟨27, _⟩ => ⟨S1024x128, .bf16⟩
  | .hbm, ⟨28, _⟩ => ⟨S8448x1024, .f32⟩
  | .local _ .vmem, ⟨0, _⟩ => ⟨S768x384, .bf16⟩
  | .local _ .vmem, ⟨1, _⟩ => ⟨S768x384, .bf16⟩
  | .local _ .vmem, ⟨2, _⟩ => ⟨S512x384, .bf16⟩
  | .local _ .vmem, ⟨3, _⟩ => ⟨S512x384, .bf16⟩
  | .local _ .vmem, ⟨4, _⟩ => ⟨S768x256, .bf16⟩
  | .local _ .vmem, ⟨5, _⟩ => ⟨S768x256, .bf16⟩
  | .local _ .vmem, ⟨6, _⟩ => ⟨S512x256, .bf16⟩
  | .local _ .vmem, ⟨7, _⟩ => ⟨S512x256, .bf16⟩
  | .local _ .vmem, ⟨8, _⟩ => ⟨S768x128, .f32⟩
  | .local _ .vmem, ⟨9, _⟩ => ⟨S768x128, .f32⟩
  | .local _ .vmem, ⟨10, _⟩ => ⟨S512x128, .bf16⟩
  | .local _ .vmem, ⟨11, _⟩ => ⟨S512x128, .bf16⟩
  | .local _ .vmem, ⟨12, _⟩ => ⟨S768x1024, .bf16⟩
  | .local _ .vmem, ⟨13, _⟩ => ⟨S768x1024, .bf16⟩
  | .local _ .vmem, ⟨14, _⟩ => ⟨S512x1024, .bf16⟩
  | .local _ .vmem, ⟨15, _⟩ => ⟨S512x1024, .bf16⟩
  | .local _ .vmem, ⟨16, _⟩ => ⟨S768x1536, .bf16⟩
  | .local _ .vmem, ⟨17, _⟩ => ⟨S768x1536, .bf16⟩
  | .local _ .vmem, ⟨18, _⟩ => ⟨S512x1536, .bf16⟩
  | .local _ .vmem, ⟨19, _⟩ => ⟨S512x1536, .bf16⟩
  | .local _ .vmem, ⟨20, _⟩ => ⟨S768x128, .f32⟩
  | .local _ .vmem, ⟨21, _⟩ => ⟨S768x128, .f32⟩
  | .local _ .vmem, ⟨22, _⟩ => ⟨S512x128, .bf16⟩
  | .local _ .vmem, ⟨23, _⟩ => ⟨S512x128, .bf16⟩
  | .local _ .vmem, ⟨24, _⟩ => ⟨S768x512, .f32⟩
  | .local _ .vmem, ⟨25, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S768x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference12Ideal.lean ====
abbrev S8448x1024 : Shape := ⟨2, ![8448, 1024]⟩
abbrev S1024x3280 : Shape := ⟨2, ![1024, 3280]⟩
abbrev S8448x3280 : Shape := ⟨2, ![8448, 3280]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3280, .f32⟩
  | .hbm, ⟨2, _⟩ => ⟨S8448x3280, .f32⟩
  | .hbm, ⟨3, _⟩ => ⟨S8448x3280, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8448x1024 : Shape := ⟨2, ![8448, 1024]⟩
abbrev S1024x1536 : Shape := ⟨2, ![1024, 1536]⟩
abbrev S8448x1536 : Shape := ⟨2, ![8448, 1536]⟩
abbrev S768x1024 : Shape := ⟨2, ![768, 1024]⟩
abbrev S768x512 : Shape := ⟨2, ![768, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1536, .f32⟩
  | .hbm, ⟨3, _⟩ => ⟨S8448x1024, .bf16⟩
  | .hbm, ⟨4, _⟩ => ⟨S8448x1536, .bf16⟩
  | .hbm, ⟨5, _⟩ => ⟨S1024x1536, .f32⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S1024x512, .f32⟩
  | .local _ .vmem, ⟨5, _⟩ => ⟨S1024x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x1024 : Shape := ⟨2, ![8448, 1024]⟩
abbrev S1024x1536 : Shape := ⟨2, ![1024, 1536]⟩
abbrev S8448x1536 : Shape := ⟨2, ![8448, 1536]⟩
abbrev S1536x1024 : Shape := ⟨2, ![1536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1536, .f32⟩
  | .hbm, ⟨3, _⟩ => ⟨S8448x1536, .f32⟩
  | .hbm, ⟨4, _⟩ => ⟨S1536x1024, .f32⟩
  | .hbm, ⟨5, _⟩ => ⟨S1024x1536, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8448x1024 : Shape := ⟨2, ![8448, 1024]⟩
abbrev S1024x1536 : Shape := ⟨2, ![1024, 1536]⟩
abbrev S8448x1536 : Shape := ⟨2, ![8448, 1536]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1024, .bf16⟩
  | .hbm, ⟨3, _⟩ => ⟨S1024x1536, .bf16⟩
  | .hbm, ⟨4, _⟩ => ⟨S8448x1536, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8448x1024 : Shape := ⟨2, ![8448, 1024]⟩
abbrev S1024x1536 : Shape := ⟨2, ![1024, 1536]⟩
abbrev S8448x1536 : Shape := ⟨2, ![8448, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1536, .f32⟩
  | .hbm, ⟨2, _⟩ => ⟨S8448x1536, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8448x1024 : Shape := ⟨2, ![8448, 1024]⟩
abbrev S1024x1024 : Shape := ⟨2, ![1024, 1024]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .bf16⟩
  | .hbm, ⟨3, _⟩ => ⟨S1024x1024, .bf16⟩
  | .hbm, ⟨4, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8448x1024 : Shape := ⟨2, ![8448, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8448x256 : Shape := ⟨2, ![8448, 256]⟩
abbrev S256x8x256 : Shape := ⟨3, ![256, 8, 256]⟩
abbrev S8448x8x256 : Shape := ⟨3, ![8448, 8, 256]⟩
abbrev S8448x2048 : Shape := ⟨2, ![8448, 2048]⟩
abbrev S256x2048 : Shape := ⟨2, ![256, 2048]⟩
abbrev S768x2048 : Shape := ⟨2, ![768, 2048]⟩
abbrev S768x256 : Shape := ⟨2, ![768, 256]⟩

abbrev nBuf : Space → Nat
  | .hbm => 8
  | .vmem => 5
  | .smem => 0
  | _ => 0

abbrev bufTy : (tb : Table) → Fin (tcTables nBuf tb) → BufTy
  | .hbm, ⟨0, _⟩ => ⟨S8448x256, .f32⟩
  | .hbm, ⟨1, _⟩ => ⟨S256x8x256, .f32⟩
  | .hbm, ⟨2, _⟩ => ⟨S8448x8x256, .f32⟩
  | .hbm, ⟨3, _⟩ => ⟨S8448x8x256, .bf16⟩
  | .hbm, ⟨4, _⟩ => ⟨S8448x2048, .bf16⟩
  | .hbm, ⟨5, _⟩ => ⟨S256x8x256, .bf16⟩
  | .hbm, ⟨6, _⟩ => ⟨S256x2048, .bf16⟩
  | .hbm, ⟨7, _⟩ => ⟨S8448x256, .f32⟩
  | .local _ .vmem, ⟨0, _⟩ => ⟨S768x2048, .bf16⟩
  | .local _ .vmem, ⟨1, _⟩ => ⟨S768x2048, .bf16⟩
  | .local _ .vmem, ⟨2, _⟩ => ⟨S256x2048, .bf16⟩
  | .local _ .vmem, ⟨3, _⟩ => ⟨S768x256, .f32⟩
  | .local _ .vmem, ⟨4, _⟩ => ⟨S768x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8448x256 : Shape := ⟨2, ![8448, 256]⟩
abbrev S256x8x256 : Shape := ⟨3, ![256, 8, 256]⟩
abbrev S8448x8x256 : Shape := ⟨3, ![8448, 8, 256]⟩

abbrev nBuf : Space → Nat
  | .hbm => 5
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x8x256, .f32⟩
  | .hbm, ⟨2, _⟩ => ⟨S8448x8x256, .f32⟩
  | .hbm, ⟨3, _⟩ => ⟨S8448x8x256, .f32⟩
  | .hbm, ⟨4, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel17.lean ====
abbrev S8448x256 : Shape := ⟨2, ![8448, 256]⟩
abbrev S256x2048 : Shape := ⟨2, ![256, 2048]⟩
abbrev S8448x2048 : Shape := ⟨2, ![8448, 2048]⟩
abbrev S768x256 : Shape := ⟨2, ![768, 256]⟩
abbrev S768x1024 : Shape := ⟨2, ![768, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .bf16⟩
  | .hbm, ⟨4, _⟩ => ⟨S8448x2048, .bf16⟩
  | .hbm, ⟨5, _⟩ => ⟨S256x2048, .f32⟩
  | .local _ .vmem, ⟨0, _⟩ => ⟨S768x256, .bf16⟩
  | .local _ .vmem, ⟨1, _⟩ => ⟨S768x256, .bf16⟩
  | .local _ .vmem, ⟨2, _⟩ => ⟨S768x1024, .bf16⟩
  | .local _ .vmem, ⟨3, _⟩ => ⟨S768x1024, .bf16⟩
  | .local _ .vmem, ⟨4, _⟩ => ⟨S256x1024, .f32⟩
  | .local _ .vmem, ⟨5, _⟩ => ⟨S256x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .f32⟩
  | .hbm, ⟨4, _⟩ => ⟨S2048x256, .f32⟩
  | .hbm, ⟨5, _⟩ => ⟨S256x2048, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8448x384 : Shape := ⟨2, ![8448, 384]⟩
abbrev S384x8x192 : Shape := ⟨3, ![384, 8, 192]⟩
abbrev S8448x8x192 : Shape := ⟨3, ![8448, 8, 192]⟩
abbrev S_ : Shape := ⟨0, ![]⟩
abbrev S8448x8x256 : Shape := ⟨3, ![8448, 8, 256]⟩
abbrev S8448x2048 : Shape := ⟨2, ![8448, 2048]⟩
abbrev S384x8x256 : Shape := ⟨3, ![384, 8, 256]⟩
abbrev S384x2048 : Shape := ⟨2, ![384, 2048]⟩
abbrev S768x2048 : Shape := ⟨2, ![768, 2048]⟩
abbrev S768x384 : Shape := ⟨2, ![768, 384]⟩

abbrev nBuf : Space → Nat
  | .hbm => 12
  | .vmem => 5
  | .smem => 0
  | _ => 0

abbrev bufTy : (tb : Table) → Fin (tcTables nBuf tb) → BufTy
  | .hbm, ⟨0, _⟩ => ⟨S8448x384, .f32⟩
  | .hbm, ⟨1, _⟩ => ⟨S384x8x192, .f32⟩
  | .hbm, ⟨2, _⟩ => ⟨S8448x8x192, .f32⟩
  | .hbm, ⟨3, _⟩ => ⟨S8448x8x192, .bf16⟩
  | .hbm, ⟨4, _⟩ => ⟨S_, .bf16⟩
  | .hbm, ⟨5, _⟩ => ⟨S8448x8x256, .bf16⟩
  | .hbm, ⟨6, _⟩ => ⟨S8448x2048, .bf16⟩
  | .hbm, ⟨7, _⟩ => ⟨S384x8x192, .bf16⟩
  | .hbm, ⟨8, _⟩ => ⟨S_, .bf16⟩
  | .hbm, ⟨9, _⟩ => ⟨S384x8x256, .bf16⟩
  | .hbm, ⟨10, _⟩ => ⟨S384x2048, .bf16⟩
  | .hbm, ⟨11, _⟩ => ⟨S8448x384, .f32⟩
  | .local _ .vmem, ⟨0, _⟩ => ⟨S768x2048, .bf16⟩
  | .local _ .vmem, ⟨1, _⟩ => ⟨S768x2048, .bf16⟩
  | .local _ .vmem, ⟨2, _⟩ => ⟨S384x2048, .bf16⟩
  | .local _ .vmem, ⟨3, _⟩ => ⟨S768x384, .f32⟩
  | .local _ .vmem, ⟨4, _⟩ => ⟨S768x384, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8448x384 : Shape := ⟨2, ![8448, 384]⟩
abbrev S384x8x192 : Shape := ⟨3, ![384, 8, 192]⟩
abbrev S8448x8x192 : Shape := ⟨3, ![8448, 8, 192]⟩

abbrev nBuf : Space → Nat
  | .hbm => 5
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x8x192, .f32⟩
  | .hbm, ⟨2, _⟩ => ⟨S8448x8x192, .f32⟩
  | .hbm, ⟨3, _⟩ => ⟨S8448x8x192, .f32⟩
  | .hbm, ⟨4, _⟩ => ⟨S8448x384, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel19.lean ====
abbrev S8448x384 : Shape := ⟨2, ![8448, 384]⟩
abbrev S384x2048 : Shape := ⟨2, ![384, 2048]⟩
abbrev S8448x2048 : Shape := ⟨2, ![8448, 2048]⟩
abbrev S768x384 : Shape := ⟨2, ![768, 384]⟩
abbrev S768x1024 : Shape := ⟨2, ![768, 1024]⟩
abbrev S384x1024 : Shape := ⟨2, ![384, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | .hbm, ⟨3, _⟩ => ⟨S8448x384, .bf16⟩
  | .hbm, ⟨4, _⟩ => ⟨S8448x2048, .bf16⟩
  | .hbm, ⟨5, _⟩ => ⟨S384x2048, .f32⟩
  | .local _ .vmem, ⟨0, _⟩ => ⟨S768x384, .bf16⟩
  | .local _ .vmem, ⟨1, _⟩ => ⟨S768x384, .bf16⟩
  | .local _ .vmem, ⟨2, _⟩ => ⟨S768x1024, .bf16⟩
  | .local _ .vmem, ⟨3, _⟩ => ⟨S768x1024, .bf16⟩
  | .local _ .vmem, ⟨4, _⟩ => ⟨S384x1024, .f32⟩
  | .local _ .vmem, ⟨5, _⟩ => ⟨S384x1024, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8448x384 : Shape := ⟨2, ![8448, 384]⟩
abbrev S384x2048 : Shape := ⟨2, ![384, 2048]⟩
abbrev S8448x2048 : Shape := ⟨2, ![8448, 2048]⟩
abbrev S2048x384 : Shape := ⟨2, ![2048, 384]⟩

abbrev nBuf : Space → Nat
  | .hbm => 6
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | .hbm, ⟨3, _⟩ => ⟨S8448x2048, .f32⟩
  | .hbm, ⟨4, _⟩ => ⟨S2048x384, .f32⟩
  | .hbm, ⟨5, _⟩ => ⟨S384x2048, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8448x1024 : Shape := ⟨2, ![8448, 1024]⟩
abbrev S1024x384 : Shape := ⟨2, ![1024, 384]⟩
abbrev S8448x384 : Shape := ⟨2, ![8448, 384]⟩
abbrev S768x1024 : Shape := ⟨2, ![768, 1024]⟩
abbrev S768x384 : Shape := ⟨2, ![768, 384]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x384, .f32⟩
  | .hbm, ⟨2, _⟩ => ⟨S8448x1024, .bf16⟩
  | .hbm, ⟨3, _⟩ => ⟨S1024x384, .bf16⟩
  | .hbm, ⟨4, _⟩ => ⟨S8448x384, .f32⟩
  | .local _ .vmem, ⟨0, _⟩ => ⟨S768x1024, .bf16⟩
  | .local _ .vmem, ⟨1, _⟩ => ⟨S768x1024, .bf16⟩
  | .local _ .vmem, ⟨2, _⟩ => ⟨S1024x384, .bf16⟩
  | .local _ .vmem, ⟨3, _⟩ => ⟨S768x384, .f32⟩
  | .local _ .vmem, ⟨4, _⟩ => ⟨S768x384, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8448x1024 : Shape := ⟨2, ![8448, 1024]⟩
abbrev S1024x384 : Shape := ⟨2, ![1024, 384]⟩
abbrev S8448x384 : Shape := ⟨2, ![8448, 384]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x384, .f32⟩
  | .hbm, ⟨2, _⟩ => ⟨S8448x384, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S8448x1024 : Shape := ⟨2, ![8448, 1024]⟩
abbrev S1024x384 : Shape := ⟨2, ![1024, 384]⟩
abbrev S8448x384 : Shape := ⟨2, ![8448, 384]⟩
abbrev S768x1024 : Shape := ⟨2, ![768, 1024]⟩
abbrev S768x384 : Shape := ⟨2, ![768, 384]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x384, .f32⟩
  | .hbm, ⟨2, _⟩ => ⟨S8448x384, .f32⟩
  | .hbm, ⟨3, _⟩ => ⟨S8448x1024, .bf16⟩
  | .hbm, ⟨4, _⟩ => ⟨S8448x384, .bf16⟩
  | .hbm, ⟨5, _⟩ => ⟨S1024x384, .f32⟩
  | .local _ .vmem, ⟨0, _⟩ => ⟨S768x1024, .bf16⟩
  | .local _ .vmem, ⟨1, _⟩ => ⟨S768x1024, .bf16⟩
  | .local _ .vmem, ⟨2, _⟩ => ⟨S768x384, .bf16⟩
  | .local _ .vmem, ⟨3, _⟩ => ⟨S768x384, .bf16⟩
  | .local _ .vmem, ⟨4, _⟩ => ⟨S1024x384, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8448x1024 : Shape := ⟨2, ![8448, 1024]⟩
abbrev S1024x384 : Shape := ⟨2, ![1024, 384]⟩
abbrev S8448x384 : Shape := ⟨2, ![8448, 384]⟩
abbrev S384x1024 : Shape := ⟨2, ![384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x384, .f32⟩
  | .hbm, ⟨2, _⟩ => ⟨S8448x384, .f32⟩
  | .hbm, ⟨3, _⟩ => ⟨S8448x384, .f32⟩
  | .hbm, ⟨4, _⟩ => ⟨S384x1024, .f32⟩
  | .hbm, ⟨5, _⟩ => ⟨S1024x384, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S8448x1024 : Shape := ⟨2, ![8448, 1024]⟩
abbrev S1024x256 : Shape := ⟨2, ![1024, 256]⟩
abbrev S8448x256 : Shape := ⟨2, ![8448, 256]⟩
abbrev S768x1024 : Shape := ⟨2, ![768, 1024]⟩
abbrev S768x256 : Shape := ⟨2, ![768, 256]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x256, .f32⟩
  | .hbm, ⟨2, _⟩ => ⟨S8448x1024, .bf16⟩
  | .hbm, ⟨3, _⟩ => ⟨S1024x256, .bf16⟩
  | .hbm, ⟨4, _⟩ => ⟨S8448x256, .f32⟩
  | .local _ .vmem, ⟨0, _⟩ => ⟨S768x1024, .bf16⟩
  | .local _ .vmem, ⟨1, _⟩ => ⟨S768x1024, .bf16⟩
  | .local _ .vmem, ⟨2, _⟩ => ⟨S1024x256, .bf16⟩
  | .local _ .vmem, ⟨3, _⟩ => ⟨S768x256, .f32⟩
  | .local _ .vmem, ⟨4, _⟩ => ⟨S768x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S8448x1024 : Shape := ⟨2, ![8448, 1024]⟩
abbrev S1024x256 : Shape := ⟨2, ![1024, 256]⟩
abbrev S8448x256 : Shape := ⟨2, ![8448, 256]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x256, .f32⟩
  | .hbm, ⟨2, _⟩ => ⟨S8448x256, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S8448x1024 : Shape := ⟨2, ![8448, 1024]⟩
abbrev S1024x256 : Shape := ⟨2, ![1024, 256]⟩
abbrev S8448x256 : Shape := ⟨2, ![8448, 256]⟩
abbrev S768x1024 : Shape := ⟨2, ![768, 1024]⟩
abbrev S768x256 : Shape := ⟨2, ![768, 256]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x256, .f32⟩
  | .hbm, ⟨2, _⟩ => ⟨S8448x256, .f32⟩
  | .hbm, ⟨3, _⟩ => ⟨S8448x1024, .bf16⟩
  | .hbm, ⟨4, _⟩ => ⟨S8448x256, .bf16⟩
  | .hbm, ⟨5, _⟩ => ⟨S1024x256, .f32⟩
  | .local _ .vmem, ⟨0, _⟩ => ⟨S768x1024, .bf16⟩
  | .local _ .vmem, ⟨1, _⟩ => ⟨S768x1024, .bf16⟩
  | .local _ .vmem, ⟨2, _⟩ => ⟨S768x256, .bf16⟩
  | .local _ .vmem, ⟨3, _⟩ => ⟨S768x256, .bf16⟩
  | .local _ .vmem, ⟨4, _⟩ => ⟨S1024x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8448x1024 : Shape := ⟨2, ![8448, 1024]⟩
abbrev S1024x256 : Shape := ⟨2, ![1024, 256]⟩
abbrev S8448x256 : Shape := ⟨2, ![8448, 256]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x256, .f32⟩
  | .hbm, ⟨2, _⟩ => ⟨S8448x256, .f32⟩
  | .hbm, ⟨3, _⟩ => ⟨S8448x256, .f32⟩
  | .hbm, ⟨4, _⟩ => ⟨S256x1024, .f32⟩
  | .hbm, ⟨5, _⟩ => ⟨S1024x256, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S8448x1024 : Shape := ⟨2, ![8448, 1024]⟩
abbrev S8x8448x128 : Shape := ⟨3, ![8, 8448, 128]⟩
abbrev S8x11x1x768 : Shape := ⟨4, ![8, 11, 1, 768]⟩
abbrev S768x128 : Shape := ⟨2, ![768, 128]⟩
abbrev S1x768x128 : Shape := ⟨3, ![1, 768, 128]⟩
abbrev S1x1x1x768 : Shape := ⟨4, ![1, 1, 1, 768]⟩
abbrev S768 : Shape := ⟨1, ![768]⟩
abbrev S768x1 : Shape := ⟨2, ![768, 1]⟩
abbrev S128x768 : Shape := ⟨2, ![128, 768]⟩
abbrev S1x768 : Shape := ⟨2, ![1, 768]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x8448x128, .bf16⟩
  | .hbm, ⟨3, _⟩ => ⟨S8x11x1x768, .f32⟩
  | .local _ .vmem, ⟨0, _⟩ => ⟨S768x128, .f32⟩
  | .local _ .vmem, ⟨1, _⟩ => ⟨S768x128, .f32⟩
  | .local _ .vmem, ⟨2, _⟩ => ⟨S768x128, .f32⟩
  | .local _ .vmem, ⟨3, _⟩ => ⟨S768x128, .f32⟩
  | .local _ .vmem, ⟨4, _⟩ => ⟨S1x768x128, .bf16⟩
  | .local _ .vmem, ⟨5, _⟩ => ⟨S1x768x128, .bf16⟩
  | .local _ .vmem, ⟨6, _⟩ => ⟨S1x1x1x768, .f32⟩
  | .local _ .vmem, ⟨7, _⟩ => ⟨S1x1x1x768, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S8448x1024 : Shape := ⟨2, ![8448, 1024]⟩
abbrev S8448x8x128 : Shape := ⟨3, ![8448, 8, 128]⟩
abbrev S8x8448x128 : Shape := ⟨3, ![8, 8448, 128]⟩
abbrev S_ : Shape := ⟨0, ![]⟩
abbrev S8448x8 : Shape := ⟨2, ![8448, 8]⟩
abbrev S8x8448 : Shape := ⟨2, ![8, 8448]⟩
abbrev S8x11x1x768 : Shape := ⟨4, ![8, 11, 1, 768]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x8x128, .f32⟩
  | .hbm, ⟨3, _⟩ => ⟨S8x8448x128, .f32⟩
  | .hbm, ⟨4, _⟩ => ⟨S8448x1024, .f32⟩
  | .hbm, ⟨5, _⟩ => ⟨S8448x8x128, .f32⟩
  | .hbm, ⟨6, _⟩ => ⟨S_, .f32⟩
  | .hbm, ⟨7, _⟩ => ⟨S8448x8, .f32⟩
  | .hbm, ⟨8, _⟩ => ⟨S8x8448x128, .bf16⟩
  | .hbm, ⟨9, _⟩ => ⟨S8x8448, .f32⟩
  | .hbm, ⟨10, _⟩ => ⟨S8x11x1x768, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel25.lean ====
abbrev S8448x384 : Shape := ⟨2, ![8448, 384]⟩
abbrev S384x8x192 : Shape := ⟨3, ![384, 8, 192]⟩
abbrev S8448x32 : Shape := ⟨2, ![8448, 32]⟩
abbrev S_ : Shape := ⟨0, ![]⟩
abbrev S384x8x256 : Shape := ⟨3, ![384, 8, 256]⟩
abbrev S384x2048 : Shape := ⟨2, ![384, 2048]⟩
abbrev S8448x64 : Shape := ⟨2, ![8448, 64]⟩
abbrev S8448x128 : Shape := ⟨2, ![8448, 128]⟩
abbrev S8x8448x256 : Shape := ⟨3, ![8, 8448, 256]⟩
abbrev S768x384 : Shape := ⟨2, ![768, 384]⟩
abbrev S384x256 : Shape := ⟨2, ![384, 256]⟩
abbrev S768x128 : Shape := ⟨2, ![768, 128]⟩
abbrev S1x768x256 : Shape := ⟨3, ![1, 768, 256]⟩
abbrev S768x256 : Shape := ⟨2, ![768, 256]⟩
abbrev S1x768x128 : Shape := ⟨3, ![1, 768, 128]⟩

abbrev nBuf : Space → Nat
  | .hbm => 15
  | .vmem => 10
  | .smem => 0
  | _ => 0

abbrev bufTy : (tb : Table) → Fin (tcTables nBuf tb) → BufTy
  | .hbm, ⟨0, _⟩ => ⟨S8448x384, .f32⟩
  | .hbm, ⟨1, _⟩ => ⟨S384x8x192, .f32⟩
  | .hbm, ⟨2, _⟩ => ⟨S8448x32, .f32⟩
  | .hbm, ⟨3, _⟩ => ⟨S8448x32, .f32⟩
  | .hbm, ⟨4, _⟩ => ⟨S8448x384, .bf16⟩
  | .hbm, ⟨5, _⟩ => ⟨S384x8x192, .bf16⟩
  | .hbm, ⟨6, _⟩ => ⟨S_, .bf16⟩
  | .hbm, ⟨7, _⟩ => ⟨S384x8x256, .bf16⟩
  | .hbm, ⟨8, _⟩ => ⟨S384x2048, .bf16⟩
  | .hbm, ⟨9, _⟩ => ⟨S_, .f32⟩
  | .hbm, ⟨10, _⟩ => ⟨S8448x64, .f32⟩
  | .hbm, ⟨11, _⟩ => ⟨S8448x128, .f32⟩
  | .hbm, ⟨12, _⟩ => ⟨S8448x32, .f32⟩
  | .hbm, ⟨13, _⟩ => ⟨S8448x128, .f32⟩
  | .hbm, ⟨14, _⟩ => ⟨S8x8448x256, .bf16⟩
  | .local _ .vmem, ⟨0, _⟩ => ⟨S768x384, .bf16⟩
  | .local _ .vmem, ⟨1, _⟩ => ⟨S768x384, .bf16⟩
  | .local _ .vmem, ⟨2, _⟩ => ⟨S384x256, .bf16⟩
  | .local _ .vmem, ⟨3, _⟩ => ⟨S384x256, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S1x768x256, .bf16⟩
  | .local _ .vmem, ⟨9, _⟩ => ⟨S1x768x256, .bf16⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference25Ideal.lean ====
abbrev S8448x384 : Shape := ⟨2, ![8448, 384]⟩
abbrev S384x8x192 : Shape := ⟨3, ![384, 8, 192]⟩
abbrev S8448x32 : Shape := ⟨2, ![8448, 32]⟩
abbrev S8448x8x192 : Shape := ⟨3, ![8448, 8, 192]⟩
abbrev S_ : Shape := ⟨0, ![]⟩
abbrev S8448x8x64 : Shape := ⟨3, ![8448, 8, 64]⟩
abbrev S8448x1x32 : Shape := ⟨3, ![8448, 1, 32]⟩
abbrev S8448x8x32 : Shape := ⟨3, ![8448, 8, 32]⟩
abbrev S8448x8x128 : Shape := ⟨3, ![8448, 8, 128]⟩
abbrev S8448x8x256 : Shape := ⟨3, ![8448, 8, 256]⟩
abbrev S8x8448x256 : Shape := ⟨3, ![8, 8448, 256]⟩

abbrev nBuf : Space → Nat
  | .hbm => 30
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x8x192, .f32⟩
  | .hbm, ⟨2, _⟩ => ⟨S8448x32, .f32⟩
  | .hbm, ⟨3, _⟩ => ⟨S8448x32, .f32⟩
  | .hbm, ⟨4, _⟩ => ⟨S8448x8x192, .f32⟩
  | .hbm, ⟨5, _⟩ => ⟨S_, .f32⟩
  | .hbm, ⟨6, _⟩ => ⟨S8448x8x192, .f32⟩
  | .hbm, ⟨7, _⟩ => ⟨S8448x8x192, .f32⟩
  | .hbm, ⟨8, _⟩ => ⟨S8448x8x64, .f32⟩
  | .hbm, ⟨9, _⟩ => ⟨S8448x1x32, .f32⟩
  | .hbm, ⟨10, _⟩ => ⟨S8448x1x32, .f32⟩
  | .hbm, ⟨11, _⟩ => ⟨S8448x8x32, .f32⟩
  | .hbm, ⟨12, _⟩ => ⟨S8448x8x32, .f32⟩
  | .hbm, ⟨13, _⟩ => ⟨S8448x8x32, .f32⟩
  | .hbm, ⟨14, _⟩ => ⟨S8448x8x32, .f32⟩
  | .hbm, ⟨15, _⟩ => ⟨S8448x8x32, .f32⟩
  | .hbm, ⟨16, _⟩ => ⟨S8448x8x32, .f32⟩
  | .hbm, ⟨17, _⟩ => ⟨S8448x8x32, .f32⟩
  | .hbm, ⟨18, _⟩ => ⟨S8448x8x32, .f32⟩
  | .hbm, ⟨19, _⟩ => ⟨S8448x8x32, .f32⟩
  | .hbm, ⟨20, _⟩ => ⟨S8448x8x32, .f32⟩
  | .hbm, ⟨21, _⟩ => ⟨S8448x8x32, .f32⟩
  | .hbm, ⟨22, _⟩ => ⟨S8448x8x32, .f32⟩
  | .hbm, ⟨23, _⟩ => ⟨S8448x8x64, .f32⟩
  | .hbm, ⟨24, _⟩ => ⟨S_, .f32⟩
  | .hbm, ⟨25, _⟩ => ⟨S8448x8x64, .f32⟩
  | .hbm, ⟨26, _⟩ => ⟨S8448x8x128, .f32⟩
  | .hbm, ⟨27, _⟩ => ⟨S8448x8x256, .f32⟩
  | .hbm, ⟨28, _⟩ => ⟨S8x8448x256, .f32⟩
  | .hbm, ⟨29, _⟩ => ⟨S8x8448x256, .bf16⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel26.lean ====
abbrev S8448x256 : Shape := ⟨2, ![8448, 256]⟩
abbrev S256x8x256 : Shape := ⟨3, ![256, 8, 256]⟩
abbrev S8448x64 : Shape := ⟨2, ![8448, 64]⟩
abbrev S8448x32 : Shape := ⟨2, ![8448, 32]⟩
abbrev S_ : Shape := ⟨0, ![]⟩
abbrev S8448x128 : Shape := ⟨2, ![8448, 128]⟩
abbrev S256x2048 : Shape := ⟨2, ![256, 2048]⟩
abbrev S8x8448x256 : Shape := ⟨3, ![8, 8448, 256]⟩
abbrev S8x8448x128 : Shape := ⟨3, ![8, 8448, 128]⟩
abbrev S768x256 : Shape := ⟨2, ![768, 256]⟩
abbrev S256x256 : Shape := ⟨2, ![256, 256]⟩
abbrev S768x128 : Shape := ⟨2, ![768, 128]⟩
abbrev S1x768x256 : Shape := ⟨3, ![1, 768, 256]⟩
abbrev S1x768x128 : Shape := ⟨3, ![1, 768, 128]⟩

abbrev nBuf : Space → Nat
  | .hbm => 17
  | .vmem => 14
  | .smem => 0
  | _ => 0

abbrev bufTy : (tb : Table) → Fin (tcTables nBuf tb) → BufTy
  | .hbm, ⟨0, _⟩ => ⟨S8448x256, .f32⟩
  | .hbm, ⟨1, _⟩ => ⟨S256x8x256, .f32⟩
  | .hbm, ⟨2, _⟩ => ⟨S8448x64, .f32⟩
  | .hbm, ⟨3, _⟩ => ⟨S8448x32, .f32⟩
  | .hbm, ⟨4, _⟩ => ⟨S8448x32, .f32⟩
  | .hbm, ⟨5, _⟩ => ⟨S_, .f32⟩
  | .hbm, ⟨6, _⟩ => ⟨S8448x128, .f32⟩
  | .hbm, ⟨7, _⟩ => ⟨S8448x256, .bf16⟩
  | .hbm, ⟨8, _⟩ => ⟨S256x8x256, .bf16⟩
  | .hbm, ⟨9, _⟩ => ⟨S256x2048, .bf16⟩
  | .hbm, ⟨10, _⟩ => ⟨S_, .f32⟩
  | .hbm, ⟨11, _⟩ => ⟨S8448x64, .f32⟩
  | .hbm, ⟨12, _⟩ => ⟨S8448x128, .f32⟩
  | .hbm, ⟨13, _⟩ => ⟨S8448x32, .f32⟩
  | .hbm, ⟨14, _⟩ => ⟨S8448x128, .f32⟩
  | .hbm, ⟨15, _⟩ => ⟨S8x8448x256, .bf16⟩
  | .hbm, ⟨16, _⟩ => ⟨S8x8448x128, .bf16⟩
  | .local _ .vmem, ⟨0, _⟩ => ⟨S768x256, .bf16⟩
  | .local _ .vmem, ⟨1, _⟩ => ⟨S768x256, .bf16⟩
  | .local _ .vmem, ⟨2, _⟩ => ⟨S256x256, .bf16⟩
  | .local _ .vmem, ⟨3, _⟩ => ⟨S256x256, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S1x768x256, .bf16⟩
  | .local _ .vmem, ⟨11, _⟩ => ⟨S1x768x256, .bf16⟩
  | .local _ .vmem, ⟨12, _⟩ => ⟨S1x768x128, .bf16⟩
  | .local _ .vmem, ⟨13, _⟩ => ⟨S1x768x128, .bf16⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference26Ideal.lean ====
abbrev S8448x256 : Shape := ⟨2, ![8448, 256]⟩
abbrev S256x8x256 : Shape := ⟨3, ![256, 8, 256]⟩
abbrev S8448x64 : Shape := ⟨2, ![8448, 64]⟩
abbrev S8448x32 : Shape := ⟨2, ![8448, 32]⟩
abbrev S8448x8x256 : Shape := ⟨3, ![8448, 8, 256]⟩
abbrev S8448x1x64 : Shape := ⟨3, ![8448, 1, 64]⟩
abbrev S8448x8x64 : Shape := ⟨3, ![8448, 8, 64]⟩
abbrev S_ : Shape := ⟨0, ![]⟩
abbrev S8448x8x128 : Shape := ⟨3, ![8448, 8, 128]⟩
abbrev S8x8448x256 : Shape := ⟨3, ![8, 8448, 256]⟩
abbrev S8x8448x128 : Shape := ⟨3, ![8, 8448, 128]⟩

abbrev nBuf : Space → Nat
  | .hbm => 26
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x8x256, .f32⟩
  | .hbm, ⟨2, _⟩ => ⟨S8448x64, .f32⟩
  | .hbm, ⟨3, _⟩ => ⟨S8448x32, .f32⟩
  | .hbm, ⟨4, _⟩ => ⟨S8448x32, .f32⟩
  | .hbm, ⟨5, _⟩ => ⟨S8448x8x256, .f32⟩
  | .hbm, ⟨6, _⟩ => ⟨S8448x32, .f32⟩
  | .hbm, ⟨7, _⟩ => ⟨S8448x32, .f32⟩
  | .hbm, ⟨8, _⟩ => ⟨S8448x32, .f32⟩
  | .hbm, ⟨9, _⟩ => ⟨S8448x32, .f32⟩
  | .hbm, ⟨10, _⟩ => ⟨S8448x32, .f32⟩
  | .hbm, ⟨11, _⟩ => ⟨S8448x32, .f32⟩
  | .hbm, ⟨12, _⟩ => ⟨S8448x32, .f32⟩
  | .hbm, ⟨13, _⟩ => ⟨S8448x32, .f32⟩
  | .hbm, ⟨14, _⟩ => ⟨S8448x64, .f32⟩
  | .hbm, ⟨15, _⟩ => ⟨S8448x1x64, .f32⟩
  | .hbm, ⟨16, _⟩ => ⟨S8448x8x64, .f32⟩
  | .hbm, ⟨17, _⟩ => ⟨S_, .f32⟩
  | .hbm, ⟨18, _⟩ => ⟨S8448x8x64, .f32⟩
  | .hbm, ⟨19, _⟩ => ⟨S8448x8x128, .f32⟩
  | .hbm, ⟨20, _⟩ => ⟨S8448x8x256, .f32⟩
  | .hbm, ⟨21, _⟩ => ⟨S8x8448x256, .f32⟩
  | .hbm, ⟨22, _⟩ => ⟨S8x8448x256, .bf16⟩
  | .hbm, ⟨23, _⟩ => ⟨S8448x8x128, .f32⟩
  | .hbm, ⟨24, _⟩ => ⟨S8x8448x128, .f32⟩
  | .hbm, ⟨25, _⟩ => ⟨S8x8448x128, .bf16⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel27.lean ====
abbrev S8448x1024 : Shape := ⟨2, ![8448, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1x1024, .f32⟩
  | .hbm, ⟨3, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8448x1024, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x1024, .f32⟩
  | .hbm, ⟨14, _⟩ => ⟨S8448x1024, .f32⟩
  | .hbm, ⟨15, _⟩ => ⟨S1x1024, .f32⟩
  | .hbm, ⟨16, _⟩ => ⟨S8448x1024, .f32⟩
  | .hbm, ⟨17, _⟩ => ⟨S8448x1024, .f32⟩
  | .hbm, ⟨18, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel28.lean ====
abbrev S8448x1024 : Shape := ⟨2, ![8448, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 8
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8448x1024, .f32⟩
  | .hbm, ⟨7, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference28Ideal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x1024, .f32⟩
  | .hbm, ⟨33, _⟩ => ⟨S8448x1024, .f32⟩
  | .hbm, ⟨34, _⟩ => ⟨S1x1024, .f32⟩
  | .hbm, ⟨35, _⟩ => ⟨S8448x1024, .f32⟩
  | .hbm, ⟨36, _⟩ => ⟨S8448x1024, .f32⟩
  | .hbm, ⟨37, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Reads.lean ====
/- What a buffer reads after stores into it, and the zero offsets of whole blocks. -/
module

public import Idealize.ShloMosaic.Lib.Pipeline.Value

@[expose] public section

noncomputable section

namespace Cert.Proof

open Idealize.ShloMosaic

variable {F : FTy → Type} [FloatOps F]

/-- The last store read back: laid over what the earlier ones left. -/
theorem read_last {sg : RefSig} {κ : Kind} {sp : Space} {s : Shape} {e : EltTy} (v : View sg κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    exact (View.read_writes_cons_emb v f r w L x).trans (Rect.overlay_emb r _ w x).symm
  · rw [Rect.overlay_of_not_mem _ _ _ hy, View.writes_cons]
    refine View.read_slice_write_of_not_mem _ _ _ _ fun hm => hy ?_
    obtain ⟨x, -, rfl⟩ := Finset.mem_map.mp hm
    exact r.idx_mem x

/-- One store of the whole shape read back. -/
theorem read_full {sg : RefSig} {κ : Kind} {sp : Space} {s : Shape} {e : EltTy} (v : View sg κ sp s e) (f : v.ty.Contents (Elt F))
    {o : Fin s.rank → ℕ} (ho : o = fun _ => 0) (h : ∀ a, o a + s.size a ≤ s.size a) (w : s.Idx → Elt F e)
    (L : List (View.Piece (Elt F) s e)) :
    v.read (Elt F) (v.writes (Elt F) f (⟨Rect.unit o s.size h, w⟩ :: L)) = w := by
  subst ho; funext y
  have := View.read_writes_cons_emb v f (Rect.whole s) w L y
  rwa [Rect.emb_whole_apply] at this

/-- A load of the whole shape after a last store of the whole shape. -/
theorem readCov_last {sg : RefSig} {κ : Kind} {sp : Space} {s : Shape} {e : EltTy} (v : View sg κ sp s e)
    {o : Fin s.rank → ℕ} (ho : o = fun _ => 0) (h : ∀ a, o a + s.size a ≤ s.size a) (w : s.Idx → Elt F e)
    (L : List (View.Piece (Elt F) s e)) :
    v.readCov (⟨Rect.unit o s.size h, w⟩ :: L) (Rect.unit o s.size h).toLoadRect = w := by
  rw [View.readCov_eq_canon_ld _ _ _ (fun y => ⟨_, List.mem_cons_self, View.mem_set_unit_zero ho h y⟩),
    View.canon_cons_unit_zero ho, View.ld_unit_zero ho]

theorem zero2 : (![0, 0] : Fin 2 → ℕ) = fun _ => 0 := by
  funext x; fin_cases x <;> rfl

theorem zero3 : (![0, 0, 0] : Fin 3 → ℕ) = fun _ => 0 := by
  funext x; fin_cases x <;> rfl

theorem zero4 : (![0, 0, 0, 0] : Fin 4 → ℕ) = fun _ => 0 := by
  funext x; fin_cases x <;> rfl

end Cert.Proof

end
-- ==== Proof.Trip.lean ====
/- One trip of the kernel's loop over the query tiles below the diagonal, and the loop's invariant: what the three
   accumulators hold before trip `k`, as a recursion over the trips. -/
module

public import proofs.«01_k».proof.Proof.Gen.KernelIdeal.Skeleton
public import proofs.«01_k».proof.Proof.Gen.KernelIdeal.Frame
public import Idealize.ShloMosaic.Lib.Pipeline.Value
public import proofs.«01_k».proof.Proof.Reads

@[expose] public section

set_option maxRecDepth 16384

noncomputable section

namespace Cert.Proof.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The three accumulators' contents: the gradients of q (the head's whole block), of k and of v (the tile's). -/
abbrev Accs (F : FTy → Type) [FloatOps F] : Type :=
  Vec F S1x8448x256 .f32 × Vec F S768x256 .f32 × Vec F S768x128 .f32

/-- Rows `[768 n, 768 (n + 1))` of a head's block of queries, of output gradients, and row `n` of a block of row statistics. -/
abbrev rowsQ (o : Fin 3 → ℕ) (h : ∀ a, o a + S1x768x256.size a ≤ S1x8448x256.size a) : Rect S1x8448x256 :=
  Rect.unit (s := S1x8448x256) o S1x768x256.size h
abbrev rowsO (o : Fin 3 → ℕ) (h : ∀ a, o a + S1x768x128.size a ≤ S1x8448x128.size a) : Rect S1x8448x128 :=
  Rect.unit (s := S1x8448x128) o S1x768x128.size h
abbrev rowL (o : Fin 4 → ℕ) (h : ∀ a, o a + S1x1x1x768.size a ≤ S1x11x1x768.size a) : Rect S1x11x1x768 :=
  Rect.unit (s := S1x11x1x768) o S1x1x1x768.size h

/-- What trip `k` makes of the accumulators: the tile's probabilities are added into the gradient of v, the tile's
    score gradients into the gradients of k and of the tile's queries. -/
def tripStep (i : grid0.Coords) (v4 : FVec F S768x256 .bf16) (v6 : FVec F S768x128 .bf16)
    (x0 : Vec F S1x8448x256 .bf16) (x1 : Vec F S1x8448x128 .bf16) (x2 x3 : Vec F S1x11x1x768 .f32)
    (k : Fin (k0_t1_loop i).trips) (s : Accs F) : Accs F :=
  let q := View.ld x0 (rowsQ (k0_off4 i k) (k0_off4_inb i k))
  let o := View.ld x1 (rowsO (k0_off5 i k) (k0_off5_inb i k))
  let l := View.ld x2 (rowL (k0_off6 i k) (k0_off6_inb i k))
  let d := View.ld x3 (rowL (k0_off6 i k) (k0_off6_inb i k))
  let R := rowsQ (k0_off4 i k) (k0_off4_inb i k)
  (R.overlay s.1 (k0_pay2 v4 (k0_pay11 v4 v6 q o l d) (View.ld s.1 R)),
    k0_pay1 (k0_pay12 v4 v6 q o l d s.2.1), k0_pay10 v4 q o l s.2.2)

/-- The accumulators before trip `k`. -/
def trips (i : grid0.Coords) (v4 : FVec F S768x256 .bf16) (v6 : FVec F S768x128 .bf16)
    (x0 : Vec F S1x8448x256 .bf16) (x1 : Vec F S1x8448x128 .bf16) (x2 x3 : Vec F S1x11x1x768 .f32) (s : Accs F) : ℕ → Accs F
  | 0 => s
  | k + 1 => if h : k < (k0_t1_loop i).trips then tripStep i v4 v6 x0 x1 x2 x3 ⟨k, h⟩ (trips i v4 v6 x0 x1 x2 x3 s k)
      else trips i v4 v6 x0 x1 x2 x3 s k

section Loop

variable (c : Dev nD) (bd : Option Variants.none.V) (E : Set ℕ) (i : grid0.Coords)
  (arg2 : Memref sig .tc .vmem S1x8448x256 .bf16) (harg2 : arg2.IsWhole) (arg3 : Memref sig .tc .vmem S1x8448x128 .bf16) (harg3 : arg3.IsWhole)
  (arg4 : Memref sig .tc .vmem S1x11x1x768 .f32) (harg4 : arg4.IsWhole) (arg5 : Memref sig .tc .vmem S1x11x1x768 .f32) (harg5 : arg5.IsWhole)
  (arg6 : Memref sig .tc .vmem S1x768x256 .bf16) (harg6 : arg6.IsWhole) (arg7 : Memref sig .tc .vmem S1x768x128 .bf16) (harg7 : arg7.IsWhole)
  (arg8 : Memref sig .tc .vmem S1x8448x256 .f32) (harg8 : arg8.IsWhole) (arg9 : Memref sig .tc .vmem S1x768x256 .f32) (harg9 : arg9.IsWhole)
  (arg10 : Memref sig .tc .vmem S1x768x128 .f32) (harg10 : arg10.IsWhole) (arg11 : Memref sig .tc .vmem S768x256 .f32) (harg11 : arg11.IsWhole)
  (arg12 : Memref sig .tc .vmem S768x128 .f32) (harg12 : arg12.IsWhole)
  (v4 : FVec F S768x256 .bf16) (v6 : FVec F S768x128 .bf16) (v65 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)

/-- What the loop touches: the four input blocks at their contents, the three accumulators at contents that read `s`. -/
abbrev held (s : Accs F) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (∃ f, (arg8.view.loc (c : Thread nD τ) ↦[arg8.view.set]{fullShare} f) ∗ ⌜arg8.view.read (Elt F) f = s.1⌝)
    ∗ (∃ f, (arg11.view.loc (c : Thread nD τ) ↦[arg11.view.set]{fullShare} f) ∗ ⌜arg11.view.read (Elt F) f = s.2.1⌝)
    ∗ (∃ f, (arg12.view.loc (c : Thread nD τ) ↦[arg12.view.set]{fullShare} f) ∗ ⌜arg12.view.read (Elt F) f = s.2.2⌝))

/-- One trip keeps the inputs and makes `tripStep` of the accumulators. -/
theorem trip (k : Fin (k0_t1_loop i).trips) (s : Accs F) :
    held c arg2 arg3 arg4 arg5 arg8 arg11 arg12 X2 X3 X4 X5 s
      ⊢ wp frame (wpE (defs₀ (F := F)) Variants.none (c : Thread nD τ) bd) E
          (k0_t1_body (F := F) i arg2 harg2 arg3 harg3 arg4 harg4 arg5 harg5 arg6 harg6 arg7 harg7 arg8 harg8 arg9 harg9 arg10 harg10 arg11 harg11 arg12 harg12 v4 v6 v65 k PUnit.unit)
          (fun _ => held c arg2 arg3 arg4 arg5 arg8 arg11 arg12 X2 X3 X4 X5
            (tripStep i v4 v6 (arg2.view.read (Elt F) X2) (arg3.view.read (Elt F) X3) (arg4.view.read (Elt F) X4) (arg5.view.read (Elt F) X5) k s)) := by
  unfold k0_t1_body held
  iintro ⟨H2, H3, H4, H5, ⟨%f8, H8, %h8⟩, ⟨%f11, H11, %h11⟩, ⟨%f12, H12, %h12⟩⟩
  sl_exec
  sl_step
  isplitl [H2]; · iexact H2
  isplitl [H3]; · iexact H3
  isplitl [H4]; · iexact H4
  isplitl [H5]; · iexact H5
  isplitl [H8]
  · iexists _; isplitl [H8]; · iexact H8
    ipureintro
    sl_unfold_words
    refine (read_last _ _ _ _ _).trans ?_
    dsimp only [tripStep, View.writes_nil, k0_pay2, k0_pay11, k0_pay7, k0_pay8, k0_pay9, View.readAt_eq_ld, k0_off4, k0_off5, k0_off6, rowsQ, rowsO, rowL]
    rw [h8]
  isplitl [H11]
  · iexists _; isplitl [H11]; · iexact H11
    ipureintro
    sl_unfold_words
    refine (read_full _ _ zero2 _ _ _).trans ?_
    dsimp only [tripStep, k0_pay1, k0_pay12, k0_pay11, k0_pay7, k0_pay8, k0_pay9, View.readAt_eq_ld, k0_off4, k0_off5, k0_off6, rowsQ, rowsO, rowL]
    rw [h11, View.ld_unit_zero zero2]
  iexists _; isplitl [H12]; · iexact H12
  ipureintro
  sl_unfold_words
  refine (read_full _ _ zero2 _ _ _).trans ?_
  dsimp only [tripStep, k0_pay10, k0_pay7, k0_pay8, k0_pay9, View.readAt_eq_ld, k0_off4, k0_off5, k0_off6, rowsQ, rowsO, rowL]
  rw [h12, View.ld_unit_zero zero2]

/-- The loop below the diagonal by its invariant: before trip `k` the accumulators read `trips … k`. -/
theorem below (s : Accs F) {β : Type} (kk : Unit → Prog (TpuEff nD τ sig (Elt F) Λ₀ .tc) β) (Q : β → sProp 𝕄) :
    held c arg2 arg3 arg4 arg5 arg8 arg11 arg12 X2 X3 X4 X5 s
      ⊢ iprop((held c arg2 arg3 arg4 arg5 arg8 arg11 arg12 X2 X3 X4 X5 (trips i v4 v6 (arg2.view.read (Elt F) X2) (arg3.view.read (Elt F) X3) (arg4.view.read (Elt F) X4) (arg5.view.read (Elt F) X5) s (k0_t1_loop i).trips)
          -∗ wp frame (wpE (defs₀ (F := F)) Variants.none (c : Thread nD τ) bd) E (kk ()) Q)
        -∗ wp frame (wpE (defs₀ (F := F)) Variants.none (c : Thread nD τ) bd) E
          ((k0_t1_loop i).for (k0_t1_ok i) () (k0_t1_body (F := F) i arg2 harg2 arg3 harg3 arg4 harg4 arg5 harg5 arg6 harg6 arg7 harg7 arg8 harg8 arg9 harg9 arg10 harg10 arg11 harg11 arg12 harg12 v4 v6 v65) >>= kk) Q) := by
  iintro H K
  iapply (Scf.wp_for_bind frame (wpE (defs₀ (F := F)) Variants.none (c : Thread nD τ) bd) E _ _ _ (k0_t1_ok i) () _
    (fun k _ => held c arg2 arg3 arg4 arg5 arg8 arg11 arg12 X2 X3 X4 X5 (trips i v4 v6 (arg2.view.read (Elt F) X2) (arg3.view.read (Elt F) X3) (arg4.view.read (Elt F) X4) (arg5.view.read (Elt F) X5) s k))
    (fun k acc => by
      have e : trips i v4 v6 (arg2.view.read (Elt F) X2) (arg3.view.read (Elt F) X3) (arg4.view.read (Elt F) X4) (arg5.view.read (Elt F) X5) s (k.val + 1) = tripStep i v4 v6 (arg2.view.read (Elt F) X2) (arg3.view.read (Elt F) X3) (arg4.view.read (Elt F) X4) (arg5.view.read (Elt F) X5) k (trips i v4 v6 (arg2.view.read (Elt F) X2) (arg3.view.read (Elt F) X3) (arg4.view.read (Elt F) X4) (arg5.view.read (Elt F) X5) s k.val) := by
        rw [trips, dif_pos k.isLt]
      rw [e]
      exact trip c bd E i arg2 harg2 arg3 harg3 arg4 harg4 arg5 harg5 arg6 harg6 arg7 harg7 arg8 harg8 arg9 harg9 arg10 harg10 arg11 harg11 arg12 harg12 v4 v6 v65 X2 X3 X4 X5 k _)) $$ [H]
  · iexact H
  iintro %acc H
  iapply K $$ H

end Loop

end Cert.Proof.Trip

end
-- ==== Proof.Body.lean ====
/- The kernel's body at one grid point: what it leaves in its accumulators and in the output blocks, as functions of the
   input blocks and of the gradient of q the point before left. -/
module

public import proofs.«01_k».proof.Proof.Trip

@[expose] public section

set_option maxRecDepth 16384

noncomputable section

namespace Cert.Proof.Body

open Cert.KernelIdeal Cert.KernelIdeal.Gen Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The tile on the diagonal, added into the accumulators `s`. -/
def diagStep (i : grid0.Coords) (x0 : Vec F S1x8448x256 .bf16) (x1 : Vec F S1x8448x128 .bf16) (x2 x3 : Vec F S1x11x1x768 .f32)
    (x4 : Vec F S1x768x256 .bf16) (x5 : Vec F S1x768x128 .bf16) (s : Accs F) : Accs F :=
  let q := View.ld x0 (rowsQ (k0_off1 i) (k0_off1_inb i))
  let o := View.ld x1 (rowsO (k0_off2 i) (k0_off2_inb i))
  let l := View.ld x2 (rowL (k0_off3 i) (k0_off3_inb i))
  let d := View.ld x3 (rowL (k0_off3 i) (k0_off3_inb i))
  let R := rowsQ (k0_off1 i) (k0_off1_inb i)
  (R.overlay s.1 (k0_pay31 (k0_pay20 x4) (k0_pay21 x5) (k0_pay25 o) (k0_pay26 x4 q) l d (View.ld s.1 R)),
    k0_pay30 (k0_pay21 x5) (k0_pay24 q) (k0_pay25 o) (k0_pay26 x4 q) l d s.2.1,
    k0_pay28 (k0_pay25 o) (k0_pay26 x4 q) l s.2.2)

/-- The accumulators at the end of a point whose gradient of q starts at `g`: the diagonal's tile, then the trips below it. -/
def point (i : grid0.Coords) (x0 : Vec F S1x8448x256 .bf16) (x1 : Vec F S1x8448x128 .bf16) (x2 x3 : Vec F S1x11x1x768 .f32)
    (x4 : Vec F S1x768x256 .bf16) (x5 : Vec F S1x768x128 .bf16) (g : Vec F S1x8448x256 .f32) : Accs F :=
  trips i (k0_pay20 x4) (k0_pay21 x5) x0 x1 x2 x3 (diagStep i x0 x1 x2 x3 x4 x5 (g, k0_pay22, k0_pay23)) (k0_t1_loop i).trips

/-- The condition of the body's one `if`: the first key tile of a head. -/
abbrev first (i : grid0.Coords) : Prop := (Scalar.cmpi .ne (Scalar.extui (Scalar.cmpi .eq (BitVec.ofNat 32 (i 1).val) 0#32)) 0#32) = 1#1

section Run

variable (c : Dev nD) (i : grid0.Coords)
  (arg2 : Memref sig .tc .vmem S1x8448x256 .bf16) (harg2 : arg2.IsWhole) (arg3 : Memref sig .tc .vmem S1x8448x128 .bf16) (harg3 : arg3.IsWhole)
  (arg4 : Memref sig .tc .vmem S1x11x1x768 .f32) (harg4 : arg4.IsWhole) (arg5 : Memref sig .tc .vmem S1x11x1x768 .f32) (harg5 : arg5.IsWhole)
  (arg6 : Memref sig .tc .vmem S1x768x256 .bf16) (harg6 : arg6.IsWhole) (arg7 : Memref sig .tc .vmem S1x768x128 .bf16) (harg7 : arg7.IsWhole)
  (arg8 : Memref sig .tc .vmem S1x8448x256 .f32) (harg8 : arg8.IsWhole) (arg9 : Memref sig .tc .vmem S1x768x256 .f32) (harg9 : arg9.IsWhole)
  (arg10 : Memref sig .tc .vmem S1x768x128 .f32) (harg10 : arg10.IsWhole) (arg11 : Memref sig .tc .vmem S768x256 .f32) (harg11 : arg11.IsWhole)
  (arg12 : Memref sig .tc .vmem S768x128 .f32) (harg12 : arg12.IsWhole)
  (x0 : Vec F S1x8448x256 .bf16) (x1 : Vec F S1x8448x128 .bf16) (x2 x3 : Vec F S1x11x1x768 .f32)
  (x4 : Vec F S1x768x256 .bf16) (x5 : Vec F S1x768x128 .bf16)

/-- What the body is called with besides the gradient of q's block, and what it hands back. -/
abbrev inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)
abbrev scratch : sProp 𝕄 :=
  iprop((∃ d, owns (c : Thread nD τ) arg11 fullShare d) ∗ (∃ d, owns (c : Thread nD τ) arg12 fullShare d))
abbrev outs (s : Accs F) : sProp 𝕄 :=
  iprop(owns (c : Thread nD τ) arg8 fullShare s.1 ∗ owns (c : Thread nD τ) arg9 fullShare (k0_pay5 s.2.1)
    ∗ owns (c : Thread nD τ) arg10 fullShare (k0_pay6 s.2.2))

set_option maxHeartbeats 1000000 in
/-- The body at a head's first point: the gradient of q starts at zero. -/
theorem run_first (hc : first i) (E : Set ℕ) (K : PUnit → sProp 𝕄) :
    iprop(inputs c arg2 arg3 arg4 arg5 arg6 arg7 x0 x1 x2 x3 x4 x5
        ∗ (∃ d, owns (c : Thread nD τ) arg8 fullShare d) ∗ (∃ d, owns (c : Thread nD τ) arg9 fullShare d) ∗ (∃ d, owns (c : Thread nD τ) arg10 fullShare d)
        ∗ scratch c arg11 arg12
        ∗ (iprop(inputs c arg2 arg3 arg4 arg5 arg6 arg7 x0 x1 x2 x3 x4 x5
            ∗ outs c arg8 arg9 arg10 (point i x0 x1 x2 x3 x4 x5 k0_pay19) ∗ scratch c arg11 arg12) -∗ K PUnit.unit))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  simp only [cc0_flash_bwd_eq_skeleton]; unfold cc0_flash_bwd_skel
  simp only [k0_part3_eq_skeleton, k0_part4_eq_skeleton]
  unfold inputs scratch outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, -, H7⟩, ⟨%d8, %f8, -, H8⟩, ⟨⟨%ds0, %fs0, -, HS0⟩, ⟨%ds1, %fs1, -, HS1⟩⟩, Hk⟩
  subst hf0 hf1 hf2 hf3 hf4 hf5
  have e4 : k0_pay20 (View.readAt (Elt F) arg6.view (Rect.unit ![0, 0, 0] S1x768x256.size inb_S1x768x256_S1x768x256_0_0_0).toLoadRect f4) = k0_pay20 (arg6.view.read (Elt F) f4) := by
    rw [View.readAt_eq_ld, View.ld_unit_zero zero3]
  have e5 : k0_pay21 (View.readAt (Elt F) arg7.view (Rect.unit ![0, 0, 0] S1x768x128.size inb_S1x768x128_S1x768x128_0_0_0).toLoadRect f5) = k0_pay21 (arg7.view.read (Elt F) f5) := by
    rw [View.readAt_eq_ld, View.ld_unit_zero zero3]
  sl_exec (disch := first | sl_exact hc)
  iapply (below c none E i arg2 harg2 arg3 harg3 arg4 harg4 arg5 harg5 arg6 harg6 arg7 harg7 arg8 harg8 arg9 harg9 arg10 harg10 arg11 harg11 arg12 harg12
    (k0_pay20 (View.readAt (Elt F) arg6.view (Rect.unit ![0, 0, 0] S1x768x256.size inb_S1x768x256_S1x768x256_0_0_0).toLoadRect f4))
    (k0_pay21 (View.readAt (Elt F) arg7.view (Rect.unit ![0, 0, 0] S1x768x128.size inb_S1x768x128_S1x768x128_0_0_0).toLoadRect f5)) _ f0 f1 f2 f3
    (diagStep i (arg2.view.read (Elt F) f0) (arg3.view.read (Elt F) f1) (arg4.view.read (Elt F) f2) (arg5.view.read (Elt F) f3) (arg6.view.read (Elt F) f4) (arg7.view.read (Elt F) f5) (k0_pay19, k0_pay22, k0_pay23))) $$ [H0 H1 H2 H3 H6 HS0 HS1]
  · unfold held
    isplitl [H0]; · iexact H0
    isplitl [H1]; · iexact H1
    isplitl [H2]; · iexact H2
    isplitl [H3]; · iexact H3
    isplitl [H6]
    · iexists _; isplitl [H6]; · iexact H6
      ipureintro
      sl_unfold_words
      refine (read_last _ _ _ _ _).trans ?_
      dsimp only [diagStep, rowsQ, rowsO, rowL, View.readAt_eq_ld, View.writes_nil]
      rw [read_full arg8.view _ zero3, View.ld_unit_zero zero3, View.ld_unit_zero zero3]; rfl
    isplitl [HS0]
    · iexists _; isplitl [HS0]; · iexact HS0
      ipureintro
      sl_unfold_words
      refine (read_full _ _ zero2 _ _ _).trans ?_
      dsimp only [diagStep, rowsQ, rowsO, rowL, View.readAt_eq_ld]
      rw [View.readCov_unit_zero arg11.view zero2, View.ld_unit_zero zero3, View.ld_unit_zero zero3]; rfl
    iexists _; isplitl [HS1]; · iexact HS1
    ipureintro
    sl_unfold_words
    refine (read_full _ _ zero2 _ _ _).trans ?_
    dsimp only [diagStep, rowsQ, rowsO, rowL, View.readAt_eq_ld]
    rw [View.readCov_unit_zero arg12.view zero2, View.ld_unit_zero zero3]; rfl
  rw [e4, e5]
  iintro ⟨H0, H1, H2, H3, ⟨%g8, H6, %h8⟩, ⟨%g11, HS0, %h11⟩, ⟨%g12, HS1, %h12⟩⟩
  have htr : (k0_t2_loop i).trips = 0 := Nat.le_zero.mp (k0_t2_abs i).2.1
  sl_exec
  sl_step
  iapply Hk
  isplitl [H0 H1 H2 H3 H4 H5]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6 H7 H8]
  · isplitl [H6]
    · iexists g8; isplitr; · ipureintro; exact h8
      iexact H6
    isplitl [H7]
    · iexists _; isplitr; swap; · iexact H7
      ipureintro
      refine (read_full _ _ zero3 _ _ _).trans ?_
      rw [View.readAt_eq_ld, View.ld_unit_zero zero2, h11]; rfl
    iexists _; isplitr; swap; · iexact H8
    ipureintro
    refine (read_full _ _ zero3 _ _ _).trans ?_
    rw [View.readAt_eq_ld, View.ld_unit_zero zero2, h12]; rfl
  isplitl [HS0]
  · iexists _, g11; isplitr; swap; · iexact HS0
    ipureintro; rfl
  iexists _, g12; isplitr; swap; · iexact HS1
  ipureintro; rfl

set_option maxHeartbeats 1000000 in
/-- The body at a head's later points: the gradient of q goes on from what the point before left. -/
theorem run_later (hc : ¬first i) (g : Vec F S1x8448x256 .f32) (E : Set ℕ) (K : PUnit → sProp 𝕄) :
    iprop(inputs c arg2 arg3 arg4 arg5 arg6 arg7 x0 x1 x2 x3 x4 x5
        ∗ owns (c : Thread nD τ) arg8 fullShare g ∗ (∃ d, owns (c : Thread nD τ) arg9 fullShare d) ∗ (∃ d, owns (c : Thread nD τ) arg10 fullShare d)
        ∗ scratch c arg11 arg12
        ∗ (iprop(inputs c arg2 arg3 arg4 arg5 arg6 arg7 x0 x1 x2 x3 x4 x5
            ∗ outs c arg8 arg9 arg10 (point i x0 x1 x2 x3 x4 x5 g) ∗ scratch c arg11 arg12) -∗ K PUnit.unit))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  simp only [cc0_flash_bwd_eq_skeleton]; unfold cc0_flash_bwd_skel
  simp only [k0_part3_eq_skeleton, k0_part4_eq_skeleton]
  unfold inputs scratch outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%d7, %f7, -, H7⟩, ⟨%d8, %f8, -, H8⟩, ⟨⟨%ds0, %fs0, -, HS0⟩, ⟨%ds1, %fs1, -, HS1⟩⟩, Hk⟩
  subst hf0 hf1 hf2 hf3 hf4 hf5 hf6
  have e4 : k0_pay20 (View.readAt (Elt F) arg6.view (Rect.unit ![0, 0, 0] S1x768x256.size inb_S1x768x256_S1x768x256_0_0_0).toLoadRect f4) = k0_pay20 (arg6.view.read (Elt F) f4) := by
    rw [View.readAt_eq_ld, View.ld_unit_zero zero3]
  have e5 : k0_pay21 (View.readAt (Elt F) arg7.view (Rect.unit ![0, 0, 0] S1x768x128.size inb_S1x768x128_S1x768x128_0_0_0).toLoadRect f5) = k0_pay21 (arg7.view.read (Elt F) f5) := by
    rw [View.readAt_eq_ld, View.ld_unit_zero zero3]
  sl_exec (disch := first | sl_exact hc)
  iapply (below c none E i arg2 harg2 arg3 harg3 arg4 harg4 arg5 harg5 arg6 harg6 arg7 harg7 arg8 harg8 arg9 harg9 arg10 harg10 arg11 harg11 arg12 harg12
    (k0_pay20 (View.readAt (Elt F) arg6.view (Rect.unit ![0, 0, 0] S1x768x256.size inb_S1x768x256_S1x768x256_0_0_0).toLoadRect f4))
    (k0_pay21 (View.readAt (Elt F) arg7.view (Rect.unit ![0, 0, 0] S1x768x128.size inb_S1x768x128_S1x768x128_0_0_0).toLoadRect f5)) _ f0 f1 f2 f3
    (diagStep i (arg2.view.read (Elt F) f0) (arg3.view.read (Elt F) f1) (arg4.view.read (Elt F) f2) (arg5.view.read (Elt F) f3) (arg6.view.read (Elt F) f4) (arg7.view.read (Elt F) f5) ((arg8.view.read (Elt F) f6), k0_pay22, k0_pay23))) $$ [H0 H1 H2 H3 H6 HS0 HS1]
  · unfold held
    isplitl [H0]; · iexact H0
    isplitl [H1]; · iexact H1
    isplitl [H2]; · iexact H2
    isplitl [H3]; · iexact H3
    isplitl [H6]
    · iexists _; isplitl [H6]; · iexact H6
      ipureintro
      sl_unfold_words
      refine (read_last _ _ _ _ _).trans ?_
      dsimp only [diagStep, rowsQ, rowsO, rowL, View.readAt_eq_ld, View.writes_nil]
      rw [View.ld_unit_zero zero3, View.ld_unit_zero zero3]; rfl
    isplitl [HS0]
    · iexists _; isplitl [HS0]; · iexact HS0
      ipureintro
      sl_unfold_words
      refine (read_full _ _ zero2 _ _ _).trans ?_
      dsimp only [diagStep, rowsQ, rowsO, rowL, View.readAt_eq_ld]
      rw [View.readCov_unit_zero arg11.view zero2, View.ld_unit_zero zero3, View.ld_unit_zero zero3]; rfl
    iexists _; isplitl [HS1]; · iexact HS1
    ipureintro
    sl_unfold_words
    refine (read_full _ _ zero2 _ _ _).trans ?_
    dsimp only [diagStep, rowsQ, rowsO, rowL, View.readAt_eq_ld]
    rw [View.readCov_unit_zero arg12.view zero2, View.ld_unit_zero zero3]; rfl
  rw [e4, e5]
  iintro ⟨H0, H1, H2, H3, ⟨%g8, H6, %h8⟩, ⟨%g11, HS0, %h11⟩, ⟨%g12, HS1, %h12⟩⟩
  have htr : (k0_t2_loop i).trips = 0 := Nat.le_zero.mp (k0_t2_abs i).2.1
  sl_exec
  sl_step
  iapply Hk
  isplitl [H0 H1 H2 H3 H4 H5]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6 H7 H8]
  · isplitl [H6]
    · iexists g8; isplitr; · ipureintro; exact h8
      iexact H6
    isplitl [H7]
    · iexists _; isplitr; swap; · iexact H7
      ipureintro
      refine (read_full _ _ zero3 _ _ _).trans ?_
      rw [View.readAt_eq_ld, View.ld_unit_zero zero2, h11]; rfl
    iexists _; isplitr; swap; · iexact H8
    ipureintro
    refine (read_full _ _ zero3 _ _ _).trans ?_
    rw [View.readAt_eq_ld, View.ld_unit_zero zero2, h12]; rfl
  isplitl [HS0]
  · iexists _, g11; isplitr; swap; · iexact HS0
    ipureintro; rfl
  iexists _, g12; isplitr; swap; · iexact HS1
  ipureintro; rfl

end Run

end Cert.Proof.Body

end
-- ==== Proof.Run.lean ====
module

public import proofs.«01_k».proof.Proof.Body
public import Idealize.ShloMosaic.Lib.Claim

/-! The whole program's run: the proof data of the one launch (what each window's buffer holds after each point), the
body's triple at every point, and the launch with the host lines around it. -/

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen Cert.Proof.Trip Cert.Proof.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's `if` holds exactly at the points that begin a head. -/
theorem first_iff : ∀ t : Fin cfg0.N, first (grid0.coords t) ↔ t.val % 11 = 0 :=
  (fun t => by
    have ht : t.val < 88 := Nat.lt_of_lt_of_eq t.isLt N_0
    have e1 : (grid0.coords t 1).val = t.val / 1 % 11 := Pipeline.Grid.coords_val t 1 (by decide) rfl
    simp only [first, e1]
    word_cmp
   : ∀ t : Fin grid0.N, first (grid0.coords t) ↔ t.val % 11 = 0)

/-- Each window's buffer at a point. -/
abbrev buf0 (t : Fin cfg0.N) : Memref sig .tc .vmem S1x8448x256 .bf16 := win0_0.stage (cfg0.slots t 0)
abbrev buf1 (t : Fin cfg0.N) : Memref sig .tc .vmem S1x8448x128 .bf16 := win0_1.stage (cfg0.slots t 1)
abbrev buf2 (t : Fin cfg0.N) : Memref sig .tc .vmem S1x11x1x768 .f32 := win0_2.stage (cfg0.slots t 2)
abbrev buf3 (t : Fin cfg0.N) : Memref sig .tc .vmem S1x11x1x768 .f32 := win0_3.stage (cfg0.slots t 3)
abbrev buf4 (t : Fin cfg0.N) : Memref sig .tc .vmem S1x768x256 .bf16 := win0_4.stage (cfg0.slots t 4)
abbrev buf5 (t : Fin cfg0.N) : Memref sig .tc .vmem S1x768x128 .bf16 := win0_5.stage (cfg0.slots t 5)
abbrev buf6 (t : Fin cfg0.N) : Memref sig .tc .vmem S1x8448x256 .f32 := win0_6.stage (cfg0.slots t 6)
abbrev buf7 (t : Fin cfg0.N) : Memref sig .tc .vmem S1x768x256 .f32 := win0_7.stage (cfg0.slots t 7)
abbrev buf8 (t : Fin cfg0.N) : Memref sig .tc .vmem S1x768x128 .f32 := win0_8.stage (cfg0.slots t 8)

/-- The launch's invariant spelled out: the two accumulators at some contents, and the generator's register. -/
theorem inv_eq (c : Dev nD) : (Pipeline.ΦA spec0 c : sProp 𝕄)
    = iprop(scratch c (Memref.whole cc0_scratch0) (Memref.whole cc0_scratch1) ∗ (∃ r, prngReg c r)) := by
  unfold Pipeline.ΦA; rw [scopedRest0_eq]; simp only [scratch, owns_whole]; try rfl

/-- The accumulators after point `n`: the gradient of q starts at zero at a head's first point and is taken over from
the point before elsewhere. -/
def accAt (c : Dev nD) : (n : ℕ) → n < cfg0.N → Accs F
  | 0, h => pt 0 h k0_pay19
  | n + 1, h => pt (n + 1) h (if (n + 1) % 11 = 0 then k0_pay19 else (accAt c n (Nat.lt_of_succ_lt h)).1)
where
  /-- One point from a start `g`. -/
  pt (n : ℕ) (h : n < cfg0.N) (g : Vec F S1x8448x256 .f32) : Accs F :=
    point (grid0.coords ⟨n, h⟩) (iblk m c 0 ⟨n, h⟩) (iblk m c 1 ⟨n, h⟩) (iblk m c 2 ⟨n, h⟩) (iblk m c 3 ⟨n, h⟩)
      (iblk m c 4 ⟨n, h⟩) (iblk m c 5 ⟨n, h⟩) g

theorem accAt_first (c : Dev nD) (t : Fin cfg0.N) (h0 : t.val % 11 = 0) :
    accAt m c t.val t.isLt = accAt.pt m c t.val t.isLt k0_pay19 := by
  obtain ⟨n, h⟩ := t
  cases n with
  | zero => rfl
  | succ n => simp only [accAt]; rw [if_pos h0]

theorem accAt_later (c : Dev nD) (t : Fin cfg0.N) (h0 : ¬t.val % 11 = 0) :
    accAt m c t.val t.isLt
      = accAt.pt m c t.val t.isLt (accAt m c (t.val - 1) (Nat.lt_of_le_of_lt (Nat.sub_le _ _) t.isLt)).1 := by
  obtain ⟨n, h⟩ := t
  cases n with
  | zero => exact absurd rfl h0
  | succ n => simp only [accAt]; rw [if_neg h0]; rfl

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => k0_pay5 (accAt m c t.val t.isLt).2.1
    | ⟨8, _⟩ => k0_pay6 (accAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (accAt m c t.val t.isLt).1 := by dsimp only [dats]
theorem after_7 (c : Dev nD) (t : Fin cfg0.N) : (dats m 0 c).after 7 t = k0_pay5 (accAt m c t.val t.isLt).2.1 := by
  dsimp only [dats]
theorem after_8 (c : Dev nD) (t : Fin cfg0.N) : (dats m 0 c).after 8 t = k0_pay6 (accAt m c t.val t.isLt).2.2 := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Inside a head the gradient of q's buffer holds what the point before left. -/
theorem before_6 (c : Dev nD) (t : Fin cfg0.N) (h0 : ¬t.val % 11 = 0) (d) :
    (dats m 0 c).before 6 t d = (accAt m c (t.val - 1) (Nat.lt_of_le_of_lt (Nat.sub_le _ _) t.isLt)).1 := by
  rw [(dats m 0 c).before_out_kept 6 rfl t (fun h => h0 (by omega))
    (Bool.eq_false_iff.mpr fun hf => absurd ((flush0_6 _).mp hf) (by
      have : ¬(t.val - 1) % 11 = 10 := by omega
      exact this)) (fun _ => rfl) (fun _ _ => rfl) d, after_6]

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- What it leaves. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, inv_eq]
  by_cases h0 : t.val % 11 = 0
  · rw [accAt_first m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) ((first_iff t).mpr h0) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    iintro ⟨⟨H0, H1, H2, H3, H4, H5⟩, ⟨H6, H7, H8⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [accAt_later m c t h0]
    simp only [before_6 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ _ _ (iblk m c 0 t) (iblk m c 1 t) (iblk m c 2 t) (iblk m c 3 t) (iblk m c 4 t) (iblk m c 5 t) (fun h => h0 ((first_iff t).mp h)) (accAt m c (t.val - 1) (Nat.lt_of_le_of_lt (Nat.sub_le _ _) t.isLt)).1 Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexists _; iexact H8
    isplitl [HS]; · iexact HS
    iintro ⟨⟨H0, H1, H2, H3, H4, H5⟩, ⟨H6, H7, H8⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
set_option maxHeartbeats 800000 in
/-- The run of the whole program: the launch's arrays, the host lines' results after it, and every counter at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Quiescence: the arguments end as launched and every counter is zero again. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Run

end
-- ==== Proof.Pay.lean ====
/- The body's expressions over the reals, read at one element. -/
module

public import proofs.«01_k».proof.Proof.Trip
public import Idealize.ShloMosaic.Lib.Pointwise
public import Idealize.ShloMosaic.Lib.WordCmp

@[expose] public section

set_option maxRecDepth 16384

noncomputable section

namespace Cert.Proof.Pay

open Cert.KernelIdeal Cert.KernelIdeal.Gen
open Idealize.ShloMosaic

theorem pay20_apply (x : Vec Ideal S1x768x256 .bf16) (a : Fin 768) (d : Fin 256) :
    k0_pay20 x (ix2 a d) = x (ix3 0 a d) := by
  pointwise [k0_pay20]

theorem pay21_apply (x : Vec Ideal S1x768x128 .bf16) (a : Fin 768) (d : Fin 128) :
    k0_pay21 x (ix2 a d) = x (ix3 0 a d) := by
  pointwise [k0_pay21]

theorem pay24_apply (x : Vec Ideal S1x768x256 .bf16) (a : Fin 768) (d : Fin 256) :
    k0_pay24 x (ix2 a d) = x (ix3 0 a d) := by
  pointwise [k0_pay24]

theorem pay25_apply (x : Vec Ideal S1x768x128 .bf16) (a : Fin 768) (d : Fin 128) :
    k0_pay25 x (ix2 a d) = x (ix3 0 a d) := by
  pointwise [k0_pay25]

theorem pay19_apply (j : S1x8448x256.Idx) : k0_pay19 (F := Ideal) j = 0 := by
  pointwise [k0_pay19]

theorem pay22_apply (j : S768x256.Idx) : k0_pay22 (F := Ideal) j = 0 := by
  pointwise [k0_pay22]

theorem pay23_apply (j : S768x128.Idx) : k0_pay23 (F := Ideal) j = 0 := by
  pointwise [k0_pay23]

/-- A tile's probabilities below the diagonal. -/
theorem pay9_apply (v4 : FVec Ideal S768x256 .bf16) (q : Vec Ideal S1x768x256 .bf16) (l : Vec Ideal S1x1x1x768 .f32) (a b : Fin 768) :
    k0_pay9 v4 q l (ix2 a b) = Ideal.exp2 ((∑ d : Fin 256, v4 (ix2 a d) * q (ix3 0 b d)) - l (ix4 0 0 0 b)) := by
  pointwise [k0_pay9, k0_pay7]; rfl

theorem pay10_apply (v4 : FVec Ideal S768x256 .bf16) (q : Vec Ideal S1x768x256 .bf16) (o : Vec Ideal S1x768x128 .bf16)
    (l : Vec Ideal S1x1x1x768 .f32) (s : Vec Ideal S768x128 .f32) (a : Fin 768) (d : Fin 128) :
    k0_pay10 v4 q o l s (ix2 a d) = s (ix2 a d) + ∑ b : Fin 768, k0_pay9 v4 q l (ix2 a b) * o (ix3 0 b d) := by
  pointwise [k0_pay10, k0_pay8]

/-- A tile's score gradients below the diagonal. -/
theorem pay11_apply (v4 : FVec Ideal S768x256 .bf16) (v6 : FVec Ideal S768x128 .bf16) (q : Vec Ideal S1x768x256 .bf16)
    (o : Vec Ideal S1x768x128 .bf16) (l e : Vec Ideal S1x1x1x768 .f32) (a b : Fin 768) :
    k0_pay11 v4 v6 q o l e (ix2 a b)
      = k0_pay9 v4 q l (ix2 a b) * ((∑ d : Fin 128, v6 (ix2 a d) * o (ix3 0 b d)) - e (ix4 0 0 0 b)) := by
  pointwise [k0_pay11, k0_pay8]

theorem pay12_apply (v4 : FVec Ideal S768x256 .bf16) (v6 : FVec Ideal S768x128 .bf16) (q : Vec Ideal S1x768x256 .bf16)
    (o : Vec Ideal S1x768x128 .bf16) (l e : Vec Ideal S1x1x1x768 .f32) (s : Vec Ideal S768x256 .f32) (a : Fin 768) (d : Fin 256) :
    k0_pay1 (k0_pay12 v4 v6 q o l e s) (ix2 a d)
      = s (ix2 a d) + ∑ b : Fin 768, k0_pay11 v4 v6 q o l e (ix2 a b) * q (ix3 0 b d) := by
  pointwise [k0_pay1, k0_pay12, k0_pay7]

theorem pay2_apply (v4 : FVec Ideal S768x256 .bf16) (w : FVec Ideal S768x768 .bf16) (s : Vec Ideal S1x768x256 .f32)
    (b : Fin 768) (d : Fin 256) :
    k0_pay2 v4 w s (ix3 0 b d) = s (ix3 0 b d) + ∑ a : Fin 768, w (ix2 a b) * v4 (ix2 a d) := by
  pointwise [k0_pay2]

/-- The diagonal tile's masked scores. -/
theorem pay26_apply (x : Vec Ideal S1x768x256 .bf16) (q : Vec Ideal S1x768x256 .bf16) (a b : Fin 768) :
    k0_pay26 x q (ix2 a b) = if a.val ≤ b.val then ∑ d : Fin 256, x (ix3 0 a d) * q (ix3 0 b d) else ⊥ := by
  pointwise [k0_pay26, k0_pay20, k0_pay24]
  rw [WordCmp.cmpi_sge_ofNat (by omega) (by omega), IdealRules.named_const.ideal_named_scalar _ _ _ ⊥ rfl]
  exact Scalar.select_decide _ _ _

theorem pay27_apply (v : FVec Ideal S768x768 .f32) (l : Vec Ideal S1x1x1x768 .f32) (a b : Fin 768) :
    k0_pay27 v l (ix2 a b) = Ideal.exp2 (v (ix2 a b) - l (ix4 0 0 0 b)) := by
  pointwise [k0_pay27]; rfl

theorem pay28_apply (o : FVec Ideal S768x128 .bf16) (v : FVec Ideal S768x768 .f32) (l : Vec Ideal S1x1x1x768 .f32)
    (s : Vec Ideal S768x128 .f32) (a : Fin 768) (d : Fin 128) :
    k0_pay28 o v l s (ix2 a d) = s (ix2 a d) + ∑ b : Fin 768, k0_pay27 v l (ix2 a b) * o (ix2 b d) := by
  pointwise [k0_pay28]

theorem pay29_apply (v6 : FVec Ideal S768x128 .bf16) (o : FVec Ideal S768x128 .bf16) (v : FVec Ideal S768x768 .f32)
    (l e : Vec Ideal S1x1x1x768 .f32) (a b : Fin 768) :
    k0_pay29 v6 o v l e (ix2 a b)
      = k0_pay27 v l (ix2 a b) * ((∑ d : Fin 128, v6 (ix2 a d) * o (ix2 b d)) - e (ix4 0 0 0 b)) := by
  pointwise [k0_pay29]

theorem pay30_apply (v6 : FVec Ideal S768x128 .bf16) (q : FVec Ideal S768x256 .bf16) (o : FVec Ideal S768x128 .bf16)
    (v : FVec Ideal S768x768 .f32) (l e : Vec Ideal S1x1x1x768 .f32) (s : Vec Ideal S768x256 .f32) (a : Fin 768) (d : Fin 256) :
    k0_pay30 v6 q o v l e s (ix2 a d) = s (ix2 a d) + ∑ b : Fin 768, k0_pay29 v6 o v l e (ix2 a b) * q (ix2 b d) := by
  pointwise [k0_pay30]

theorem pay31_apply (v4 : FVec Ideal S768x256 .bf16) (v6 : FVec Ideal S768x128 .bf16) (o : FVec Ideal S768x128 .bf16)
    (v : FVec Ideal S768x768 .f32) (l e : Vec Ideal S1x1x1x768 .f32) (s : Vec Ideal S1x768x256 .f32) (b : Fin 768) (d : Fin 256) :
    k0_pay31 v4 v6 o v l e s (ix3 0 b d) = s (ix3 0 b d) + ∑ a : Fin 768, k0_pay29 v6 o v l e (ix2 a b) * v4 (ix2 a d) := by
  pointwise [k0_pay31]

theorem pay5_apply (s : Vec Ideal S768x256 .f32) (a : Fin 768) (d : Fin 256) :
    k0_pay5 s (ix3 0 a d) = s (ix2 a d) * ((Real.log 2 : ℝ) : EReal) := by
  pointwise [k0_pay5]
  rw [IdealRules.named_const.ideal_named_scalar _ _ _ ((Real.log 2 : ℝ) : EReal) rfl]

theorem pay6_apply (s : Vec Ideal S768x128 .f32) (a : Fin 768) (d : Fin 128) :
    k0_pay6 s (ix3 0 a d) = s (ix2 a d) := by
  pointwise [k0_pay6]

end Cert.Proof.Pay

end
-- ==== Proof.Tile.lean ====
/- One head's gradients, tile by tile, over the reals: what the kernel's accumulators hold after a number of query tiles. -/
module

public import proofs.«01_k».proof.Proof.Body
public import proofs.«01_k».proof.Proof.Pay
public import Idealize.ShloMosaic.Lib.Pipeline.ValueKit.Tiles

@[expose] public section

set_option maxRecDepth 16384

noncomputable section

namespace Cert.Proof.Tile

open Cert.KernelIdeal Cert.KernelIdeal.Gen Cert.Proof.Trip Cert.Proof.Body Cert.Proof.Pay
open Idealize.ShloMosaic
open Finset (range)

/-- A sum of products of reals, taken in the extended reals. -/
theorem dot_coe (n : ℕ) (f g : ℕ → ℝ) :
    (∑ k : Fin n, (f k : EReal) * (g k : EReal)) = ((∑ k ∈ range n, f k * g k : ℝ) : EReal) := by
  induction n with
  | zero => simp
  | succ n ih =>
    rw [Fin.sum_univ_castSucc, Finset.sum_range_succ, EReal.coe_add, EReal.coe_mul]
    exact congrArg₂ (· + ·) ih rfl

/-- What one head's call is given, as real functions of row and feature: the scaled queries, the output gradients, the keys,
    the values, and the rows' two statistics. -/
structure Head where
  qs : ℕ → ℕ → ℝ
  co : ℕ → ℕ → ℝ
  kk : ℕ → ℕ → ℝ
  vv : ℕ → ℕ → ℝ
  L : ℕ → ℝ
  dl : ℕ → ℝ

/-- The probability of key `c` in query `r`'s row. -/
def Head.p (H : Head) (r c : ℕ) : ℝ :=
  if c ≤ r then Real.rpow 2 ((∑ d ∈ range 256, H.kk c d * H.qs r d) - H.L r) else 0

/-- The gradient of the score of key `c` in query `r`'s row. -/
def Head.g (H : Head) (r c : ℕ) : ℝ :=
  H.p r c * ((∑ d ∈ range 128, H.vv c d * H.co r d) - H.dl r)

theorem Head.p_above (H : Head) {r c : ℕ} (h : r < c) : H.p r c = 0 := if_neg (by omega)

theorem Head.g_above (H : Head) {r c : ℕ} (h : r < c) : H.g r c = 0 := by rw [Head.g, H.p_above h, zero_mul]

/-- The blocks of a grid point read the head's data, the keys' and values' blocks those of tile `j`. -/
structure Reads (H : Head) (j : ℕ) (x0 : Vec Ideal S1x8448x256 .bf16) (x1 : Vec Ideal S1x8448x128 .bf16)
    (x2 x3 : Vec Ideal S1x11x1x768 .f32) (x4 : Vec Ideal S1x768x256 .bf16) (x5 : Vec Ideal S1x768x128 .bf16) : Prop where
  q : ∀ (r : Fin 8448) (d : Fin 256), x0 (ix3 0 r d) = (H.qs r d : EReal)
  o : ∀ (r : Fin 8448) (d : Fin 128), x1 (ix3 0 r d) = (H.co r d : EReal)
  l : ∀ (n : Fin 11) (b : Fin 768), x2 (ix4 0 n 0 b) = (H.L (768 * n + b) : EReal)
  e : ∀ (n : Fin 11) (b : Fin 768), x3 (ix4 0 n 0 b) = (H.dl (768 * n + b) : EReal)
  k : ∀ (a : Fin 768) (d : Fin 256), x4 (ix3 0 a d) = (H.kk (768 * j + a) d : EReal)
  v : ∀ (a : Fin 768) (d : Fin 128), x5 (ix3 0 a d) = (H.vv (768 * j + a) d : EReal)

/-- What the accumulators hold once the rows below `768 n` have met key tile `j`, from a gradient of q that started at `G`. -/
structure Inv (H : Head) (j : ℕ) (G : ℕ → ℕ → ℝ) (n : ℕ) (s : Accs Ideal) : Prop where
  dq : ∀ (r : Fin 8448) (d : Fin 256), s.1 (ix3 0 r d)
    = ((G r d + if r.val < 768 * n then ∑ a ∈ range 768, H.g r (768 * j + a) * H.kk (768 * j + a) d else 0 : ℝ) : EReal)
  dk : ∀ (a : Fin 768) (d : Fin 256), s.2.1 (ix2 a d) = ((∑ r ∈ range (768 * n), H.g r (768 * j + a) * H.qs r d : ℝ) : EReal)
  dv : ∀ (a : Fin 768) (d : Fin 128), s.2.2 (ix2 a d) = ((∑ r ∈ range (768 * n), H.p r (768 * j + a) * H.co r d : ℝ) : EReal)

/-- A row of the block at its place in the head's rows. -/
theorem emb_row {n : ℕ} (h : ∀ a, (![0, 768 * n, 0] : Fin 3 → ℕ) a + S1x768x256.size a ≤ S1x8448x256.size a) (r : Fin 8448) (d : Fin 256)
    (hr : 768 * n ≤ r.val ∧ r.val < 768 * n + 768) :
    (ix3 0 r d : S1x8448x256.Idx) = (rowsQ ![0, 768 * n, 0] h).emb (ix3 (0 : Fin 1) (⟨r.val - 768 * n, by omega⟩ : Fin 768) d : S1x768x256.Idx) := by
  funext a
  apply Fin.ext
  match a with
  | ⟨0, _⟩ => rfl
  | ⟨1, _⟩ => exact (by omega : r.val = 768 * n + 1 * (r.val - 768 * n))
  | ⟨2, _⟩ => exact (by omega : d.val = 0 + 1 * d.val)

section Loads

variable {x0 : Vec Ideal S1x8448x256 .f32} {n : ℕ} (hn : n < 11)

theorem ldQ {e : EltTy} (x : Vec Ideal S1x8448x256 e) {off : Fin 3 → ℕ} (ho : off = ![0, 768 * n, 0])
    (h : ∀ a, off a + S1x768x256.size a ≤ S1x8448x256.size a) (b : Fin 768) (d : Fin 256) :
    View.ld x (rowsQ off h) (ix3 0 b d) = x (ix3 0 ⟨768 * n + b, by omega⟩ d) := by
  subst ho
  refine View.ld_unit_apply_of _ _ _ _ _ _ fun a => ?_
  match a with
  | ⟨0, _⟩ => rfl
  | ⟨1, _⟩ => rfl
  | ⟨2, _⟩ => exact (Nat.zero_add _).symm

theorem ldO {e : EltTy} (x : Vec Ideal S1x8448x128 e) {off : Fin 3 → ℕ} (ho : off = ![0, 768 * n, 0])
    (h : ∀ a, off a + S1x768x128.size a ≤ S1x8448x128.size a) (b : Fin 768) (d : Fin 128) :
    View.ld x (rowsO off h) (ix3 0 b d) = x (ix3 0 ⟨768 * n + b, by omega⟩ d) := by
  subst ho
  refine View.ld_unit_apply_of _ _ _ _ _ _ fun a => ?_
  match a with
  | ⟨0, _⟩ => rfl
  | ⟨1, _⟩ => rfl
  | ⟨2, _⟩ => exact (Nat.zero_add _).symm

theorem ldL {e : EltTy} (x : Vec Ideal S1x11x1x768 e) {off : Fin 4 → ℕ} (ho : off = ![0, n, 0, 0])
    (h : ∀ a, off a + S1x1x1x768.size a ≤ S1x11x1x768.size a) (b : Fin 768) :
    View.ld x (rowL off h) (ix4 0 0 0 b) = x (ix4 0 ⟨n, hn⟩ 0 b) := by
  subst ho
  refine View.ld_unit_apply_of _ _ _ _ _ _ fun a => ?_
  match a with
  | ⟨0, _⟩ => rfl
  | ⟨1, _⟩ => rfl
  | ⟨2, _⟩ => rfl
  | ⟨3, _⟩ => exact (Nat.zero_add _).symm

/-- Rows `[768 n, 768 (n + 1))` laid over the rest. -/
theorem overQ (x : Vec Ideal S1x8448x256 .f32) {off : Fin 3 → ℕ} (ho : off = ![0, 768 * n, 0])
    (h : ∀ a, off a + S1x768x256.size a ≤ S1x8448x256.size a) (w : Vec Ideal S1x768x256 .f32) (r : Fin 8448) (d : Fin 256) :
    (rowsQ off h).overlay x w (ix3 0 r d)
      = if hr : 768 * n ≤ r.val ∧ r.val < 768 * n + 768 then w (ix3 0 ⟨r.val - 768 * n, by omega⟩ d) else x (ix3 0 r d) := by
  subst ho
  split_ifs with hr
  · exact (congrArg ((rowsQ ![0, 768 * n, 0] h).overlay x w) (emb_row h r d hr)).trans
      (Rect.overlay_emb (rowsQ ![0, 768 * n, 0] h) x w (ix3 (0 : Fin 1) (⟨r.val - 768 * n, by omega⟩ : Fin 768) d : S1x768x256.Idx))
  · refine Rect.overlay_of_not_mem _ _ _ fun hm => hr ?_
    have := (Rect.mem_set_unit.mp hm) 1
    exact ⟨this.1, this.2⟩

end Loads

/-- One query tile more: the accumulators after tile `n` from those before it. -/
theorem Inv.step {H : Head} {j : ℕ} {G : ℕ → ℕ → ℝ} {n : ℕ} (hn : n < 11) {s : Accs Ideal} (hs : Inv H j G n s)
    {off : Fin 3 → ℕ} (ho : off = ![0, 768 * n, 0]) (h : ∀ a, off a + S1x768x256.size a ≤ S1x8448x256.size a)
    (w : Vec Ideal S1x768x256 .f32) (u : Vec Ideal S768x256 .f32) (z : Vec Ideal S768x128 .f32)
    (hw : ∀ (b : Fin 768) (d : Fin 256), w (ix3 0 b d) = View.ld s.1 (rowsQ off h) (ix3 0 b d)
      + ∑ a : Fin 768, (H.g (768 * n + b) (768 * j + a) : EReal) * (H.kk (768 * j + a) d : EReal))
    (hu : ∀ (a : Fin 768) (d : Fin 256), u (ix2 a d) = s.2.1 (ix2 a d)
      + ∑ b : Fin 768, (H.g (768 * n + b) (768 * j + a) : EReal) * (H.qs (768 * n + b) d : EReal))
    (hz : ∀ (a : Fin 768) (d : Fin 128), z (ix2 a d) = s.2.2 (ix2 a d)
      + ∑ b : Fin 768, (H.p (768 * n + b) (768 * j + a) : EReal) * (H.co (768 * n + b) d : EReal)) :
    Inv H j G (n + 1) ((rowsQ off h).overlay s.1 w, u, z) where
  dq r d := by
    have := overQ s.1 ho h w r d
    dsimp only
    rw [this]
    split_ifs with h1 h2 h2
    · rw [hw, ldQ hn s.1 ho, hs.dq, dot_coe 768 (fun a => H.g (768 * n + (r.val - 768 * n)) (768 * j + a)) (fun a => H.kk (768 * j + a) d),
        ← EReal.coe_add]
      have e : 768 * n + (r.val - 768 * n) = r.val := by omega
      simp only [e]
      rw [if_neg (by omega), add_zero]
    · omega
    · rw [hs.dq, if_pos (by omega)]
    · rw [hs.dq, if_neg (by omega)]
  dk a d := by
    refine (hu a d).trans ?_
    rw [hs.dk, dot_coe 768 (fun b => H.g (768 * n + b) (768 * j + a)) (fun b => H.qs (768 * n + b) d), ← EReal.coe_add,
      Nat.mul_succ, Finset.sum_range_add]
  dv a d := by
    refine (hz a d).trans ?_
    rw [hs.dv, dot_coe 768 (fun b => H.p (768 * n + b) (768 * j + a)) (fun b => H.co (768 * n + b) d), ← EReal.coe_add,
      Nat.mul_succ, Finset.sum_range_add]

section Values

variable {H : Head} {j n : ℕ} {x0 : Vec Ideal S1x8448x256 .bf16} {x1 : Vec Ideal S1x8448x128 .bf16}
  {x2 x3 : Vec Ideal S1x11x1x768 .f32} {x4 : Vec Ideal S1x768x256 .bf16} {x5 : Vec Ideal S1x768x128 .bf16}
  (hx : Reads H j x0 x1 x2 x3 x4 x5) (hn : n < 11)

include hx hn

/-- The scores of a tile, and its products of values with output gradients. -/
theorem score {off : Fin 3 → ℕ} (ho : off = ![0, 768 * n, 0]) (h : ∀ a, off a + S1x768x256.size a ≤ S1x8448x256.size a)
    (a b : Fin 768) :
    (∑ d : Fin 256, x4 (ix3 0 a d) * View.ld x0 (rowsQ off h) (ix3 0 b d) : EReal)
      = ((∑ d ∈ range 256, H.kk (768 * j + a) d * H.qs (768 * n + b) d : ℝ) : EReal) :=
  (Finset.sum_congr rfl fun d _ => Ideal.mul_congr (hx.k a d) ((ldQ hn x0 ho h b d).trans (hx.q _ d))).trans
    (dot_coe 256 (fun d => H.kk (768 * j + a) d) (fun d => H.qs (768 * n + b) d))

theorem outer {off : Fin 3 → ℕ} (ho : off = ![0, 768 * n, 0]) (h : ∀ a, off a + S1x768x128.size a ≤ S1x8448x128.size a)
    (a b : Fin 768) :
    (∑ d : Fin 128, x5 (ix3 0 a d) * View.ld x1 (rowsO off h) (ix3 0 b d) : EReal)
      = ((∑ d ∈ range 128, H.vv (768 * j + a) d * H.co (768 * n + b) d : ℝ) : EReal) :=
  (Finset.sum_congr rfl fun d _ => Ideal.mul_congr (hx.v a d) ((ldO hn x1 ho h b d).trans (hx.o _ d))).trans
    (dot_coe 128 (fun d => H.vv (768 * j + a) d) (fun d => H.co (768 * n + b) d))

/-- A tile below the diagonal: its probabilities and its score gradients. -/
theorem prob_below (hj : j < n) {off : Fin 3 → ℕ} (ho : off = ![0, 768 * n, 0]) (h : ∀ a, off a + S1x768x256.size a ≤ S1x8448x256.size a)
    {off' : Fin 4 → ℕ} (ho' : off' = ![0, n, 0, 0]) (h' : ∀ a, off' a + S1x1x1x768.size a ≤ S1x11x1x768.size a) (a b : Fin 768) :
    k0_pay9 (k0_pay20 x4) (View.ld x0 (rowsQ off h)) (View.ld x2 (rowL off' h')) (ix2 a b)
      = (H.p (768 * n + b) (768 * j + a) : EReal) := by
  rw [pay9_apply]
  simp only [pay20_apply]
  rw [score hx hn ho h a b, ldL hn x2 ho' h' b, hx.l ⟨n, hn⟩ b, ← EReal.coe_sub, Ideal.exp2_coe, Head.p, if_pos (by omega)]

theorem grad_below (hj : j < n) {off : Fin 3 → ℕ} (ho : off = ![0, 768 * n, 0]) (h : ∀ a, off a + S1x768x256.size a ≤ S1x8448x256.size a)
    {off₂ : Fin 3 → ℕ} (ho₂ : off₂ = ![0, 768 * n, 0]) (h₂ : ∀ a, off₂ a + S1x768x128.size a ≤ S1x8448x128.size a)
    {off' : Fin 4 → ℕ} (ho' : off' = ![0, n, 0, 0]) (h' : ∀ a, off' a + S1x1x1x768.size a ≤ S1x11x1x768.size a) (a b : Fin 768) :
    k0_pay11 (k0_pay20 x4) (k0_pay21 x5) (View.ld x0 (rowsQ off h)) (View.ld x1 (rowsO off₂ h₂)) (View.ld x2 (rowL off' h'))
      (View.ld x3 (rowL off' h')) (ix2 a b) = (H.g (768 * n + b) (768 * j + a) : EReal) := by
  rw [pay11_apply, prob_below hx hn hj ho h ho' h' a b]
  simp only [pay21_apply]
  rw [outer hx hn ho₂ h₂ a b, ldL hn x3 ho' h' b, hx.e ⟨n, hn⟩ b, ← EReal.coe_sub, ← EReal.coe_mul, Head.g]

/-- The tile on the diagonal likewise. -/
theorem prob_diag (hj : j = n) {off : Fin 3 → ℕ} (ho : off = ![0, 768 * n, 0]) (h : ∀ a, off a + S1x768x256.size a ≤ S1x8448x256.size a)
    {off' : Fin 4 → ℕ} (ho' : off' = ![0, n, 0, 0]) (h' : ∀ a, off' a + S1x1x1x768.size a ≤ S1x11x1x768.size a) (a b : Fin 768) :
    k0_pay27 (k0_pay26 x4 (View.ld x0 (rowsQ off h))) (View.ld x2 (rowL off' h')) (ix2 a b)
      = (H.p (768 * n + b) (768 * j + a) : EReal) := by
  rw [pay27_apply, pay26_apply, score hx hn ho h a b, ldL hn x2 ho' h' b, hx.l ⟨n, hn⟩ b]
  by_cases hab : a.val ≤ b.val
  · rw [if_pos hab, ← EReal.coe_sub, Ideal.exp2_coe, Head.p, if_pos (by omega)]
  · rw [if_neg hab, EReal.bot_sub, Ideal.exp2_bot, H.p_above (by omega), EReal.coe_zero]

theorem grad_diag (hj : j = n) {off : Fin 3 → ℕ} (ho : off = ![0, 768 * n, 0]) (h : ∀ a, off a + S1x768x256.size a ≤ S1x8448x256.size a)
    {off₂ : Fin 3 → ℕ} (ho₂ : off₂ = ![0, 768 * n, 0]) (h₂ : ∀ a, off₂ a + S1x768x128.size a ≤ S1x8448x128.size a)
    {off' : Fin 4 → ℕ} (ho' : off' = ![0, n, 0, 0]) (h' : ∀ a, off' a + S1x1x1x768.size a ≤ S1x11x1x768.size a) (a b : Fin 768) :
    k0_pay29 (k0_pay21 x5) (k0_pay25 (View.ld x1 (rowsO off₂ h₂))) (k0_pay26 x4 (View.ld x0 (rowsQ off h))) (View.ld x2 (rowL off' h'))
      (View.ld x3 (rowL off' h')) (ix2 a b) = (H.g (768 * n + b) (768 * j + a) : EReal) := by
  rw [pay29_apply, prob_diag hx hn hj ho h ho' h' a b]
  simp only [pay21_apply, pay25_apply]
  rw [outer hx hn ho₂ h₂ a b, ldL hn x3 ho' h' b, hx.e ⟨n, hn⟩ b, ← EReal.coe_sub, ← EReal.coe_mul, Head.g]

end Values

theorem trips_eq : ∀ i : grid0.Coords, (k0_t1_loop i).trips = 10 - (i 1).val := by decide +kernel

section Point

variable {H : Head} {i : grid0.Coords} {x0 : Vec Ideal S1x8448x256 .bf16} {x1 : Vec Ideal S1x8448x128 .bf16}
  {x2 x3 : Vec Ideal S1x11x1x768 .f32} {x4 : Vec Ideal S1x768x256 .bf16} {x5 : Vec Ideal S1x768x128 .bf16}
  (hx : Reads H (i 1).val x0 x1 x2 x3 x4 x5) {G : ℕ → ℕ → ℝ}

include hx

theorem diag_inv {s : Accs Ideal} (hs : Inv H (i 1).val G (i 1).val s) :
    Inv H (i 1).val G ((i 1).val + 1) (diagStep i x0 x1 x2 x3 x4 x5 s) := by
  have hi : (i 1).val < 11 := (i 1).isLt
  refine hs.step hi (k0_off1_eq i) (k0_off1_inb i) _ _ _ (fun b d => ?_) (fun a d => ?_) (fun a d => ?_)
  · rw [pay31_apply]
    refine congrArg _ (Finset.sum_congr rfl fun a _ => Ideal.mul_congr ?_ ((pay20_apply _ _ _).trans (hx.k a d)))
    exact grad_diag hx hi rfl (k0_off1_eq i) _ (k0_off2_eq i) _ (k0_off3_eq i) _ a b
  · rw [pay30_apply]
    refine congrArg _ (Finset.sum_congr rfl fun b _ => Ideal.mul_congr ?_ ?_)
    · exact grad_diag hx hi rfl (k0_off1_eq i) _ (k0_off2_eq i) _ (k0_off3_eq i) _ a b
    · exact (pay24_apply _ _ _).trans ((ldQ hi x0 (k0_off1_eq i) _ b d).trans (hx.q _ d))
  · rw [pay28_apply]
    refine congrArg _ (Finset.sum_congr rfl fun b _ => Ideal.mul_congr ?_ ?_)
    · exact prob_diag hx hi rfl (k0_off1_eq i) _ (k0_off3_eq i) _ a b
    · exact (pay25_apply _ _ _).trans ((ldO hi x1 (k0_off2_eq i) _ b d).trans (hx.o _ d))

theorem trip_inv (k : Fin (k0_t1_loop i).trips) {s : Accs Ideal} (hs : Inv H (i 1).val G ((i 1).val + k + 1) s) :
    Inv H (i 1).val G ((i 1).val + k + 1 + 1) (tripStep i (k0_pay20 x4) (k0_pay21 x5) x0 x1 x2 x3 k s) := by
  have hk : k.val < 10 - (i 1).val := by rw [← trips_eq i]; exact k.isLt
  have hi : (i 1).val + k.val + 1 < 11 := by omega
  have hj : (i 1).val < (i 1).val + k.val + 1 := by omega
  have e4 : k0_off4 i k = ![0, 768 * ((i 1).val + k.val + 1), 0] := by
    rw [k0_off4_eq i k, show 768 * (i 1).val + 768 * k.val + 768 = 768 * ((i 1).val + k.val + 1) by ring]
  have e5 : k0_off5 i k = ![0, 768 * ((i 1).val + k.val + 1), 0] := by
    rw [k0_off5_eq i k, show 768 * (i 1).val + 768 * k.val + 768 = 768 * ((i 1).val + k.val + 1) by ring]
  have e6 := k0_off6_eq i k
  refine hs.step hi e4 (k0_off4_inb i k) _ _ _ (fun b d => ?_) (fun a d => ?_) (fun a d => ?_)
  · rw [pay2_apply]
    refine congrArg _ (Finset.sum_congr rfl fun a _ => Ideal.mul_congr ?_ ((pay20_apply _ _ _).trans (hx.k a d)))
    exact grad_below hx hi hj e4 _ e5 _ e6 _ a b
  · rw [pay12_apply]
    refine congrArg _ (Finset.sum_congr rfl fun b _ => Ideal.mul_congr ?_ ?_)
    · exact grad_below hx hi hj e4 _ e5 _ e6 _ a b
    · exact (ldQ hi x0 e4 _ b d).trans (hx.q _ d)
  · rw [pay10_apply]
    refine congrArg _ (Finset.sum_congr rfl fun b _ => Ideal.mul_congr ?_ ?_)
    · exact prob_below hx hi hj e4 _ e6 _ a b
    · exact (ldO hi x1 e5 _ b d).trans (hx.o _ d)

theorem trips_inv {s : Accs Ideal} (hs : Inv H (i 1).val G ((i 1).val + 1) s) :
    ∀ k : ℕ, k ≤ (k0_t1_loop i).trips → Inv H (i 1).val G ((i 1).val + k + 1) (trips i (k0_pay20 x4) (k0_pay21 x5) x0 x1 x2 x3 s k)
  | 0, _ => hs
  | k + 1, h => by
    rw [trips, dif_pos (by omega : k < _)]
    exact trip_inv hx ⟨k, by omega⟩ (trips_inv hs k (by omega))

/-- The accumulators at the end of a grid point. -/
theorem point_inv {g : Vec Ideal S1x8448x256 .f32} (hg : ∀ (r : Fin 8448) (d : Fin 256), g (ix3 0 r d) = (G r d : EReal)) :
    Inv H (i 1).val G 11 (point i x0 x1 x2 x3 x4 x5 g) := by
  have h0 : Inv H (i 1).val G (i 1).val (g, k0_pay22 (F := Ideal), k0_pay23 (F := Ideal)) := by
    refine ⟨fun r d => ?_, fun a d => ?_, fun a d => ?_⟩
    · refine (hg r d).trans ?_
      split_ifs with h
      · rw [Finset.sum_eq_zero fun a ha => by rw [H.g_above (by omega), zero_mul], add_zero]
      · rw [add_zero]
    · refine (pay22_apply (ix2 a d)).trans ?_
      rw [Finset.sum_eq_zero fun r hr => by rw [H.g_above (by have := Finset.mem_range.mp hr; omega), zero_mul], EReal.coe_zero]
    · refine (pay23_apply (ix2 a d)).trans ?_
      rw [Finset.sum_eq_zero fun r hr => by rw [H.p_above (by have := Finset.mem_range.mp hr; omega), zero_mul], EReal.coe_zero]
  have h := trips_inv hx (diag_inv hx h0) (k0_t1_loop i).trips le_rfl
  have hi : (i 1).val < 11 := (i 1).isLt
  have e : (i 1).val + (k0_t1_loop i).trips + 1 = 11 := by rw [trips_eq i]; omega
  rw [e] at h
  exact h

end Point

end Cert.Proof.Tile

end
-- ==== Proof.Spec.lean ====
/- The gradients of causal softmax attention over the reals, one head at a time: the row statistics, the probabilities, the
   score gradients and the three results, and the two forms in which the programs compute them. -/
module

public import Idealize.ShloMosaic.PureOps.Ideal
public import Idealize.ShloMosaic.PureOps.Ideal.Laws
public import Mathlib.Analysis.SpecialFunctions.Pow.Real

@[expose] public section

noncomputable section

namespace Cert.Proof.Spec

open Idealize.ShloMosaic
open Finset (range)

/-- One head's queries, keys, values and output gradients, as functions of row and feature, and the scores' scale. -/
structure Attn where
  Q : ℕ → ℕ → ℝ
  K : ℕ → ℕ → ℝ
  W : ℕ → ℕ → ℝ
  C : ℕ → ℕ → ℝ
  σ : ℝ

variable (A : Attn)

/-- The scaled score of key `c` in query `r`'s row. -/
def Attn.s (r c : ℕ) : ℝ := (∑ d ∈ range 256, A.Q r d * A.K c d) * A.σ

/-- A row's largest score among the keys it sees, in the extended reals, and as a real. -/
def Attn.M (r : ℕ) : EReal :=
  (Finset.univ : Finset (Fin 8448)).fold max ⊥ fun c => if c.val ≤ r then (A.s r c.val : EReal) else ⊥
def Attn.m (r : ℕ) : ℝ := (A.M r).toReal

/-- The exponentials, their row sum, the probabilities. -/
def Attn.e (r c : ℕ) : ℝ := if c ≤ r then Real.exp (A.s r c - A.m r) else 0
def Attn.l (r : ℕ) : ℝ := ∑ c ∈ range 8448, A.e r c
def Attn.p (r c : ℕ) : ℝ := A.e r c / A.l r

/-- The probabilities' gradients, their row average, the scores' gradients. -/
def Attn.dp (r c : ℕ) : ℝ := ∑ d ∈ range 128, A.C r d * A.W c d
def Attn.δ (r : ℕ) : ℝ := ∑ c ∈ range 8448, A.p r c * A.dp r c
def Attn.g (r c : ℕ) : ℝ := A.p r c * (A.dp r c - A.δ r)

/-- The three gradients. -/
def Attn.dq (r d : ℕ) : ℝ := (∑ c ∈ range 8448, A.g r c * A.K c d) * A.σ
def Attn.dk (c d : ℕ) : ℝ := (∑ r ∈ range 8448, A.g r c * A.Q r d) * A.σ
def Attn.dv (c d : ℕ) : ℝ := ∑ r ∈ range 8448, A.p r c * A.C r d

variable {A}

theorem fold_max_ne_top {ι : Type} (S : Finset ι) (f : ι → EReal) (h : ∀ i, f i ≠ ⊤) : S.fold max ⊥ f ≠ ⊤ := by
  classical
  induction S using Finset.induction_on with
  | empty => simp
  | insert a S ha ih =>
    rw [Finset.fold_insert ha]
    rcases max_choice (f a) (S.fold max ⊥ f) with e | e <;> rw [e]
    · exact h a
    · exact ih

theorem M_eq (r : ℕ) : A.M r = (A.m r : EReal) := by
  refine (EReal.coe_toReal ?_ ?_).symm
  · refine fold_max_ne_top _ _ fun c => ?_
    split_ifs
    · exact EReal.coe_ne_top _
    · exact bot_ne_top
  · intro h
    have h0 : ((A.s r 0 : ℝ) : EReal) ≤ A.M r := by
      rw [Attn.M, Finset.le_fold_max]
      exact Or.inr ⟨⟨0, by omega⟩, Finset.mem_univ _, by rw [if_pos (Nat.zero_le r)]⟩
    rw [h, le_bot_iff] at h0
    exact EReal.coe_ne_bot _ h0

theorem e_above {r c : ℕ} (h : r < c) : A.e r c = 0 := if_neg (by omega)

theorem e_nonneg (r c : ℕ) : 0 ≤ A.e r c := by
  rw [Attn.e]; split_ifs
  · exact (Real.exp_pos _).le
  · exact le_rfl

theorem l_pos (r : ℕ) : 0 < A.l r := by
  refine Finset.sum_pos' (fun c _ => e_nonneg r c) ⟨0, Finset.mem_range.mpr (by omega), ?_⟩
  rw [Attn.e, if_pos (Nat.zero_le r)]
  exact Real.exp_pos _

theorem l_ne (r : ℕ) : A.l r ≠ 0 := (l_pos r).ne'

theorem p_above {r c : ℕ} (h : r < c) : A.p r c = 0 := by rw [Attn.p, e_above h, zero_div]

theorem g_above {r c : ℕ} (h : r < c) : A.g r c = 0 := by rw [Attn.g, p_above h, zero_mul]

/-- The row average as the product of the row's output with its gradient. -/
theorem δ_eq (r : ℕ) : ∑ d ∈ range 128, (∑ c ∈ range 8448, A.p r c * A.W c d) * A.C r d = A.δ r := by
  simp only [Attn.δ, Attn.dp, Finset.sum_mul, Finset.mul_sum]
  rw [Finset.sum_comm]
  refine Finset.sum_congr rfl fun c _ => Finset.sum_congr rfl fun d _ => ?_
  ring

/-- The score gradient as differentiating the quotient `e / l` gives it. -/
theorem g_eq (r c : ℕ) :
    (A.dp r c / A.l r + -∑ k ∈ range 8448, A.dp r k * (1 / (A.l r * A.l r)) * A.e r k) * A.e r c = A.g r c := by
  have hl := l_ne (A := A) r
  have : ∑ k ∈ range 8448, A.dp r k * (1 / (A.l r * A.l r)) * A.e r k = A.δ r / A.l r := by
    rw [Attn.δ, Finset.sum_div]
    refine Finset.sum_congr rfl fun k _ => ?_
    rw [Attn.p]; field_simp
  rw [this, Attn.g, Attn.p]
  field_simp
  ring

/-- The probability as a power of two of the scaled scores less the row's logarithm. -/
theorem p_eq_rpow {r c : ℕ} (h : c ≤ r) :
    Real.rpow 2 ((∑ d ∈ range 256, A.K c d * (A.Q r d * A.σ / Real.log 2)) - (A.m r + Real.log (A.l r)) / Real.log 2) = A.p r c := by
  have h2 : Real.log 2 ≠ 0 := (Real.log_pos one_lt_two).ne'
  have e1 : ∑ d ∈ range 256, A.K c d * (A.Q r d * A.σ / Real.log 2) = A.s r c / Real.log 2 := by
    rw [Attn.s, Finset.sum_mul, Finset.sum_div]
    exact Finset.sum_congr rfl fun d _ => by ring
  rw [e1, ← sub_div, Attn.p, Attn.e, if_pos h]
  show (2 : ℝ) ^ ((A.s r c - (A.m r + Real.log (A.l r))) / Real.log 2) = _
  rw [Real.rpow_def_of_pos two_pos, mul_div_cancel₀ _ h2, ← sub_sub, Real.exp_sub, Real.exp_log (l_pos r)]

end Cert.Proof.Spec

end
-- ==== Proof.Host.lean ====
/- What the host computes before the call, over the reals: the scaled queries, the rows' log-sum-exps and the row averages. -/
module

public import proofs.«01_k».proof.Proof.Run
public import proofs.«01_k».proof.Proof.Tile
public import proofs.«01_k».proof.Proof.Spec
public import Idealize.ShloMosaic.Lib.Pointwise
public import Idealize.ShloMosaic.Lib.WordCmp

@[expose] public section

set_option maxRecDepth 16384

noncomputable section

namespace Cert.Proof.Host

open Cert.KernelIdeal Cert.KernelIdeal.Gen Cert.Proof.Spec Cert.Proof.Tile
open Idealize.ShloMosaic Idealize.ShloMosaic.TcCoe Idealize.ShloMosaic.Tactic
open Finset (range)

/-- The scores' scale: the real number that the printed constant is. -/
def σ : ℝ := (Ideal.ofBits .f32 0x3D93CD3A#32).toReal

theorem σ_eq : Ideal.ofBits .f32 0x3D93CD3A#32 = (σ : EReal) := by
  refine (EReal.coe_toReal ?_ ?_).symm <;> simp [Ideal.ofBits, Ideal.ieee, -EReal.coe_mul]

theorem two_eq : Ideal.ofBits .f32 0x40000000#32 = ((2 : ℝ) : EReal) := by
  simp [Ideal.ofBits, Ideal.ieee, -EReal.coe_mul]; norm_num

theorem neg_inf_eq : Ideal.ofBits .f32 0xFF800000#32 = ⊥ := by
  simp [Ideal.ofBits, Ideal.ieee]

abbrev Q8 := FVec Ideal S8x8448x256 .f32
abbrev W8 := FVec Ideal S8x8448x128 .f32

/-- The host's arrays, stage by stage. -/
def lg2 : FVec Ideal S_ .f32 := Host.log (constant S_ .f32 0x40000000#32)
def sc (q k : Q8) : FVec Ideal S8x8448x8448 .f32 :=
  mulf (Host.dotGeneral dot_S8x8448x256_S8x8448x256_S8x8448x8448_2_2_1_1_0_0 none q k)
    (broadcastInDim S8x8448x8448 ![] bcast_S_S8x8448x8448 (constant S_ .f32 0x3D93CD3A#32))
def below : IVec S8448x8448 1 :=
  cmpi .sle (broadcastInDim S8448x8448 ![0, 1] bcast_S1x8448_S8448x8448_0_1 (broadcastInDim S1x8448 ![1] bcast_S8448_S1x8448_1 (iotaInDim S8448 32 0)))
    (broadcastInDim S8448x8448 ![0, 1] bcast_S8448x1_S8448x8448_0_1 (broadcastInDim S8448x1 ![0] bcast_S8448_S8448x1_0 (iotaInDim S8448 32 0)))
def sm (q k : Q8) : FVec Ideal S8x8448x8448 .f32 :=
  select (broadcastInDim S8x8448x8448 ![1, 2] bcast_S8448x8448_S8x8448x8448_1_2 below) (sc q k)
    (broadcastInDim S8x8448x8448 ![] bcast_S_S8x8448x8448 (constant S_ .f32 0xFF800000#32))
def mx (q k : Q8) : FVec Ideal S8x8448 .f32 :=
  Host.reduce FloatOps.maximumf (sm q k) (constant S_ .f32 0xFF800000#32) reducesTo_S8x8448x8448_S8x8448_d2 h_S_
def mxc (q k : Q8) : FVec Ideal S8x8448x1 .f32 := broadcastInDim S8x8448x1 ![0, 1] bcast_S8x8448_S8x8448x1_0_1 (mx q k)
def ex (q k : Q8) : FVec Ideal S8x8448x8448 .f32 :=
  Host.exp (subf (sm q k) (broadcastInDim S8x8448x8448 ![0, 1, 2] bcast_S8x8448x1_S8x8448x8448_0_1_2 (mxc q k)))
def su (q k : Q8) : FVec Ideal S8x8448 .f32 :=
  Host.reduceAdd (ex q k) (constant S_ .f32 0x00000000#32) reducesTo_S8x8448x8448_S8x8448_d2 h_S_
def suc (q k : Q8) : FVec Ideal S8x8448x1 .f32 := broadcastInDim S8x8448x1 ![0, 1] bcast_S8x8448_S8x8448x1_0_1 (su q k)
def pr (q k : Q8) : FVec Ideal S8x8448x8448 .f32 :=
  Host.divf (ex q k) (broadcastInDim S8x8448x8448 ![0, 1, 2] bcast_S8x8448x1_S8x8448x8448_0_1_2 (suc q k))
def ou (q k : Q8) (v : W8) : W8 := Host.dotGeneral dot_S8x8448x8448_S8x8448x128_S8x8448x128_2_1_1_2_0_0 none (pr q k) v
def lse (q k : Q8) : FVec Ideal S8x8448x1 .f32 :=
  Host.divf (addf (mxc q k) (Host.log (suc q k))) (broadcastInDim S8x8448x1 ![] bcast_S_S8x8448x1 lg2)
def dlt (q k : Q8) (v ct : W8) : FVec Ideal S8x8448 .f32 :=
  Host.reduceAdd (mulf (ou q k v) ct) (constant S_ .f32 0x00000000#32) reducesTo_S8x8448x128_S8x8448_d2 h_S_
def qs (q : Q8) : FVec Ideal S8x8448x256 .bf16 :=
  truncf .bf16 (Host.divf (mulf q (broadcastInDim S8x8448x256 ![] bcast_S_S8x8448x256 (constant S_ .f32 0x3D93CD3A#32)))
    (broadcastInDim S8x8448x256 ![] bcast_S_S8x8448x256 lg2)) bitsLt_bf16_f32

section Entry

variable (m : (ℓ : Loc nD τ sig) → Buf (Elt Ideal) ℓ) (c : Dev nD)

theorem V33 : V m c main_v33 = qs (m (c, Proc.tc.devRef main_arg0)) := by
  dsimp only [V, V0, hostOps0, hostOps0_1, hostOps0_2, List.flatten, List.append]
  after_results
  rfl

theorem V34 : V m c main_v34 = truncf (F := Ideal) .bf16 (m (c, Proc.tc.devRef main_arg1)) bitsLt_bf16_f32 := by
  dsimp only [V, V0, hostOps0, hostOps0_1, hostOps0_2, List.flatten, List.append]
  after_results

theorem V35 : V m c main_v35 = truncf (F := Ideal) .bf16 (m (c, Proc.tc.devRef main_arg2)) bitsLt_bf16_f32 := by
  dsimp only [V, V0, hostOps0, hostOps0_1, hostOps0_2, List.flatten, List.append]
  after_results

theorem V36 : V m c main_v36 = truncf (F := Ideal) .bf16 (m (c, Proc.tc.devRef main_arg3)) bitsLt_bf16_f32 := by
  dsimp only [V, V0, hostOps0, hostOps0_1, hostOps0_2, List.flatten, List.append]
  after_results

theorem V25 : V m c main_v25 = shapeCast S8x11x1x768 (lse (m (c, Proc.tc.devRef main_arg0)) (m (c, Proc.tc.devRef main_arg1)))
    shapeCasts_S8x8448x1_S8x11x1x768 := by
  dsimp only [V, V0, hostOps0, hostOps0_1, hostOps0_2, List.flatten, List.append]
  after_results
  rfl

theorem V28 : V m c main_v28 = shapeCast S8x11x1x768 (dlt (m (c, Proc.tc.devRef main_arg0)) (m (c, Proc.tc.devRef main_arg1))
    (m (c, Proc.tc.devRef main_arg2)) (m (c, Proc.tc.devRef main_arg3))) shapeCasts_S8x8448_S8x11x1x768 := by
  dsimp only [V, V0, hostOps0, hostOps0_1, hostOps0_2, List.flatten, List.append]
  after_results
  rfl

end Entry

section Values

variable {q k : Q8} {v ct : W8} {A : ℕ → Attn} (hσ : ∀ h, (A h).σ = σ)
  (hq : ∀ (h : Fin 8) (r : Fin 8448) (d : Fin 256), q (ix3 h r d) = ((A h).Q r d : EReal))
  (hk : ∀ (h : Fin 8) (r : Fin 8448) (d : Fin 256), k (ix3 h r d) = ((A h).K r d : EReal))
  (hv : ∀ (h : Fin 8) (r : Fin 8448) (d : Fin 128), v (ix3 h r d) = ((A h).W r d : EReal))
  (hc : ∀ (h : Fin 8) (r : Fin 8448) (d : Fin 128), ct (ix3 h r d) = ((A h).C r d : EReal))

omit hσ hq hk hv hc in
theorem lg2_apply (j : S_.Idx) : lg2 j = ((Real.log 2 : ℝ) : EReal) := by
  pointwise [lg2]
  rw [two_eq, Ideal.log_coe, if_neg (by norm_num)]

include hσ hq hk

theorem sc_apply (h : Fin 8) (r c : Fin 8448) : sc q k (ix3 h r c) = ((A h).s r c : EReal) := by
  pointwise [sc]
  simp only [hq, hk]
  rw [dot_coe 256 (fun d => (A h).Q r d) (fun d => (A h).K c d), σ_eq, ← EReal.coe_mul, Attn.s, hσ]

theorem sm_apply (h : Fin 8) (r c : Fin 8448) :
    sm q k (ix3 h r c) = if c.val ≤ r.val then ((A h).s r c : EReal) else ⊥ := by
  pointwise [sm, below]
  rw [WordCmp.cmpi_sle_ofNat (by omega) (by omega), neg_inf_eq, sc_apply hσ hq hk]
  exact Scalar.select_decide _ _ _

theorem mx_apply (h : Fin 8) (r : Fin 8448) : mx q k (ix2 h r) = ((A h).m r : EReal) := by
  pointwise [mx]
  rw [neg_inf_eq, ← M_eq, Attn.M]
  simp only [sm_apply hσ hq hk]

theorem ex_apply (h : Fin 8) (r c : Fin 8448) : ex q k (ix3 h r c) = ((A h).e r c : EReal) := by
  pointwise [ex, mxc]
  rw [sm_apply hσ hq hk, mx_apply hσ hq hk, Attn.e]
  split_ifs
  · rw [← EReal.coe_sub, Ideal.exp_coe]
  · rw [EReal.bot_sub, Ideal.exp_bot, EReal.coe_zero]

omit hσ hq hk in
/-- A sum of reals, taken in the extended reals. -/
theorem sum_coe (n : ℕ) (f : ℕ → ℝ) : (∑ i : Fin n, (f i : EReal)) = ((∑ i ∈ range n, f i : ℝ) : EReal) := by
  have := dot_coe n f fun _ => 1
  simpa using this

theorem su_apply (h : Fin 8) (r : Fin 8448) : su q k (ix2 h r) = ((A h).l r : EReal) := by
  pointwise [su]
  simp only [ex_apply hσ hq hk]
  exact sum_coe 8448 (fun c => (A h).e r c)

theorem pr_apply (h : Fin 8) (r c : Fin 8448) : pr q k (ix3 h r c) = ((A h).p r c : EReal) := by
  pointwise [pr, suc]
  rw [ex_apply hσ hq hk, su_apply hσ hq hk, Ideal.div_coe (l_ne _), ← EReal.coe_mul, Attn.p, mul_one_div]

omit hσ hq hk in
theorem mxc_at (h : Fin 8) (r : Fin 8448) (z : Fin 1) : mxc q k (ix3 h r z) = mx q k (ix2 h r) := by
  pointwise [mxc]

omit hσ hq hk in
theorem suc_at (h : Fin 8) (r : Fin 8448) (z : Fin 1) : suc q k (ix3 h r z) = su q k (ix2 h r) := by
  pointwise [suc]

omit hσ hq hk in
/-- A sum with a logarithm, over a broadcast scalar. -/
theorem div_log_at (x y : FVec Ideal S8x8448x1 .f32) (g : FVec Ideal S_ .f32) (y0 : EReal) (hg : ∀ j, g j = y0) (j : S8x8448x1.Idx) :
    Host.divf (addf x (Host.log y)) (broadcastInDim S8x8448x1 ![] bcast_S_S8x8448x1 g) j
      = Ideal.div (x j + Ideal.log (y j)) y0 :=
  congrArg (Ideal.div (x j + Ideal.log (y j))) (hg _)

theorem lse_at (h : Fin 8) (r : Fin 8448) (z : Fin 1) :
    lse q k (ix3 h r z) = ((((A h).m r + Real.log ((A h).l r)) / Real.log 2 : ℝ) : EReal) := by
  refine (div_log_at (mxc q k) (suc q k) lg2 _ lg2_apply (ix3 h r z)).trans ?_
  rw [mxc_at, suc_at, mx_apply hσ hq hk, su_apply hσ hq hk, Ideal.log_coe, if_neg (not_le.mpr (l_pos _)), ← EReal.coe_add,
    Ideal.div_coe (Real.log_pos one_lt_two).ne', ← EReal.coe_mul, mul_one_div]

theorem lse_apply (h : Fin 8) (n : Fin 11) (b : Fin 768) :
    shapeCast S8x11x1x768 (lse q k) shapeCasts_S8x8448x1_S8x11x1x768 (ix4 h n 0 b)
      = ((((A h).m (768 * n + b) + Real.log ((A h).l (768 * n + b))) / Real.log 2 : ℝ) : EReal) := by
  refine (shapeCast_apply _ _ _ (ix3 h (⟨768 * n + b, by omega⟩ : Fin 8448) (0 : Fin 1)) ?_).trans (lse_at hσ hq hk h _ 0)
  rw [Shape.rowMajor_val_three, Shape.rowMajor_val_four]
  show (h.val * 8448 + (768 * n.val + b.val)) * 1 + 0 = ((h.val * 11 + n.val) * 1 + 0) * 768 + b.val
  omega

include hv

theorem ou_apply (h : Fin 8) (r : Fin 8448) (d : Fin 128) :
    ou q k v (ix3 h r d) = ((∑ c ∈ range 8448, (A h).p r c * (A h).W c d : ℝ) : EReal) := by
  pointwise [ou]
  simp only [pr_apply hσ hq hk, hv]
  exact dot_coe 8448 (fun c => (A h).p r c) (fun c => (A h).W c d)

include hc

theorem dlt_at (h : Fin 8) (r : Fin 8448) : dlt q k v ct (ix2 h r) = ((A h).δ r : EReal) := by
  pointwise [dlt]
  simp only [ou_apply hσ hq hk hv, hc]
  rw [dot_coe 128 (fun d => ∑ c ∈ range 8448, (A h).p r c * (A h).W c d) (fun d => (A h).C r d), δ_eq]

theorem dlt_apply (h : Fin 8) (n : Fin 11) (b : Fin 768) :
    shapeCast S8x11x1x768 (dlt q k v ct) shapeCasts_S8x8448_S8x11x1x768 (ix4 h n 0 b) = ((A h).δ (768 * n + b) : EReal) := by
  refine (shapeCast_apply _ _ _ (ix2 h (⟨768 * n + b, by omega⟩ : Fin 8448)) ?_).trans (dlt_at hσ hq hk hv hc h _)
  rw [Shape.rowMajor_val_two, Shape.rowMajor_val_four]
  show h.val * 8448 + (768 * n.val + b.val) = ((h.val * 11 + n.val) * 1 + 0) * 768 + b.val
  omega

omit hk hv hc in
theorem qs_apply (h : Fin 8) (r : Fin 8448) (d : Fin 256) :
    qs q (ix3 h r d) = (((A h).Q r d * (A h).σ / Real.log 2 : ℝ) : EReal) := by
  pointwise [qs]
  rw [hq, σ_eq, lg2_apply, ← EReal.coe_mul, Ideal.div_coe (Real.log_pos one_lt_two).ne', ← EReal.coe_mul, mul_one_div, hσ]

end Values

end Cert.Proof.Host

end
-- ==== Proof.Grads.lean ====
module

public import proofs.«01_k».proof.Proof.Host
public import Idealize.ShloMosaic.Lib.Pipeline.ValueKit

/-! The launch's three arrays after the run, over the reals: the gradients of q (unscaled), k and v of every head. -/

@[expose] public section

set_option maxRecDepth 16384

noncomputable section

namespace Cert.Proof.Grads

open Cert.KernelIdeal Cert.KernelIdeal.Gen Cert.Proof.Spec Cert.Proof.Tile Cert.Proof.Host Cert.Proof.Run Cert.Proof.Body Cert.Proof.Pay
open Cert.Proof.Trip
open Idealize.ShloMosaic Idealize.ShloMosaic.TcCoe Idealize.ShloMosaic.Tactic
open Finset (range)

/-- What the launch is handed of a head: the scaled queries and the rows' logarithms beside the head's own arrays. -/
def hd (A : Attn) : Head where
  qs r d := A.Q r d * A.σ / Real.log 2
  co := A.C
  kk := A.K
  vv := A.W
  L r := (A.m r + Real.log (A.l r)) / Real.log 2
  dl := A.δ

theorem hd_p (A : Attn) (r c : ℕ) : (hd A).p r c = A.p r c := by
  by_cases h : c ≤ r
  · exact (if_pos h).trans (p_eq_rpow h)
  · rw [p_above (by omega), Head.p_above _ (by omega)]

theorem hd_g (A : Attn) (r c : ℕ) : (hd A).g r c = A.g r c := by
  have : ∑ d ∈ range 128, (hd A).vv c d * (hd A).co r d = A.dp r c := Finset.sum_congr rfl fun d _ => mul_comm _ _
  rw [Head.g, hd_p, this]; rfl

/-- A head's gradient of k: the launch's sum against the scaled queries, its logarithm taken out again. -/
theorem dk_eq (A : Attn) (c d : ℕ) : (∑ r ∈ range 8448, A.g r c * (A.Q r d * A.σ / Real.log 2)) * Real.log 2 = A.dk c d := by
  have h2 : Real.log 2 ≠ 0 := (Real.log_pos one_lt_two).ne'
  rw [Attn.dk, Finset.sum_mul, Finset.sum_mul]
  refine Finset.sum_congr rfl fun r _ => ?_
  field_simp

/-- Where each window's block lies at each point. -/
theorem idx : ∀ t : Fin cfg0.N, win0_0.index t = ![t.val / 11, 0, 0] ∧ win0_1.index t = ![t.val / 11, 0, 0]
    ∧ win0_2.index t = ![t.val / 11, 0, 0, 0] ∧ win0_3.index t = ![t.val / 11, 0, 0, 0]
    ∧ win0_4.index t = ![t.val / 11, t.val % 11, 0] ∧ win0_5.index t = ![t.val / 11, t.val % 11, 0]
    ∧ win0_6.index t = ![t.val / 11, 0, 0] ∧ win0_7.index t = ![t.val / 11, t.val % 11, 0]
    ∧ win0_8.index t = ![t.val / 11, t.val % 11, 0] ∧ (grid0.coords t 1).val = t.val % 11 :=
  (by decide +kernel : ∀ t : Fin grid0.N, _)

theorem lt_88 (t : Fin cfg0.N) : t.val < 88 := Nat.lt_of_lt_of_eq t.isLt N_0

/-- The head and the key tile of a point. -/
def hOf (t : Fin cfg0.N) : Fin 8 := ⟨t.val / 11, by have := lt_88 t; omega⟩
def jOf (t : Fin cfg0.N) : Fin 11 := ⟨t.val % 11, by omega⟩

section Blocks

variable (m : (ℓ : Loc nD τ sig) → Buf (Elt Ideal) ℓ) (c : Dev nD) (t : Fin cfg0.N)

theorem blk0 (r : Fin 8448) (d : Fin 256) : iblk m c 0 t (ix3 0 r d) = V m c main_v33 (ix3 (hOf t) r d) := by
  have e := (idx t).1
  blk_ext [iblk, e, hOf]

theorem blk1 (r : Fin 8448) (d : Fin 128) : iblk m c 1 t (ix3 0 r d) = V m c main_v36 (ix3 (hOf t) r d) := by
  have e := (idx t).2.1
  blk_ext [iblk, e, hOf]

theorem blk2 (n : Fin 11) (b : Fin 768) : iblk m c 2 t (ix4 0 n 0 b) = V m c main_v25 (ix4 (hOf t) n 0 b) := by
  have e := (idx t).2.2.1
  blk_ext [iblk, e, hOf]

theorem blk3 (n : Fin 11) (b : Fin 768) : iblk m c 3 t (ix4 0 n 0 b) = V m c main_v28 (ix4 (hOf t) n 0 b) := by
  have e := (idx t).2.2.2.1
  blk_ext [iblk, e, hOf]

theorem blk4 (a : Fin 768) (d : Fin 256) :
    iblk m c 4 t (ix3 0 a d) = V m c main_v34 (ix3 (hOf t) (⟨768 * (t.val % 11) + a, by omega⟩ : Fin 8448) d) := by
  have e := (idx t).2.2.2.2.1
  blk_ext [iblk, e, hOf]

theorem blk5 (a : Fin 768) (d : Fin 128) :
    iblk m c 5 t (ix3 0 a d) = V m c main_v35 (ix3 (hOf t) (⟨768 * (t.val % 11) + a, by omega⟩ : Fin 8448) d) := by
  have e := (idx t).2.2.2.2.2.1
  blk_ext [iblk, e, hOf]

end Blocks

/-- The arguments on device `c` hold the heads' data `A`. -/
structure Holds (m : (ℓ : Loc nD τ sig) → Buf (Elt Ideal) ℓ) (c : Dev nD) (A : ℕ → Attn) : Prop where
  σ : ∀ h, (A h).σ = Host.σ
  q : ∀ (h : Fin 8) (r : Fin 8448) (d : Fin 256), (m (c, Proc.tc.devRef main_arg0) : Q8) (ix3 h r d) = ((A h).Q r d : EReal)
  k : ∀ (h : Fin 8) (r : Fin 8448) (d : Fin 256), (m (c, Proc.tc.devRef main_arg1) : Q8) (ix3 h r d) = ((A h).K r d : EReal)
  v : ∀ (h : Fin 8) (r : Fin 8448) (d : Fin 128), (m (c, Proc.tc.devRef main_arg2) : W8) (ix3 h r d) = ((A h).W r d : EReal)
  ct : ∀ (h : Fin 8) (r : Fin 8448) (d : Fin 128), (m (c, Proc.tc.devRef main_arg3) : W8) (ix3 h r d) = ((A h).C r d : EReal)

section Run

variable {m : (ℓ : Loc nD τ sig) → Buf (Elt Ideal) ℓ} {c : Dev nD} {A : ℕ → Attn} (hA : Holds m c A)

include hA

theorem reads (t : Fin cfg0.N) : Reads (hd (A (t.val / 11))) (t.val % 11) (iblk m c 0 t) (iblk m c 1 t) (iblk m c 2 t)
    (iblk m c 3 t) (iblk m c 4 t) (iblk m c 5 t) := by
  refine ⟨fun r d => ?_, fun r d => ?_, fun n b => ?_, fun n b => ?_, fun a d => ?_, fun a d => ?_⟩
  · refine (blk0 m c t r d).trans ?_
    rw [V33]; exact qs_apply hA.σ hA.q (hOf t) r d
  · refine (blk1 m c t r d).trans ?_
    rw [V36]; exact hA.ct (hOf t) r d
  · refine (blk2 m c t n b).trans ?_
    rw [V25]; exact lse_apply hA.σ hA.q hA.k (hOf t) n b
  · refine (blk3 m c t n b).trans ?_
    rw [V28]; exact dlt_apply hA.σ hA.q hA.k hA.v hA.ct (hOf t) n b
  · refine (blk4 m c t a d).trans ?_
    rw [V34]; exact hA.k (hOf t) _ d
  · refine (blk5 m c t a d).trans ?_
    rw [V35]; exact hA.v (hOf t) _ d

/-- One point, from a gradient of q at `G`. -/
theorem pt_inv (t : Fin cfg0.N) {G : ℕ → ℕ → ℝ} {g : Vec Ideal S1x8448x256 .f32}
    (hg : ∀ (r : Fin 8448) (d : Fin 256), g (ix3 0 r d) = (G r d : EReal)) :
    Inv (hd (A (t.val / 11))) (t.val % 11) G 11 (accAt.pt m c t.val t.isLt g) := by
  have e := (idx t).2.2.2.2.2.2.2.2.2
  have h := reads hA t
  rw [← e] at h ⊢
  exact point_inv h hg

omit hA in
/-- A head starts from an empty sum. -/
theorem start_dq {n : ℕ} (h0 : n % 11 = 0) (f : ℕ → ℝ) (i : S1x8448x256.Idx) :
    k0_pay19 (F := Ideal) i = ((∑ a ∈ range (768 * (n % 11)), f a : ℝ) : EReal) := by
  rw [h0, Nat.mul_zero, Finset.sum_range_zero, EReal.coe_zero]
  exact pay19_apply i

/-- After a head's point the gradient of q's buffer holds the sum over the keys met so far. -/
theorem acc_dq : ∀ (n : ℕ) (h : n < cfg0.N) (r : Fin 8448) (d : Fin 256), (accAt m c n h).1 (ix3 0 r d)
    = ((∑ a ∈ range (768 * (n % 11 + 1)), (A (n / 11)).g r a * (A (n / 11)).K a d : ℝ) : EReal) := by
  have step (t : Fin cfg0.N) (g : Vec Ideal S1x8448x256 .f32)
      (hg : ∀ (r : Fin 8448) (d : Fin 256), g (ix3 0 r d)
        = ((∑ a ∈ range (768 * (t.val % 11)), (A (t.val / 11)).g r a * (A (t.val / 11)).K a d : ℝ) : EReal))
      (r : Fin 8448) (d : Fin 256) : (accAt.pt m c t.val t.isLt g).1 (ix3 0 r d)
        = ((∑ a ∈ range (768 * (t.val % 11 + 1)), (A (t.val / 11)).g r a * (A (t.val / 11)).K a d : ℝ) : EReal) := by
    refine ((pt_inv hA t (G := fun r d => ∑ a ∈ range (768 * (t.val % 11)), (A (t.val / 11)).g r a * (A (t.val / 11)).K a d)
      hg).dq r d).trans ?_
    rw [if_pos (by omega), Nat.mul_add, Nat.mul_one, Finset.sum_range_add]
    simp only [hd_g]
    rfl
  intro n h
  induction n with
  | zero =>
    intro r d
    rw [accAt_first m c ⟨0, h⟩ rfl]
    exact step ⟨0, h⟩ _ (fun r d => start_dq rfl _ _) r d
  | succ n ih =>
    intro r d
    by_cases h0 : (n + 1) % 11 = 0
    · rw [accAt_first m c ⟨n + 1, h⟩ h0]
      exact step ⟨n + 1, h⟩ _ (fun r d => start_dq h0 _ _) r d
    · rw [accAt_later m c ⟨n + 1, h⟩ h0]
      refine step ⟨n + 1, h⟩ _ (fun r d => ?_) r d
      refine (ih (Nat.lt_of_succ_lt h) r d).trans ?_
      have e1 : (n + 1) / 11 = n / 11 := by omega
      have e2 : (n + 1) % 11 = n % 11 + 1 := by omega
      dsimp only
      rw [e1, e2]

theorem acc_inv (t : Fin cfg0.N) : ∃ G, Inv (hd (A (t.val / 11))) (t.val % 11) G 11 (accAt m c t.val t.isLt) := by
  by_cases h0 : t.val % 11 = 0
  · rw [accAt_first m c t h0]
    exact ⟨fun _ _ => 0, pt_inv hA t fun r d => (pay19_apply _).trans EReal.coe_zero.symm⟩
  · rw [accAt_later m c t h0]
    exact ⟨_, pt_inv hA t (G := fun r d => ∑ a ∈ range (768 * ((t.val - 1) % 11 + 1)), (A ((t.val - 1) / 11)).g r a * (A ((t.val - 1) / 11)).K a d)
      (acc_dq hA (t.val - 1) (Nat.lt_of_le_of_lt (Nat.sub_le _ _) t.isLt))⟩

/-- What a point leaves in the key tile's two buffers. -/
theorem acc_dk (t : Fin cfg0.N) (a : Fin 768) (d : Fin 256) : k0_pay5 (accAt m c t.val t.isLt).2.1 (ix3 0 a d)
    = ((A (t.val / 11)).dk (768 * (t.val % 11) + a) d : EReal) := by
  obtain ⟨G, h⟩ := acc_inv hA t
  rw [pay5_apply, h.dk, ← EReal.coe_mul, ← dk_eq]
  simp only [hd_g]
  rfl

theorem acc_dv (t : Fin cfg0.N) (a : Fin 768) (d : Fin 128) : k0_pay6 (accAt m c t.val t.isLt).2.2 (ix3 0 a d)
    = ((A (t.val / 11)).dv (768 * (t.val % 11) + a) d : EReal) := by
  obtain ⟨G, h⟩ := acc_inv hA t
  rw [pay6_apply, h.dv]
  simp only [hd_p]
  rfl

end Run

/-- The launch's arrays: the gradient of q before the scale, and those of k and v. -/
def arrQ (A : ℕ → Attn) : Q8 := fun i => ((∑ c ∈ range 8448, (A (i 0).val).g (i 1).val c * (A (i 0).val).K c (i 2).val : ℝ) : EReal)
def arrK (A : ℕ → Attn) : Q8 := fun i => ((A (i 0).val).dk (i 1).val (i 2).val : EReal)
def arrW (A : ℕ → Attn) : W8 := fun i => ((A (i 0).val).dv (i 1).val (i 2).val : EReal)

section Arrays

variable {m : (ℓ : Loc nD τ sig) → Buf (Elt Ideal) ℓ} {c : Dev nD} {A : ℕ → Attn} (hA : Holds m c A)

include hA

theorem final6 : (dats m 0 c).arrAt 6 cfg0.N = arrQ A := by
  refine (dats m 0 c).arrAt_eq_of_covers 6 _ (by decide +kernel) fun t hf y => ?_
  have e := (idx t).2.2.2.2.2.2.1
  have h10 : t.val % 11 = 10 := (flush0_6 t).mp hf
  blk_simp
  rw [after_6]
  have h0 : (((win0_6.blk t).view.emb y) 0).val = t.val / 11 := by blk_simp [e]
  have h1 : (((win0_6.blk t).view.emb y) 1).val = (y 1).val := by blk_simp [e]
  have h2 : (((win0_6.blk t).view.emb y) 2).val = (y 2).val := by blk_simp [e]
  unfold arrQ
  rw [h0, h1, h2]
  have ey : y = (ix3 0 (y 1) (y 2) : S1x8448x256.Idx) := by blk_ext
  refine (congrArg (accAt m c t.val t.isLt).1 ey).trans ((acc_dq hA t.val t.isLt (y 1) (y 2)).trans ?_)
  rw [h10]

theorem final7 : (dats m 0 c).arrAt 7 cfg0.N = arrK A := by
  refine (dats m 0 c).arrAt_eq_of_covers 7 _ (by decide +kernel) fun t hf y => ?_
  have e := (idx t).2.2.2.2.2.2.2.1
  blk_simp
  rw [after_7]
  have h0 : (((win0_7.blk t).view.emb y) 0).val = t.val / 11 := by blk_simp [e]
  have h1 : (((win0_7.blk t).view.emb y) 1).val = 768 * (t.val % 11) + (y 1).val := by blk_simp [e]; omega
  have h2 : (((win0_7.blk t).view.emb y) 2).val = (y 2).val := by blk_simp [e]
  unfold arrK
  rw [h0, h1, h2]
  have ey : y = (ix3 0 (y 1) (y 2) : S1x768x256.Idx) := by blk_ext
  exact (congrArg (k0_pay5 (accAt m c t.val t.isLt).2.1) ey).trans (acc_dk hA t (y 1) (y 2))

theorem final8 : (dats m 0 c).arrAt 8 cfg0.N = arrW A := by
  refine (dats m 0 c).arrAt_eq_of_covers 8 _ (by decide +kernel) fun t hf y => ?_
  have e := (idx t).2.2.2.2.2.2.2.2.1
  blk_simp
  rw [after_8]
  have h0 : (((win0_8.blk t).view.emb y) 0).val = t.val / 11 := by blk_simp [e]
  have h1 : (((win0_8.blk t).view.emb y) 1).val = 768 * (t.val % 11) + (y 1).val := by blk_simp [e]; omega
  have h2 : (((win0_8.blk t).view.emb y) 2).val = (y 2).val := by blk_simp [e]
  unfold arrW
  rw [h0, h1, h2]
  have ey : y = (ix3 0 (y 1) (y 2) : S1x768x128.Idx) := by blk_ext
  exact (congrArg (k0_pay6 (accAt m c t.val t.isLt).2.2) ey).trans (acc_dv hA t (y 1) (y 2))

end Arrays

end Cert.Proof.Grads

end
-- ==== Proof.Ref.lean ====
module

public import proofs.«01_k».proof.Proof.Host
public import proofs.«01_k».proof.Proof.Gen.ReferenceIdeal.Run
public import proofs.«01_k».proof.Proof.Gen.ReferenceIdeal.Read

/-! The reference's three results, over the reals: its stages one after another, read at a head, a row and a key. -/

@[expose] public section

set_option maxRecDepth 16384

noncomputable section

namespace Cert.Proof.Ref

open Cert.ReferenceIdeal Cert.ReferenceIdeal.Gen Cert.ReferenceIdeal.Read Cert.Proof.Spec Cert.Proof.Tile
open Cert.Proof.Host (σ σ_eq neg_inf_eq sum_coe)
open Idealize.ShloMosaic Idealize.ShloMosaic.TcCoe Idealize.ShloMosaic.Tactic
open Finset (range)

abbrev Q8 := FVec Ideal S8x8448x256 .f32
abbrev W8 := FVec Ideal S8x8448x128 .f32

theorem one_eq : Ideal.ofBits .f32 0x3F800000#32 = ((1 : ℝ) : EReal) := by
  simp [Ideal.ofBits, Ideal.ieee, -EReal.coe_mul]; norm_num

variable {q k : Q8} {v ct : W8} {A : ℕ → Attn} (hσ : ∀ h, (A h).σ = σ)
  (hq : ∀ (h : Fin 8) (r : Fin 8448) (d : Fin 256), q (ix3 h r d) = ((A h).Q r d : EReal))
  (hk : ∀ (h : Fin 8) (r : Fin 8448) (d : Fin 256), k (ix3 h r d) = ((A h).K r d : EReal))
  (hv : ∀ (h : Fin 8) (r : Fin 8448) (d : Fin 128), v (ix3 h r d) = ((A h).W r d : EReal))
  (hc : ∀ (h : Fin 8) (r : Fin 8448) (d : Fin 128), ct (ix3 h r d) = ((A h).C r d : EReal))

include hσ hq hk

theorem s_at (h : Fin 8) (r c : Fin 8448) : val_main_v3 (F := Ideal) q k (ix3 h r c) = ((A h).s r c : EReal) := by
  pointwise [val_main_v3, val_main_v1, val_main_v2, val_main_cst]
  simp only [hq, hk]
  rw [dot_coe 256 (fun d => (A h).Q r d) (fun d => (A h).K c d), σ_eq, ← EReal.coe_mul, Attn.s, hσ]

theorem sm_at (h : Fin 8) (r c : Fin 8448) :
    val_main_v9_0 (F := Ideal) q k (ix3 h r c) = if c.val ≤ r.val then ((A h).s r c : EReal) else ⊥ := by
  pointwise [val_main_v9_0, val_main_v9_1, val_main_v8, val_main_v6, val_main_v4, val_main_v7, val_main_v5, val_main_v0,
    val_main_call0_v2, val_main_call0_v0, val_main_cst_0]
  rw [WordCmp.cmpi_sle_ofNat (by omega) (by omega), s_at hσ hq hk]
  show Scalar.select _ _ (Ideal.ofBits .f32 0xFF800000#32) = _
  rw [neg_inf_eq]
  exact Scalar.select_decide _ _ _

theorem max_at (h : Fin 8) (r : Fin 8448) : val_main_v10 (F := Ideal) q k (ix2 h r) = ((A h).m r : EReal) := by
  pointwise [val_main_v10, val_main_cst_1]
  rw [neg_inf_eq, ← M_eq, Attn.M]
  simp only [sm_at hσ hq hk]

theorem m_at (h : Fin 8) (r : Fin 8448) : val_main_v17 (F := Ideal) q k (ix2 h r) = ((A h).m r : EReal) := by
  rw [val_main_v17_apply, val_main_v16_apply, val_main_cst_3_apply, max_at hσ hq hk]
  show max (Ideal.ofBits .f32 0xFF800000#32) ((A h).m r : EReal) = _
  rw [neg_inf_eq]
  exact max_eq_right bot_le

theorem e_at (h : Fin 8) (r c : Fin 8448) : val_main_v30 (F := Ideal) q k (ix3 h r c) = ((A h).e r c : EReal) := by
  pointwise [val_main_v30, val_main_v29, val_main_v28, val_main_v27]
  rw [sm_at hσ hq hk, m_at hσ hq hk, Attn.e]
  split_ifs
  · rw [← EReal.coe_sub, Ideal.exp_coe]
  · rw [EReal.bot_sub, Ideal.exp_bot, EReal.coe_zero]

theorem l_at (h : Fin 8) (r : Fin 8448) : val_main_v31 (F := Ideal) q k (ix2 h r) = ((A h).l r : EReal) := by
  pointwise [val_main_v31, val_main_cst_9]
  simp only [e_at hσ hq hk]
  exact sum_coe 8448 (fun c => (A h).e r c)

theorem l_col (h : Fin 8) (r : Fin 8448) (z : Fin 1) : val_main_v32 (F := Ideal) q k (ix3 h r z) = ((A h).l r : EReal) := by
  pointwise [val_main_v32]
  exact l_at hσ hq hk h r

theorem p_at (h : Fin 8) (r c : Fin 8448) : val_main_v34 (F := Ideal) q k (ix3 h r c) = ((A h).p r c : EReal) := by
  pointwise [val_main_v34, val_main_v33]
  rw [e_at hσ hq hk, l_col hσ hq hk, Ideal.div_coe (l_ne _), ← EReal.coe_mul, Attn.p, mul_one_div]

theorem ll_at (h : Fin 8) (r : Fin 8448) (z : Fin 1) :
    val_main_v37 (F := Ideal) q k (ix3 h r z) = ((1 / ((A h).l r * (A h).l r) : ℝ) : EReal) := by
  rw [val_main_v37_apply, val_main_v35_apply, val_main_v36_apply, val_main_cst_10_apply, l_col hσ hq hk]
  show Ideal.div (Ideal.ofBits .f32 0x3F800000#32) (((A h).l r : EReal) * ((A h).l r : EReal)) = _
  rw [one_eq, ← EReal.coe_mul, Ideal.div_coe (mul_ne_zero (l_ne _) (l_ne _)), ← EReal.coe_mul, one_mul]

omit hσ hq hk

include hv hc in
theorem dp_at (h : Fin 8) (r c : Fin 8448) : val_main_v41 (F := Ideal) v ct (ix3 h r c) = ((A h).dp r c : EReal) := by
  pointwise [val_main_v41]
  simp only [hv, hc]
  exact dot_coe 128 (fun d => (A h).C r d) (fun d => (A h).W c d)

include hσ hq hk hc in
theorem dv_at (h : Fin 8) (r : Fin 8448) (d : Fin 128) : val_main_v40 (F := Ideal) q k ct (ix3 h r d) = ((A h).dv r d : EReal) := by
  pointwise [val_main_v40, val_main_v39]
  simp only [p_at hσ hq hk, hc]
  refine (dot_coe 8448 (fun x => (A h).C x d) (fun x => (A h).p x r)).trans (congrArg _ (Finset.sum_congr rfl fun x _ => ?_))
  exact mul_comm _ _

include hσ hq hk hv hc

/-- The row sum that differentiating the quotient takes. -/
abbrev row (A : Attn) (r : ℕ) : ℝ := ∑ c ∈ range 8448, A.dp r c * (1 / (A.l r * A.l r)) * A.e r c

theorem row_at (h : Fin 8) (r : Fin 8448) : val_main_v45 (F := Ideal) q k v ct (ix2 h r) = (row (A h) r : EReal) := by
  pointwise [val_main_v45, val_main_cst_11, val_main_v44, val_main_v43, val_main_v42]
  simp only [dp_at hv hc, ll_at hσ hq hk, e_at hσ hq hk, ← EReal.coe_mul]
  exact sum_coe 8448 (fun c => (A h).dp r c * (1 / ((A h).l r * (A h).l r)) * (A h).e r c)

omit hσ hq hk hv hc in
theorem idx46 (h : Fin 8) (r : Fin 8448) (z : Fin 1) : idx_main_v46 (ix3 h r z) = ix2 h r := by
  funext a
  match a with
  | ⟨0, _⟩ => exact Fin.ext (by show ((h.val * 8448 + r.val) * 1 + z.val) / 8448 = h.val; omega)
  | ⟨1, _⟩ => exact Fin.ext (by show ((h.val * 8448 + r.val) * 1 + z.val) % 8448 = r.val; omega)

theorem neg_at (h : Fin 8) (r : Fin 8448) (z : Fin 1) :
    val_main_v47 (F := Ideal) q k v ct (ix3 h r z) = ((-row (A h) r : ℝ) : EReal) := by
  rw [val_main_v47_apply, val_main_v46_apply, idx46, row_at hσ hq hk hv hc]
  rfl

theorem back_at (h : Fin 8) (r : Fin 8448) : val_main_v50 (F := Ideal) q k v ct (ix2 h r) = ((-row (A h) r : ℝ) : EReal) := by
  pointwise [val_main_v50, val_main_cst_12]
  rw [Fin.sum_univ_one]
  exact neg_at hσ hq hk hv hc h r 0

theorem g_at (h : Fin 8) (r c : Fin 8448) : val_main_v54 (F := Ideal) q k v ct (ix3 h r c) = ((A h).g r c : EReal) := by
  pointwise [val_main_v54, val_main_v9_1, val_main_v8, val_main_v6, val_main_v4, val_main_v7, val_main_v5, val_main_v0,
    val_main_v53, val_main_v52, val_main_v49, val_main_v48, val_main_v51, val_main_call1_v0, val_main_call1_cst]
  rw [WordCmp.cmpi_sle_ofNat (by omega) (by omega), dp_at hv hc, l_col hσ hq hk, e_at hσ hq hk, back_at hσ hq hk hv hc,
    Ideal.div_coe (l_ne _), ← EReal.coe_mul, mul_one_div, ← EReal.coe_add, ← EReal.coe_mul, g_eq]
  refine (Scalar.select_decide _ _ _).trans ?_
  split_ifs with hcr
  · rfl
  · rw [g_above (by omega), EReal.coe_zero]

theorem gs_at (h : Fin 8) (r c : Fin 8448) :
    val_main_v56 (F := Ideal) q k v ct (ix3 h r c) = (((A h).g r c * (A h).σ : ℝ) : EReal) := by
  pointwise [val_main_v56, val_main_v55, val_main_cst_13]
  rw [g_at hσ hq hk hv hc, σ_eq, ← EReal.coe_mul, hσ]

theorem dk_at (h : Fin 8) (r : Fin 8448) (d : Fin 256) : val_main_v57 (F := Ideal) q k v ct (ix3 h r d) = ((A h).dk r d : EReal) := by
  pointwise [val_main_v57]
  simp only [gs_at hσ hq hk hv hc, hq]
  refine (dot_coe 8448 (fun x => (A h).g x r * (A h).σ) (fun x => (A h).Q x d)).trans (congrArg _ ?_)
  rw [Attn.dk, Finset.sum_mul]
  exact Finset.sum_congr rfl fun x _ => mul_right_comm _ _ _

theorem dq_at (h : Fin 8) (r : Fin 8448) (d : Fin 256) : val_main_v58 (F := Ideal) q k v ct (ix3 h r d) = ((A h).dq r d : EReal) := by
  pointwise [val_main_v58]
  simp only [gs_at hσ hq hk hv hc, hk]
  refine (dot_coe 8448 (fun x => (A h).g r x * (A h).σ) (fun x => (A h).K x d)).trans (congrArg _ ?_)
  rw [Attn.dq, Finset.sum_mul]
  exact Finset.sum_congr rfl fun x _ => mul_right_comm _ _ _

end Cert.Proof.Ref

end
-- ==== Proof.Result.lean ====
/- The value claim: on finite arguments both programs end with the three gradients of every head. -/
module

public import proofs.«01_k».proof.Defs
public import proofs.«01_k».proof.Proof.Grads
public import proofs.«01_k».proof.Proof.Ref
public import proofs.«01_k».proof.Proof.Gen.Pre_finite

@[expose] public section

set_option maxRecDepth 16384

noncomputable section

namespace Cert.Proof.Result

open Cert.KernelIdeal Cert.KernelIdeal.Gen Cert.Proof.Spec Cert.Proof.Tile Cert.Proof.Host Cert.Proof.Run Cert.Proof.Grads
open Idealize.ShloMosaic Idealize.ShloMosaic.TcCoe Idealize.ShloMosaic.Tactic Idealize.SL.Sem
open Finset (range)

/-! A finite array is an array of reals. -/

theorem top_eq : Ideal.ofBits .f32 0x7F800000#32 = ⊤ := by simp [Ideal.ofBits, Ideal.ieee]

theorem real_of_lt {x : EReal} (h : Ideal.cmp .olt (max x (-x)) ⊤ = 1#1) : x = (x.toReal : EReal) := by
  have hlt : max x (-x) < ⊤ := by
    by_contra hn
    simp [Ideal.cmp, hn] at h
  refine (EReal.coe_toReal ?_ ?_).symm
  · rintro rfl; simp at hlt
  · rintro rfl; simp at hlt

theorem real_of_finite {s : Shape} (v : FVec Ideal s .f32) (h : S_.BroadcastsInDim s (![] : Fin 0 → Fin s.rank))
    (hf : cmpf .olt (Host.absf v) (broadcastInDim s ![] h (constant S_ .f32 0x7F800000#32)) = fun _ => 1#1) (i : s.Idx) :
    v i = ((v i : EReal).toReal : EReal) := by
  have e : Ideal.cmp .olt (max (v i : EReal) (-(v i : EReal))) (Ideal.ofBits .f32 0x7F800000#32) = 1#1 := congrFun hf i
  rw [top_eq] at e
  exact real_of_lt e

/-! The heads' data, read off the arguments. -/

/-- An array's head `h` as a function of row and feature, zero outside. -/
def tab {n : ℕ} (v : FVec Ideal ⟨3, ![8, 8448, n]⟩ .f32) (h r d : ℕ) : ℝ :=
  if e : h < 8 ∧ r < 8448 ∧ d < n then
    (v (ix3 (⟨h, e.1⟩ : Fin 8) (⟨r, e.2.1⟩ : Fin 8448) (⟨d, e.2.2⟩ : Fin n)) : EReal).toReal
  else 0

theorem tab_eq {n : ℕ} (v : FVec Ideal ⟨3, ![8, 8448, n]⟩ .f32) (hv : ∀ i, v i = ((v i : EReal).toReal : EReal))
    (h : Fin 8) (r : Fin 8448) (d : Fin n) : v (ix3 h r d) = (tab v h r d : EReal) := by
  rw [tab, dif_pos ⟨h.isLt, r.isLt, d.isLt⟩]
  exact hv _

def heads (m : (ℓ : Loc nD τ sig) → Buf (Elt Ideal) ℓ) (c : Dev nD) (h : ℕ) : Attn where
  Q := tab (n := 256) (m (c, Proc.tc.devRef main_arg0) : Q8) h
  K := tab (n := 256) (m (c, Proc.tc.devRef main_arg1) : Q8) h
  W := tab (n := 128) (m (c, Proc.tc.devRef main_arg2) : W8) h
  C := tab (n := 128) (m (c, Proc.tc.devRef main_arg3) : W8) h
  σ := Host.σ

theorem holds {m : (ℓ : Loc nD τ sig) → Buf (Elt Ideal) ℓ} (hm : Cert.Pre_KernelIdeal_finite (hPre_finite := Cert.Pre_finite.Gen.facts) m)
    (c : Dev nD) : Holds m c (heads m c) where
  σ _ := rfl
  q := tab_eq (n := 256) _ (real_of_finite _ _ (hm c).1)
  k := tab_eq (n := 256) _ (real_of_finite _ _ (hm c).2.1)
  v := tab_eq (n := 128) _ (real_of_finite _ _ (hm c).2.2.1)
  ct := tab_eq (n := 128) _ (real_of_finite _ _ (hm c).2.2.2)

/-! The kernel's side. -/

/-- The gradient of q, scaled. -/
def arrS (A : ℕ → Attn) : Q8 := fun i => ((A (i 0).val).dq (i 1).val (i 2).val : EReal)

theorem scale_eq {A : ℕ → Attn} (hσ : ∀ h, (A h).σ = Host.σ) (h : S_.BroadcastsInDim S8x8448x256 (![] : Fin 0 → Fin S8x8448x256.rank)) :
    mulf (arrQ A) (broadcastInDim S8x8448x256 ![] h (constant S_ .f32 0x3D93CD3A#32)) = arrS A := by
  funext i
  show (arrQ A i : EReal) * Ideal.ofBits .f32 0x3D93CD3A#32 = arrS A i
  rw [σ_eq, arrQ, arrS, ← EReal.coe_mul, Attn.dq, hσ]

variable {m : (ℓ : Loc nD τ sig) → Buf (Elt Ideal) ℓ} (ρ : Dev nD → PrngReg)

theorem tail39 {c : Dev nD} {A : ℕ → Attn} (hA : Holds m c A) :
    Pipeline.afterTail₀ cfgs (dats m) 0 (V0 m) [hostOps1] c main_v39 = arrS A := by
  unfold Pipeline.afterTail₀
  simp only [List.flatten_cons, List.flatten_nil, List.append_nil, hostOps1]
  after_results
  have e : Pipeline.withArrays (cfgs 0).spec c (V0 m c) (fun w => (dats m 0 c).arrAt w (cfgs 0).N) (Proc.devRef .tc main_v37_0)
      = arrQ A := (Pipeline.withArrays_arr (cfgs 0).spec (by decide) c _ _ 6).trans (final6 hA)
  rw [e]
  exact scale_eq hA.σ _

/-- The kernel's run: its three results and its arguments. -/
theorem kernel_run (hm : Cert.Pre_KernelIdeal_finite (hPre_finite := Cert.Pre_finite.Gen.facts) m) :
    θ_run defs (onTc (τ := τ) (main (F := Ideal))) ⟨m, fun _ => 0, ρ⟩ (fun r => ∀ c : Dev nD,
      r.2.mem ((c.tc : Thread nD τ).loc main_v39) = arrS (heads m c)
      ∧ r.2.mem ((c.tc : Thread nD τ).loc main_v37_1) = arrK (heads m c)
      ∧ r.2.mem ((c.tc : Thread nD τ).loc main_v37_2) = arrW (heads m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).2 main_v39 (Pipeline.mem_restRefs_of main_v39 (by decide) (by decide))).trans (tail39 (holds hm c)),
      ((h.1.1 c).1 7).trans (final7 (holds hm c)), ((h.1.1 c).1 8).trans (final8 (holds hm c)), h.2.1 c⟩)
    (θ_run_and (run_main m ρ) (quiescent m ρ))

/-! The reference's side. -/

theorem ix3_eta {a b c : ℕ} (i : Shape.Idx ⟨3, ![a, b, c]⟩) : i = ix3 (i 0) (i 1) (i 2) := by
  funext x; fin_cases x <;> rfl

/-- The reference's results, at arguments equal to the kernel's. -/
theorem reference_results (hm : Cert.Pre_KernelIdeal_finite (hPre_finite := Cert.Pre_finite.Gen.facts) m)
    (m' : (ℓ : Loc Cert.ReferenceIdeal.nD Cert.ReferenceIdeal.τ Cert.ReferenceIdeal.sig) → Buf (Elt Ideal) ℓ)
    (h0 : ∀ c : Dev nD, (m' (c, Proc.tc.devRef Cert.ReferenceIdeal.main_arg0) : Q8) = m (c, Proc.tc.devRef main_arg0))
    (h1 : ∀ c : Dev nD, (m' (c, Proc.tc.devRef Cert.ReferenceIdeal.main_arg1) : Q8) = m (c, Proc.tc.devRef main_arg1))
    (h2 : ∀ c : Dev nD, (m' (c, Proc.tc.devRef Cert.ReferenceIdeal.main_arg2) : W8) = m (c, Proc.tc.devRef main_arg2))
    (h3 : ∀ c : Dev nD, (m' (c, Proc.tc.devRef Cert.ReferenceIdeal.main_arg3) : W8) = m (c, Proc.tc.devRef main_arg3)) :
    ∀ c : Dev nD, (Cert.ReferenceIdeal.Value.res_main_v58 m' c : Q8) = arrS (heads m c)
      ∧ (Cert.ReferenceIdeal.Value.res_main_v57 m' c : Q8) = arrK (heads m c)
      ∧ (Cert.ReferenceIdeal.Value.res_main_v40 m' c : W8) = arrW (heads m c) := by
  intro c
  have hA := holds hm c
  have q : ∀ (h : Fin 8) (r : Fin 8448) (d : Fin 256), (m' (c, Proc.tc.devRef Cert.ReferenceIdeal.main_arg0) : Q8) (ix3 h r d)
      = ((heads m c h).Q r d : EReal) := fun h r d => (congrFun (h0 c) _).trans (hA.q h r d)
  have k : ∀ (h : Fin 8) (r : Fin 8448) (d : Fin 256), (m' (c, Proc.tc.devRef Cert.ReferenceIdeal.main_arg1) : Q8) (ix3 h r d)
      = ((heads m c h).K r d : EReal) := fun h r d => (congrFun (h1 c) _).trans (hA.k h r d)
  have v : ∀ (h : Fin 8) (r : Fin 8448) (d : Fin 128), (m' (c, Proc.tc.devRef Cert.ReferenceIdeal.main_arg2) : W8) (ix3 h r d)
      = ((heads m c h).W r d : EReal) := fun h r d => (congrFun (h2 c) _).trans (hA.v h r d)
  have ct : ∀ (h : Fin 8) (r : Fin 8448) (d : Fin 128), (m' (c, Proc.tc.devRef Cert.ReferenceIdeal.main_arg3) : W8) (ix3 h r d)
      = ((heads m c h).C r d : EReal) := fun h r d => (congrFun (h3 c) _).trans (hA.ct h r d)
  refine ⟨?_, ?_, ?_⟩
  · rw [Cert.ReferenceIdeal.Read.val_main_v58_eq]
    funext i
    rw [ix3_eta i]
    exact Ref.dq_at hA.σ q k v ct (i 0) (i 1) (i 2)
  · rw [Cert.ReferenceIdeal.Read.val_main_v57_eq]
    funext i
    rw [ix3_eta i]
    exact Ref.dk_at hA.σ q k v ct (i 0) (i 1) (i 2)
  · rw [Cert.ReferenceIdeal.Read.val_main_v40_eq]
    funext i
    rw [ix3_eta i]
    exact Ref.dv_at hA.σ q k ct (i 0) (i 1) (i 2)

end Cert.Proof.Result

end
-- ==== Proof.Forward.Trip.lean ====
/- One trip of the forward kernel's loop over pairs of key tiles, and the loop's invariant: the scores held for the next
   tile and the row statistics before trip `k`, as a recursion over the trips. -/
module

public import proofs.«01_k».proof.Proof.Reads
public import proofs.«01_k».proof.Proof.Gen.Kernel11Ideal.Skeleton
public import proofs.«01_k».proof.Proof.Gen.Kernel11Ideal.Launch
public import Idealize.ShloMosaic.Lib.Pipeline.FrameBody
public import Idealize.ShloMosaic.Lib.Tactic

@[expose] public section

set_option maxRecDepth 16384

noncomputable section

namespace Cert.Proof.Forward.Trip

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The row statistics: the running maximum, the sum of exponentials, the weighted sum of the values. -/
abbrev Stats (F : FTy → Type) [FloatOps F] : Type :=
  Vec F S768x128 .f32 × Vec F S768x128 .f32 × Vec F S768x128 .f32

/-- The 768 rows of a head's keys, or of its values, at an offset. -/
abbrev rowsK (o : Fin 3 → ℕ) (h : ∀ a, o a + S1x768x256.size a ≤ S1x8448x256.size a) : Rect S1x8448x256 :=
  Rect.unit (s := S1x8448x256) o S1x768x256.size h
abbrev rowsV (o : Fin 3 → ℕ) (h : ∀ a, o a + S1x768x128.size a ≤ S1x8448x128.size a) : Rect S1x8448x128 :=
  Rect.unit (s := S1x8448x128) o S1x768x128.size h

/-- One tile's scores `s` and values `w` taken into the statistics. -/
def upd (s : Vec F S768x768 .f32) (w : Vec F S1x768x128 .bf16) (a : Stats F) : Stats F :=
  (k0_pay12 (k0_pay6 s a.1), k0_pay9 s a.1 a.2.1, k0_pay11 (k0_pay8 s a.1) (k0_pay10 s a.1 a.2.2) w)

/-- What trip `k` makes of the scores it is handed and of the statistics: it takes in two tiles, and leaves the scores
    of the tile after them. -/
def tripStep (i : grid0.Coords) (v1 : FVec F S768x256 .bf16) (x1 : Vec F S1x8448x256 .bf16) (x2 : Vec F S1x8448x128 .bf16)
    (k : Fin (k0_t1_loop i).trips) (s : Vec F S768x768 .f32 × Stats F) : Vec F S768x768 .f32 × Stats F :=
  (k0_pay5 v1 (View.ld x1 (rowsK (k0_off1 i k 2#32) (k0_off1_inb i k 1))),
    upd (k0_pay5 v1 (View.ld x1 (rowsK (k0_off1 i k 1#32) (k0_off1_inb i k 0)))) (View.ld x2 (rowsV (k0_off3 i k) (k0_off3_inb i k)))
      (upd s.1 (View.ld x2 (rowsV (k0_off2 i k) (k0_off2_inb i k))) s.2))

/-- The scores and the statistics before trip `k`. -/
def trips (i : grid0.Coords) (v1 : FVec F S768x256 .bf16) (x1 : Vec F S1x8448x256 .bf16) (x2 : Vec F S1x8448x128 .bf16)
    (s : Vec F S768x768 .f32 × Stats F) : ℕ → Vec F S768x768 .f32 × Stats F
  | 0 => s
  | k + 1 => if h : k < (k0_t1_loop i).trips then tripStep i v1 x1 x2 ⟨k, h⟩ (trips i v1 x1 x2 s k) else trips i v1 x1 x2 s k

section Loop

variable (c : Dev nD) (bd : Option Variants.none.V) (E : Set ℕ) (i : grid0.Coords)
  (arg2 : Memref sig .tc .vmem S1x768x256 .bf16) (harg2 : arg2.IsWhole) (arg3 : Memref sig .tc .vmem S1x8448x256 .bf16) (harg3 : arg3.IsWhole)
  (arg4 : Memref sig .tc .vmem S1x8448x128 .bf16) (harg4 : arg4.IsWhole) (arg5 : Memref sig .tc .vmem S768x128 .f32) (harg5 : arg5.IsWhole)
  (arg6 : Memref sig .tc .vmem S1x1x1x768 .f32) (harg6 : arg6.IsWhole) (arg7 : Memref sig .tc .vmem S768x768 .f32) (harg7 : arg7.IsWhole)
  (arg8 : Memref sig .tc .vmem S768x768 .f32) (harg8 : arg8.IsWhole) (arg9 : Memref sig .tc .vmem S768x128 .f32) (harg9 : arg9.IsWhole)
  (arg10 : Memref sig .tc .vmem S768x128 .f32) (harg10 : arg10.IsWhole) (arg11 : Memref sig .tc .vmem S768x128 .f32) (harg11 : arg11.IsWhole)
  (arg1 : BitVec 32) (v1 : FVec F S768x256 .bf16) (c2_i32 v22 v27 v29 : BitVec 32) (v30 : BitVec 1)
  (X3 : BufTy.Contents (Elt F) arg3.view.ty) (X4 : BufTy.Contents (Elt F) arg4.view.ty)

/-- What the loop touches: the keys and the values at their contents, one score tile at any, the other one and the
    statistics at contents that read `s`. -/
abbrev held (s : Vec F S768x768 .f32 × Stats F) : sProp 𝕄 :=
  iprop((arg3.view.loc (c : Thread nD τ) ↦[arg3.view.set]{fullShare} X3) ∗ (arg4.view.loc (c : Thread nD τ) ↦[arg4.view.set]{fullShare} X4)
    ∗ (∃ f, (arg7.view.loc (c : Thread nD τ) ↦[arg7.view.set]{fullShare} f) ∗ ⌜arg7.view.read (Elt F) f = s.1⌝)
    ∗ (∃ f, (arg8.view.loc (c : Thread nD τ) ↦[arg8.view.set]{fullShare} f))
    ∗ (∃ f, (arg9.view.loc (c : Thread nD τ) ↦[arg9.view.set]{fullShare} f) ∗ ⌜arg9.view.read (Elt F) f = s.2.1⌝)
    ∗ (∃ f, (arg10.view.loc (c : Thread nD τ) ↦[arg10.view.set]{fullShare} f) ∗ ⌜arg10.view.read (Elt F) f = s.2.2.1⌝)
    ∗ (∃ f, (arg11.view.loc (c : Thread nD τ) ↦[arg11.view.set]{fullShare} f) ∗ ⌜arg11.view.read (Elt F) f = s.2.2.2⌝))

set_option maxHeartbeats 1000000 in
/-- One trip keeps the inputs and makes `tripStep` of the scores and the statistics. -/
theorem trip (k : Fin (k0_t1_loop i).trips) (s : Vec F S768x768 .f32 × Stats F) :
    held c arg3 arg4 arg7 arg8 arg9 arg10 arg11 X3 X4 s
      ⊢ wp frame (wpE (defs₀ (F := F)) Variants.none (c : Thread nD τ) bd) E
          (k0_t1_body (F := F) i arg2 harg2 arg3 harg3 arg4 harg4 arg5 harg5 arg6 harg6 arg7 harg7 arg8 harg8 arg9 harg9 arg10 harg10 arg11 harg11 arg1 v1 c2_i32 v22 v27 v29 v30 k PUnit.unit)
          (fun _ => held c arg3 arg4 arg7 arg8 arg9 arg10 arg11 X3 X4
            (tripStep i v1 (arg3.view.read (Elt F) X3) (arg4.view.read (Elt F) X4) k s)) := by
  unfold k0_t1_body held
  simp only [k0_part1_eq_skeleton, k0_part2_eq_skeleton]
  iintro ⟨H3, H4, ⟨%f7, H7, %h7⟩, ⟨%f8, H8⟩, ⟨%f9, H9, %h9⟩, ⟨%f10, H10, %h10⟩, ⟨%f11, H11, %h11⟩⟩
  have e7 := (View.readAt_eq_ld arg7.view f7 (Rect.unit ![0, 0] S768x768.size inb_S768x768_S768x768_0_0)).trans ((View.ld_unit_zero zero2 _ _).trans h7)
  have e9 := (View.readAt_eq_ld arg9.view f9 (Rect.unit ![0, 0] S768x128.size inb_S768x128_S768x128_0_0)).trans ((View.ld_unit_zero zero2 _ _).trans h9)
  have e10 := (View.readAt_eq_ld arg10.view f10 (Rect.unit ![0, 0] S768x128.size inb_S768x128_S768x128_0_0)).trans ((View.ld_unit_zero zero2 _ _).trans h10)
  have e11 := (View.readAt_eq_ld arg11.view f11 (Rect.unit ![0, 0] S768x128.size inb_S768x128_S768x128_0_0)).trans ((View.ld_unit_zero zero2 _ _).trans h11)
  sl_exec
  sl_step
  isplitl [H3]; · iexact H3
  isplitl [H4]; · iexact H4
  isplitl [H7]
  · iexists _; isplitl [H7]; · iexact H7
    ipureintro
    sl_unfold_words
    refine (read_full (F := F) arg7.view f7 zero2 _ _ _).trans ?_
    rw [View.readAt_eq_ld]; rfl
  isplitl [H8]
  · iexists _; iexact H8
  isplitl [H9]
  · iexists _; isplitl [H9]; · iexact H9
    ipureintro
    sl_unfold_words
    refine (read_full (F := F) arg9.view f9 zero2 _ _ _).trans ?_
    rw [View.readCov_unit_zero arg8.view zero2, View.readCov_unit_zero arg9.view zero2]
    rfl
  isplitl [H10]
  · iexists _; isplitl [H10]; · iexact H10
    ipureintro
    sl_unfold_words
    refine (read_full (F := F) arg10.view f10 zero2 _ _ _).trans ?_
    rw [View.readCov_unit_zero arg8.view zero2, View.readCov_unit_zero arg9.view zero2, View.readCov_unit_zero arg10.view zero2]
    rfl
  iexists _; isplitl [H11]; · iexact H11
  ipureintro
  sl_unfold_words
  refine (read_full (F := F) arg11.view f11 zero2 _ _ _).trans ?_
  rw [View.readCov_unit_zero arg8.view zero2, View.readCov_unit_zero arg9.view zero2]
  refine (congrArg (fun a => k0_pay56 _ _ a _) (View.readCov_unit_zero arg11.view zero2 inb_S768x128_S768x128_0_0 _)).trans ?_
  rfl

/-- The loop by its invariant: before trip `k` the scores and the statistics read `trips … k`. -/
theorem below (s : Vec F S768x768 .f32 × Stats F) {β : Type} (kk : Unit → Prog (TpuEff nD τ sig (Elt F) Λ₀ .tc) β) (Q : β → sProp 𝕄) :
    held c arg3 arg4 arg7 arg8 arg9 arg10 arg11 X3 X4 s
      ⊢ iprop((held c arg3 arg4 arg7 arg8 arg9 arg10 arg11 X3 X4 (trips i v1 (arg3.view.read (Elt F) X3) (arg4.view.read (Elt F) X4) s (k0_t1_loop i).trips)
          -∗ wp frame (wpE (defs₀ (F := F)) Variants.none (c : Thread nD τ) bd) E (kk ()) Q)
        -∗ wp frame (wpE (defs₀ (F := F)) Variants.none (c : Thread nD τ) bd) E
          ((k0_t1_loop i).for (k0_t1_ok i) () (k0_t1_body (F := F) i arg2 harg2 arg3 harg3 arg4 harg4 arg5 harg5 arg6 harg6 arg7 harg7 arg8 harg8 arg9 harg9 arg10 harg10 arg11 harg11 arg1 v1 c2_i32 v22 v27 v29 v30) >>= kk) Q) := by
  iintro H K
  iapply (Scf.wp_for_bind frame (wpE (defs₀ (F := F)) Variants.none (c : Thread nD τ) bd) E _ _ _ (k0_t1_ok i) () _
    (fun k _ => held c arg3 arg4 arg7 arg8 arg9 arg10 arg11 X3 X4 (trips i v1 (arg3.view.read (Elt F) X3) (arg4.view.read (Elt F) X4) s k))
    (fun k acc => by
      have e : trips i v1 (arg3.view.read (Elt F) X3) (arg4.view.read (Elt F) X4) s (k.val + 1) = tripStep i v1 (arg3.view.read (Elt F) X3) (arg4.view.read (Elt F) X4) k (trips i v1 (arg3.view.read (Elt F) X3) (arg4.view.read (Elt F) X4) s k.val) := by
        rw [trips, dif_pos k.isLt]
      rw [e]
      exact trip c bd E i arg2 harg2 arg3 harg3 arg4 harg4 arg5 harg5 arg6 harg6 arg7 harg7 arg8 harg8 arg9 harg9 arg10 harg10 arg11 harg11 arg1 v1 c2_i32 v22 v27 v29 v30 X3 X4 k _)) $$ [H]
  · iexact H
  iintro %acc H
  iapply K $$ H

end Loop

end Cert.Proof.Forward.Trip

end
-- ==== Proof.Forward.Body.lean ====
/- The forward kernel's body at one grid point: what it leaves in its output blocks, as functions of the input blocks. -/
module

public import proofs.«01_k».proof.Proof.Forward.Trip

@[expose] public section

set_option maxRecDepth 16384

noncomputable section

namespace Cert.Proof.Forward.Body

open Cert.Kernel11Ideal Cert.Kernel11Ideal.Gen Cert.Proof.Forward.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The scores of the first tile, and the statistics before any tile. -/
def start (x0 : Vec F S1x768x256 .bf16) (x1 : Vec F S1x8448x256 .bf16) : Vec F S768x768 .f32 × Stats F :=
  (k0_pay53 x0 (View.ld x1 (rowsK ![0, 0, 0] inb_S1x8448x256_S1x768x256_0_0_0)), k0_pay50, k0_pay51, k0_pay52)

/-- The last pair of tiles of an even row tile: only the diagonal's, masked. -/
def lastEven (i : grid0.Coords) (h : k0_cond1 i = 1#1) (x2 : Vec F S1x8448x128 .bf16) (s : Vec F S768x768 .f32 × Stats F) : Stats F :=
  upd (k0_pay29 s.1) (View.ld x2 (rowsV (k0_off7 i) (k0_off7_inb i h))) s.2

/-- The last pair of tiles of an odd row tile: the one below the diagonal's, then the diagonal's, masked. -/
def lastOdd (i : grid0.Coords) (h : k0_cond2 i = 1#1) (v1 : FVec F S768x256 .bf16) (x1 : Vec F S1x8448x256 .bf16)
    (x2 : Vec F S1x8448x128 .bf16) (s : Vec F S768x768 .f32 × Stats F) : Stats F :=
  upd (k0_pay44 (k0_pay35 v1 (View.ld x1 (rowsK (k0_off8 i) (k0_off8_inb i h))))) (View.ld x2 (rowsV (k0_off10 i) (k0_off10_inb i h)))
    (upd s.1 (View.ld x2 (rowsV (k0_off9 i) (k0_off9_inb i h))) s.2)

/-- The statistics at the end of a point. -/
def point (i : grid0.Coords) (x0 : Vec F S1x768x256 .bf16) (x1 : Vec F S1x8448x256 .bf16) (x2 : Vec F S1x8448x128 .bf16) : Stats F :=
  let s := trips i (k0_pay49 x0) x1 x2 (start x0 x1) (k0_t1_loop i).trips
  if h : k0_cond1 i = 1#1 then lastEven i h x2 s
  else if h : k0_cond2 i = 1#1 then lastOdd i h (k0_pay49 x0) x1 x2 s
  else s.2

/-- Exactly one of the body's two `if`s is taken. -/
theorem one_of : ∀ i : grid0.Coords, k0_cond1 i = 1#1 ∧ ¬k0_cond2 i = 1#1 ∨ ¬k0_cond1 i = 1#1 ∧ k0_cond2 i = 1#1 := by
  decide +kernel

section Run

variable (c : Dev nD) (i : grid0.Coords)
  (arg2 : Memref sig .tc .vmem S1x768x256 .bf16) (harg2 : arg2.IsWhole) (arg3 : Memref sig .tc .vmem S1x8448x256 .bf16) (harg3 : arg3.IsWhole)
  (arg4 : Memref sig .tc .vmem S1x8448x128 .bf16) (harg4 : arg4.IsWhole) (arg5 : Memref sig .tc .vmem S768x128 .f32) (harg5 : arg5.IsWhole)
  (arg6 : Memref sig .tc .vmem S1x1x1x768 .f32) (harg6 : arg6.IsWhole) (arg7 : Memref sig .tc .vmem S768x768 .f32) (harg7 : arg7.IsWhole)
  (arg8 : Memref sig .tc .vmem S768x768 .f32) (harg8 : arg8.IsWhole) (arg9 : Memref sig .tc .vmem S768x128 .f32) (harg9 : arg9.IsWhole)
  (arg10 : Memref sig .tc .vmem S768x128 .f32) (harg10 : arg10.IsWhole) (arg11 : Memref sig .tc .vmem S768x128 .f32) (harg11 : arg11.IsWhole)
  (x0 : Vec F S1x768x256 .bf16) (x1 : Vec F S1x8448x256 .bf16) (x2 : Vec F S1x8448x128 .bf16)

/-- What the body is called with besides its output blocks, and what it hands back. -/
abbrev inputs : sProp 𝕄 :=
  iprop(owns (c : Thread nD τ) arg2 fullShare x0 ∗ owns (c : Thread nD τ) arg3 fullShare x1 ∗ owns (c : Thread nD τ) arg4 fullShare x2)
abbrev scratch : sProp 𝕄 :=
  iprop((∃ d, owns (c : Thread nD τ) arg7 fullShare d) ∗ (∃ d, owns (c : Thread nD τ) arg8 fullShare d) ∗ (∃ d, owns (c : Thread nD τ) arg9 fullShare d)
    ∗ (∃ d, owns (c : Thread nD τ) arg10 fullShare d) ∗ (∃ d, owns (c : Thread nD τ) arg11 fullShare d))
abbrev outs (s : Stats F) : sProp 𝕄 :=
  iprop(owns (c : Thread nD τ) arg5 fullShare (k0_pay3 s.2.1 s.2.2) ∗ owns (c : Thread nD τ) arg6 fullShare (k0_pay4 s.2.1 s.1))

set_option maxHeartbeats 1000000 in
/-- The body at a point. -/
theorem run (E : Set ℕ) (K : PUnit → sProp 𝕄) :
    iprop(inputs c arg2 arg3 arg4 x0 x1 x2
        ∗ (∃ d, owns (c : Thread nD τ) arg5 fullShare d) ∗ (∃ d, owns (c : Thread nD τ) arg6 fullShare d)
        ∗ scratch c arg7 arg8 arg9 arg10 arg11
        ∗ (iprop(inputs c arg2 arg3 arg4 x0 x1 x2
            ∗ outs c arg5 arg6 (point i x0 x1 x2) ∗ scratch c arg7 arg8 arg9 arg10 arg11) -∗ K PUnit.unit))
      ⊢ wp frame (wpE (defs₀ (F := F)) Variants.none c none) E (cc0_flash_fwd i arg2 harg2 arg3 harg3 arg4 harg4 arg5 harg5 arg6 harg6 arg7 harg7 arg8 harg8 arg9 harg9 arg10 harg10 arg11 harg11) K := by
  simp only [cc0_flash_fwd_eq_skeleton]; unfold cc0_flash_fwd_skel
  simp only [k0_part5_eq_skeleton, k0_part6_eq_skeleton, k0_part7_eq_skeleton, k0_part8_eq_skeleton, k0_part9_eq_skeleton]
  unfold inputs scratch outs owns
  iintro ⟨⟨⟨%f2, %hf2, H2⟩, ⟨%f3, %hf3, H3⟩, ⟨%f4, %hf4, H4⟩⟩, ⟨%d5, %f5, -, H5⟩, ⟨%d6, %f6, -, H6⟩, ⟨⟨%d7, %f7, -, H7⟩, ⟨%d8, %f8, -, H8⟩, ⟨%d9, %f9, -, H9⟩, ⟨%d10, %f10, -, H10⟩, ⟨%d11, %f11, -, H11⟩⟩, Hk⟩
  subst hf2 hf3 hf4
  have e2 : View.readAt (Elt F) arg2.view (Rect.unit ![0, 0, 0] S1x768x256.size inb_S1x768x256_S1x768x256_0_0_0).toLoadRect f2 = arg2.view.read (Elt F) f2 := by
    rw [View.readAt_eq_ld, View.ld_unit_zero zero3]
  have htr : (k0_t2_loop i).trips = 0 := Nat.le_zero.mp (k0_t2_abs i).2.1
  sl_exec
  sl_unfold_words
  iapply (below c none E i arg2 harg2 arg3 harg3 arg4 harg4 arg5 harg5 arg6 harg6 arg7 harg7 arg8 harg8 arg9 harg9 arg10 harg10 arg11 harg11 _ (k0_pay49 (arg2.view.read (Elt F) f2)) _ _ _ _ _ f3 f4 (start (arg2.view.read (Elt F) f2) (arg3.view.read (Elt F) f3))) $$ [H3 H4 H7 H8 H9 H10 H11]
  · unfold held
    isplitl [H3]; · iexact H3
    isplitl [H4]; · iexact H4
    isplitl [H7]
    · iexists _; isplitl [H7]; · iexact H7
      ipureintro
      sl_unfold_words
      refine (read_full arg7.view _ zero2 _ _ _).trans ?_
      rfl
    isplitl [H8]; · iexists _; iexact H8
    isplitl [H9]
    · iexists _; isplitl [H9]; · iexact H9
      ipureintro; exact read_full arg9.view _ zero2 _ _ _
    isplitl [H10]
    · iexists _; isplitl [H10]; · iexact H10
      ipureintro; exact read_full arg10.view _ zero2 _ _ _
    iexists _; isplitl [H11]; · iexact H11
    ipureintro; exact read_full arg11.view _ zero2 _ _ _
  iintro ⟨H3, H4, ⟨%g7, H7, %h7⟩, ⟨%g8, H8⟩, ⟨%g9, H9, %h9⟩, ⟨%g10, H10, %h10⟩, ⟨%g11, H11, %h11⟩⟩
  generalize hs : trips i (k0_pay49 (arg2.view.read (Elt F) f2)) (arg3.view.read (Elt F) f3) (arg4.view.read (Elt F) f4)
    (start (arg2.view.read (Elt F) f2) (arg3.view.read (Elt F) f3)) (k0_t1_loop i).trips = s at h7 h9 h10 h11
  have e7 := (View.readAt_eq_ld arg7.view g7 (Rect.unit ![0, 0] S768x768.size inb_S768x768_S768x768_0_0)).trans ((View.ld_unit_zero zero2 _ _).trans h7)
  have e9 := (View.readAt_eq_ld arg9.view g9 (Rect.unit ![0, 0] S768x128.size inb_S768x128_S768x128_0_0)).trans ((View.ld_unit_zero zero2 _ _).trans h9)
  have e10 := (View.readAt_eq_ld arg10.view g10 (Rect.unit ![0, 0] S768x128.size inb_S768x128_S768x128_0_0)).trans ((View.ld_unit_zero zero2 _ _).trans h10)
  have e11 := (View.readAt_eq_ld arg11.view g11 (Rect.unit ![0, 0] S768x128.size inb_S768x128_S768x128_0_0)).trans ((View.ld_unit_zero zero2 _ _).trans h11)
  rcases one_of i with ⟨hc1, hc2⟩ | ⟨hc1, hc2⟩
  · have hp : point i (arg2.view.read (Elt F) f2) (arg3.view.read (Elt F) f3) (arg4.view.read (Elt F) f4)
        = lastEven i hc1 (arg4.view.read (Elt F) f4) s := by
      simp only [point]; rw [dif_pos hc1, hs]
    rw [hp]
    sl_exec (disch := first | sl_exact hc1 | sl_exact hc2)
    sl_step
    iapply Hk
    isplitl [H2 H3 H4]
    · isplitl [H2]; · iexists f2; isplitr; · ipureintro; rfl
                      iexact H2
      isplitl [H3]; · iexists f3; isplitr; · ipureintro; rfl
                      iexact H3
      iexists f4; isplitr; · ipureintro; rfl
      iexact H4
    isplitl [H5 H6]
    · isplitl [H5]
      · iexists _; isplitr; swap; · iexact H5
        ipureintro
        sl_unfold_words
        refine (read_full arg5.view _ zero2 _ _ _).trans ?_
        refine congrArg₂ k0_pay3 ((readCov_last arg10.view zero2 inb_S768x128_S768x128_0_0 _ _).trans ?_) ((readCov_last arg11.view zero2 inb_S768x128_S768x128_0_0 _ _).trans ?_)
        · rfl
        · rfl
      iexists _; isplitr; swap; · iexact H6
      ipureintro
      sl_unfold_words
      refine (read_full arg6.view _ zero4 _ _ _).trans ?_
      refine congrArg₂ k0_pay4 ((readCov_last arg10.view zero2 inb_S768x128_S768x128_0_0 _ _).trans ?_) ((readCov_last arg9.view zero2 inb_S768x128_S768x128_0_0 _ _).trans ?_)
      · rfl
      · rfl
    isplitl [H7]
    · iexists _, g7; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  · have hp : point i (arg2.view.read (Elt F) f2) (arg3.view.read (Elt F) f3) (arg4.view.read (Elt F) f4)
        = lastOdd i hc2 (k0_pay49 (arg2.view.read (Elt F) f2)) (arg3.view.read (Elt F) f3) (arg4.view.read (Elt F) f4) s := by
      simp only [point]; rw [dif_neg hc1, dif_pos hc2, hs]
    rw [hp]
    sl_exec (disch := first | sl_exact hc1 | sl_exact hc2)
    sl_step
    iapply Hk
    isplitl [H2 H3 H4]
    · isplitl [H2]; · iexists f2; isplitr; · ipureintro; rfl
                      iexact H2
      isplitl [H3]; · iexists f3; isplitr; · ipureintro; rfl
                      iexact H3
      iexists f4; isplitr; · ipureintro; rfl
      iexact H4
    isplitl [H5 H6]
    · isplitl [H5]
      · iexists _; isplitr; swap; · iexact H5
        ipureintro
        sl_unfold_words
        refine (read_full arg5.view _ zero2 _ _ _).trans ?_
        refine congrArg₂ k0_pay3 ((readCov_last arg10.view zero2 inb_S768x128_S768x128_0_0 _ _).trans ?_) ((readCov_last arg11.view zero2 inb_S768x128_S768x128_0_0 _ _).trans ?_)
        · rw [readCov_last arg8.view zero2, readCov_last arg9.view zero2]
          rw [readCov_last arg10.view zero2]; rfl
        · rw [readCov_last arg8.view zero2, readCov_last arg9.view zero2]
          refine (congrArg (fun a => k0_pay1 _ _ a _) (readCov_last arg11.view zero2 inb_S768x128_S768x128_0_0 _ _)).trans ?_
          rfl
      iexists _; isplitr; swap; · iexact H6
      ipureintro
      sl_unfold_words
      refine (read_full arg6.view _ zero4 _ _ _).trans ?_
      refine congrArg₂ k0_pay4 ((readCov_last arg10.view zero2 inb_S768x128_S768x128_0_0 _ _).trans ?_) ((readCov_last arg9.view zero2 inb_S768x128_S768x128_0_0 _ _).trans ?_)
      · rw [readCov_last arg8.view zero2, readCov_last arg9.view zero2]
        rw [readCov_last arg10.view zero2]; rfl
      · rw [readCov_last arg8.view zero2, readCov_last arg9.view zero2]; rfl
    isplitl [H7]
    · iexists _, g7; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Run

end Cert.Proof.Forward.Body

end
-- ==== Proof.Forward.Run.lean ====
module

public import proofs.«01_k».proof.Proof.Forward.Body
public import proofs.«01_k».proof.Proof.Gen.Kernel11Ideal.Frame.Runs
public import Idealize.ShloMosaic.Lib.Claim

/-! The forward program's run: the proof data of the one launch (what each window's buffer holds after each point), the
body's triple at every point, and the launch with the host lines around it. -/

@[expose] public section

set_option maxRecDepth 16384

noncomputable section

namespace Cert.Proof.Forward.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel11Ideal Cert.Kernel11Ideal.Gen Cert.Proof.Forward.Trip Cert.Proof.Forward.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's buffer at a point. -/
abbrev buf0 (t : Fin cfg0.N) : Memref sig .tc .vmem S1x768x256 .bf16 := win0_0.stage (cfg0.slots t 0)
abbrev buf1 (t : Fin cfg0.N) : Memref sig .tc .vmem S1x8448x256 .bf16 := win0_1.stage (cfg0.slots t 1)
abbrev buf2 (t : Fin cfg0.N) : Memref sig .tc .vmem S1x8448x128 .bf16 := win0_2.stage (cfg0.slots t 2)
abbrev buf3 (t : Fin cfg0.N) : Memref sig .tc .vmem S768x128 .f32 := win0_3.stage (cfg0.slots t 3)
abbrev buf4 (t : Fin cfg0.N) : Memref sig .tc .vmem S1x1x1x768 .f32 := win0_4.stage (cfg0.slots t 4)

/-- The launch's invariant spelled out: the scores and the statistics at some contents, and the generator's register. -/
theorem inv_eq (c : Dev nD) : (Pipeline.ΦA spec0 c : sProp 𝕄)
    = iprop(scratch c (Memref.whole cc0_scratch0) (Memref.whole cc0_scratch1) (Memref.whole cc0_scratch2) (Memref.whole cc0_scratch3) (Memref.whole cc0_scratch4) ∗ (∃ r, prngReg c r)) := by
  unfold Pipeline.ΦA; rw [scopedRest0_eq]; simp only [scratch, owns_whole]; try rfl

/-- The statistics at the end of point `t`. -/
def stAt (c : Dev nD) (t : Fin cfg0.N) : Stats F :=
  point (grid0.coords t) (iblk m c 0 t) (iblk m c 1 t) (iblk m c 2 t)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (stAt m c t).2.1 (stAt m c t).2.2
    | ⟨4, _⟩ => k0_pay4 (stAt m c t).2.1 (stAt m c t).1
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (stAt m c t).2.1 (stAt m c t).2.2 := by
  dsimp only [dats]
theorem after_4 (c : Dev nD) (t : Fin cfg0.N) : (dats m 0 c).after 4 t = k0_pay4 (stAt m c t).2.1 (stAt m c t).1 := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- What it leaves. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t))

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩⟩
  iapply (run c (grid0.coords t) _ _ _ _ _ _ _ _ _ _ _ _ _ _ _ _ _ _ _ _ (iblk m c 0 t) (iblk m c 1 t) (iblk m c 2 t) Set.univ _)
  isplitl [H0 H1 H2]
  · isplitl [H0]; · iexact H0
    isplitl [H1]; · iexact H1
    iexact H2
  isplitl [H3]; · iexists _; iexact H3
  isplitl [H4]; · iexists _; iexact H4
  isplitl [HS]; · iexact HS
  iintro ⟨⟨H0, H1, H2⟩, ⟨H3, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
set_option maxHeartbeats 800000 in
/-- The run of the whole program: the launch's arrays, the host lines' results after it, and every counter at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Quiescence: the arguments end as launched and every counter is zero again. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Forward.Run

end
-- ==== Proof.Forward.Pay.lean ====
/- The forward body's expressions over the reals, read at one element. -/
module

public import proofs.«01_k».proof.Proof.Forward.Trip
public import proofs.«01_k».proof.Proof.Host
public import Idealize.ShloMosaic.Lib.Pointwise
public import Idealize.ShloMosaic.Lib.WordCmp

@[expose] public section

set_option maxRecDepth 16384

noncomputable section

namespace Cert.Proof.Forward.Pay

open Cert.Kernel11Ideal Cert.Kernel11Ideal.Gen
open Idealize.ShloMosaic

/-! A tile's scores, in the loop, for the tile on the diagonal, and for the first tile. -/

theorem pay5_apply (v : FVec Ideal S768x256 .bf16) (x : Vec Ideal S1x768x256 .bf16) (a b : Fin 768) :
    k0_pay5 v x (ix2 a b) = ∑ d : Fin 256, v (ix2 a d) * x (ix3 0 b d) := by
  pointwise [k0_pay5]

theorem pay35_apply (v : FVec Ideal S768x256 .bf16) (x : Vec Ideal S1x768x256 .bf16) (a b : Fin 768) :
    k0_pay35 v x (ix2 a b) = ∑ d : Fin 256, v (ix2 a d) * x (ix3 0 b d) := by
  pointwise [k0_pay35]

theorem pay53_apply (v x : Vec Ideal S1x768x256 .bf16) (a b : Fin 768) :
    k0_pay53 v x (ix2 a b) = ∑ d : Fin 256, v (ix3 0 a d) * x (ix3 0 b d) := by
  pointwise [k0_pay53, k0_pay49]

theorem pay49_apply (x : Vec Ideal S1x768x256 .bf16) (a : Fin 768) (d : Fin 256) :
    k0_pay49 x (ix2 a d) = x (ix3 0 a d) := by
  pointwise [k0_pay49]

/-- The diagonal tile's scores, masked. -/
theorem pay29_apply (s : Vec Ideal S768x768 .f32) (a b : Fin 768) :
    k0_pay29 s (ix2 a b) = if b.val ≤ a.val then s (ix2 a b) else ⊥ := by
  pointwise [k0_pay29]
  rw [WordCmp.cmpi_sge_ofNat (by omega) (by omega), IdealRules.named_const.ideal_named_scalar _ _ _ ⊥ rfl]
  exact Scalar.select_decide _ _ _

theorem pay44_apply (s : Vec Ideal S768x768 .f32) (a b : Fin 768) :
    k0_pay44 s (ix2 a b) = if b.val ≤ a.val then s (ix2 a b) else ⊥ := pay29_apply s a b

/-! The statistics: where they start, and what a tile makes of them. -/

theorem pay50_apply (j : S768x128.Idx) : k0_pay50 (F := Ideal) j = ⊥ := by
  pointwise [k0_pay50]
  rw [IdealRules.named_const.ideal_named_scalar _ _ _ ⊥ rfl]

theorem pay51_apply (j : S768x128.Idx) : k0_pay51 (F := Ideal) j = 0 := by
  pointwise [k0_pay51]

theorem pay52_apply (j : S768x128.Idx) : k0_pay52 (F := Ideal) j = 0 := by
  pointwise [k0_pay52]

theorem pay6_apply (s : Vec Ideal S768x768 .f32) (m : Vec Ideal S768x128 .f32) (a : Fin 768) (j : Fin 128) :
    k0_pay6 s m (ix2 a j)
      = max (m (ix2 a j)) ((Finset.univ : Finset (Fin 768)).fold max ⊥ fun b => (s (ix2 a b) : EReal)) := by
  pointwise [k0_pay6]
  rw [Host.neg_inf_eq]

theorem pay7_apply (s : Vec Ideal S768x768 .f32) (m : Vec Ideal S768x128 .f32) (a : Fin 768) (j : Fin 128) :
    k0_pay7 s m (ix2 a j) = Ideal.exp2 (m (ix2 a j) - k0_pay6 s m (ix2 a j)) := by
  pointwise [k0_pay7]; rfl

theorem pay8_apply (s : Vec Ideal S768x768 .f32) (m : Vec Ideal S768x128 .f32) (a b : Fin 768) :
    k0_pay8 s m (ix2 a b) = Ideal.exp2 (s (ix2 a b) - k0_pay6 s m (ix2 a 0)) := by
  pointwise [k0_pay8]; rfl

theorem pay9_apply (s : Vec Ideal S768x768 .f32) (m l : Vec Ideal S768x128 .f32) (a : Fin 768) (j : Fin 128) :
    k0_pay9 s m l (ix2 a j) = k0_pay7 s m (ix2 a j) * l (ix2 a j) + ∑ b : Fin 768, k0_pay8 s m (ix2 a b) := by
  pointwise [k0_pay9]

theorem pay10_apply (s : Vec Ideal S768x768 .f32) (m o : Vec Ideal S768x128 .f32) (a : Fin 768) (j : Fin 128) :
    k0_pay10 s m o (ix2 a j) = k0_pay7 s m (ix2 a j) * o (ix2 a j) := by
  pointwise [k0_pay10]

theorem pay11_apply (p : FVec Ideal S768x768 .f32) (o : FVec Ideal S768x128 .f32) (w : Vec Ideal S1x768x128 .bf16) (a : Fin 768) (d : Fin 128) :
    k0_pay11 p o w (ix2 a d) = o (ix2 a d) + ∑ b : Fin 768, p (ix2 a b) * w (ix3 0 b d) := by
  pointwise [k0_pay11]

theorem pay12_apply (x : FVec Ideal S768x128 .f32) (a : Fin 768) (j : Fin 128) : k0_pay12 x (ix2 a j) = x (ix2 a j) := by
  pointwise [k0_pay12]

/-! What a point leaves. -/

theorem pay3_apply (l o : Vec Ideal S768x128 .f32) (a : Fin 768) (d : Fin 128) :
    k0_pay3 l o (ix2 a d) = Ideal.div (o (ix2 a d)) (l (ix2 a d)) := by
  pointwise [k0_pay3]

theorem pay4_apply (l m : Vec Ideal S768x128 .f32) (a : Fin 768) :
    k0_pay4 l m (ix4 0 0 0 a) = m (ix2 a 0) + Ideal.log (l (ix2 a 0)) * (((Real.log 2)⁻¹ : ℝ) : EReal) := by
  pointwise [k0_pay4]
  rw [IdealRules.named_const.ideal_named_scalar _ _ _ (((Real.log 2)⁻¹ : ℝ) : EReal) rfl]

end Cert.Proof.Forward.Pay

end
-- ==== Proof.Forward.Row.lean ====
/- One row of the online softmax over the reals: what a tile of scores makes of a sum weighted by powers of two of the
   scores less the row's running maximum. -/
module

public import proofs.«01_k».proof.Proof.Tile
public import proofs.«01_k».proof.Proof.Spec

@[expose] public section

noncomputable section

namespace Cert.Proof.Forward.Row

open Idealize.ShloMosaic
open Finset (range)

/-- The weight of key `c` in row `r` when the running maximum is `μ`: a power of two of the score less `μ`, zero for a
    key after the row. -/
def W (S : ℕ → ℝ) (r : ℕ) (μ : ℝ) (c : ℕ) : ℝ := if c ≤ r then (2 : ℝ) ^ (S c - μ) else 0

/-- The running maximum `m` and the sum `x` of the first `n` keys' `U`: both at their start, or the weighted sum at a
    real maximum. -/
def Sums (S : ℕ → ℝ) (r n : ℕ) (U : ℕ → EReal) (m x : EReal) : Prop :=
  (m = ⊥ ∧ n = 0 ∧ x = 0) ∨ ∃ μ : ℝ, m = (μ : EReal) ∧ x = ∑ c ∈ range n, (W S r μ c : EReal) * U c

/-- A sum scaled by a real that isn't negative. -/
theorem coe_mul_sum {a : ℝ} (ha : 0 ≤ a) (n : ℕ) (f : ℕ → EReal) : (a : EReal) * ∑ c ∈ range n, f c = ∑ c ∈ range n, (a : EReal) * f c := by
  induction n with
  | zero => simp
  | succ n ih => rw [Finset.sum_range_succ, Finset.sum_range_succ, EReal.left_distrib_of_nonneg_of_ne_top (EReal.coe_nonneg.mpr ha) (EReal.coe_ne_top a), ih]

variable {S : ℕ → ℝ} {r n : ℕ} {U : ℕ → EReal} {m x : EReal}

theorem Sums.ne_top (h : Sums S r n U m x) : m ≠ ⊤ := by
  rcases h with ⟨rfl, -, -⟩ | ⟨μ, rfl, -⟩
  · exact bot_ne_top
  · exact EReal.coe_ne_top μ

/-- The weights at another maximum. -/
theorem W_scale (μ ν : ℝ) (c : ℕ) : (2 : ℝ) ^ (μ - ν) * W S r μ c = W S r ν c := by
  unfold W
  split_ifs
  · rw [← Real.rpow_add two_pos]; congr 1; ring
  · exact mul_zero _

/-- A tile's scores from key `n` on: real up to the row, masked after it. -/
abbrev Tile (S : ℕ → ℝ) (r n : ℕ) (t : Fin 768 → EReal) : Prop :=
  ∀ b : Fin 768, t b = if n + b.val ≤ r then (S (n + b) : EReal) else ⊥

variable {t : Fin 768 → EReal} (ht : Tile S r n t)

include ht

/-- The new maximum is real when the tile's first key is seen. -/
theorem max_real (hn : n ≤ r) (hm : m ≠ ⊤) : ∃ μ : ℝ, max m ((Finset.univ : Finset (Fin 768)).fold max ⊥ t) = (μ : EReal) := by
  refine ⟨_, (EReal.coe_toReal ?_ ?_).symm⟩
  · rcases max_choice m ((Finset.univ : Finset (Fin 768)).fold max ⊥ t) with e | e <;> rw [e]
    · exact hm
    · refine Spec.fold_max_ne_top _ _ fun b => ?_
      rw [ht b]
      split_ifs
      · exact EReal.coe_ne_top _
      · exact bot_ne_top
  · intro h
    have h0 : ((S n : ℝ) : EReal) ≤ (Finset.univ : Finset (Fin 768)).fold max ⊥ t := by
      rw [Finset.le_fold_max]
      exact Or.inr ⟨0, Finset.mem_univ _, by rw [ht 0, if_pos (by simpa using hn)]; simp⟩
    have h1 := h0.trans (le_max_right m _)
    rw [h, le_bot_iff] at h1
    exact EReal.coe_ne_bot _ h1

theorem exp2_tile (μ : ℝ) (b : Fin 768) : Ideal.exp2 (t b - (μ : EReal)) = (W S r μ (n + b) : EReal) := by
  rw [ht b, W]
  split_ifs
  · rw [← EReal.coe_sub, Ideal.exp2_coe]; rfl
  · rw [EReal.bot_sub, Ideal.exp2_bot, EReal.coe_zero]

/-- A tile taken into the sum: the old sum brought to the new maximum, and the tile's keys added. -/
theorem Sums.step (hx : Sums S r n U m x) {μ : ℝ} {u : Fin 768 → EReal} (hu : ∀ b, u b = U (n + b.val)) :
    Ideal.exp2 (m - (μ : EReal)) * x + ∑ b : Fin 768, Ideal.exp2 (t b - (μ : EReal)) * u b
      = ∑ c ∈ range (n + 768), (W S r μ c : EReal) * U c := by
  have e : ∑ b : Fin 768, Ideal.exp2 (t b - (μ : EReal)) * u b = ∑ b ∈ range 768, (W S r μ (n + b) : EReal) * U (n + b) :=
    (Finset.sum_congr rfl fun b _ => Ideal.mul_congr (exp2_tile ht μ b) (hu b)).trans
      (Fin.sum_univ_eq_sum_range (fun b => (W S r μ (n + b) : EReal) * U (n + b)) 768)
  rw [e, Finset.sum_range_add]
  refine congrArg (· + _) ?_
  rcases hx with ⟨rfl, rfl, rfl⟩ | ⟨ν, rfl, rfl⟩
  · rw [mul_zero, Finset.sum_range_zero]
  · rw [← EReal.coe_sub, Ideal.exp2_coe, coe_mul_sum (a := Real.rpow 2 (ν - μ)) (Real.rpow_pos_of_pos two_pos _).le]
    refine Finset.sum_congr rfl fun c _ => ?_
    rw [← mul_assoc, ← EReal.coe_mul, ← W_scale ν μ c]
    rfl

end Cert.Proof.Forward.Row

end
-- ==== Proof.Forward.Tile.lean ====
/- One point of the forward kernel over the reals: its row statistics after every key its rows see. -/
module

public import proofs.«01_k».proof.Proof.Forward.Body
public import proofs.«01_k».proof.Proof.Forward.Pay
public import proofs.«01_k».proof.Proof.Forward.Row

@[expose] public section

set_option maxRecDepth 16384

noncomputable section

namespace Cert.Proof.Forward.Tile

open Cert.Kernel11Ideal Cert.Kernel11Ideal.Gen Cert.Proof.Forward.Trip Cert.Proof.Forward.Body Cert.Proof.Forward.Pay
open Cert.Proof.Forward.Row (Sums)
open Idealize.ShloMosaic
open Finset (range)

/-- One head's scaled queries and keys, real, and its values, any, as functions of row and feature. -/
structure Head where
  qs : ℕ → ℕ → ℝ
  kk : ℕ → ℕ → ℝ
  vv : ℕ → ℕ → EReal

/-- The score of key `c` in row `r`, to the base two. -/
def Head.S (H : Head) (r c : ℕ) : ℝ := ∑ d ∈ range 256, H.qs r d * H.kk c d

/-- What row tile `i` reads. -/
structure Reads (H : Head) (i : ℕ) (x0 : Vec Ideal S1x768x256 .bf16) (x1 : Vec Ideal S1x8448x256 .bf16)
    (x2 : Vec Ideal S1x8448x128 .bf16) : Prop where
  q : ∀ (a : Fin 768) (d : Fin 256), x0 (ix3 0 a d) = (H.qs (768 * i + a) d : EReal)
  k : ∀ (c : Fin 8448) (d : Fin 256), x1 (ix3 0 c d) = (H.kk c d : EReal)
  v : ∀ (c : Fin 8448) (d : Fin 128), x2 (ix3 0 c d) = H.vv c d

/-- Row tile `i`'s statistics after the first `n` keys. -/
structure Inv (H : Head) (i n : ℕ) (s : Stats Ideal) : Prop where
  lanes : ∀ (a : Fin 768) (j : Fin 128), s.1 (ix2 a j) = s.1 (ix2 a 0)
  l : ∀ (a : Fin 768) (j : Fin 128), Sums (H.S (768 * i + a)) (768 * i + a) n (fun _ => 1) (s.1 (ix2 a j)) (s.2.1 (ix2 a j))
  o : ∀ (a : Fin 768) (d : Fin 128), Sums (H.S (768 * i + a)) (768 * i + a) n (fun c => H.vv c d) (s.1 (ix2 a d)) (s.2.2 (ix2 a d))

/-- The scores of the tile of keys from `n` on. -/
def Scores (H : Head) (i n : ℕ) (s : Vec Ideal S768x768 .f32) : Prop :=
  ∀ a b : Fin 768, s (ix2 a b) = (H.S (768 * i + a) (n + b) : EReal)

/-- The same, masked after the row. -/
def Masked (H : Head) (i n : ℕ) (s : Vec Ideal S768x768 .f32) : Prop :=
  ∀ a b : Fin 768, s (ix2 a b) = if n + b.val ≤ 768 * i + a.val then (H.S (768 * i + a) (n + b) : EReal) else ⊥

variable {H : Head} {i n : ℕ}

/-- Below the diagonal nothing is masked. -/
theorem Scores.below {s : Vec Ideal S768x768 .f32} (h : Scores H i n s) (hn : n + 768 ≤ 768 * i) : Masked H i n s :=
  fun a b => (h a b).trans (if_pos (by omega)).symm

theorem Scores.diag {s : Vec Ideal S768x768 .f32} (h : Scores H i (768 * i) s) : Masked H i (768 * i) (k0_pay29 s) := by
  intro a b
  rw [pay29_apply, h a b]
  by_cases e : b.val ≤ a.val
  · rw [if_pos e, if_pos (by omega)]
  · rw [if_neg e, if_neg (by omega)]

theorem start_inv : Inv H i 0 (k0_pay50 (F := Ideal), k0_pay51 (F := Ideal), k0_pay52 (F := Ideal)) where
  lanes a j := (pay50_apply (ix2 a j)).trans (pay50_apply (ix2 a 0)).symm
  l a j := Or.inl ⟨pay50_apply (ix2 a j), rfl, pay51_apply (ix2 a j)⟩
  o a d := Or.inl ⟨pay50_apply (ix2 a d), rfl, pay52_apply (ix2 a d)⟩

/-- A tile taken in. -/
theorem Inv.upd {a : Stats Ideal} (h : Inv H i n a) (hn : n ≤ 768 * i) {s : Vec Ideal S768x768 .f32} (hs : Masked H i n s)
    {w : Vec Ideal S1x768x128 .bf16} (hw : ∀ (b : Fin 768) (d : Fin 128), w (ix3 0 b d) = H.vv (n + b) d) :
    Inv H i (n + 768) (Trip.upd s w a) := by
  have top (x : Fin 768) (j : Fin 128) : ∃ μ : ℝ, k0_pay6 s a.1 (ix2 x j) = (μ : EReal) := by
    rw [pay6_apply]
    exact Row.max_real (hs x) (by omega) (h.l x j).ne_top
  have lane (x : Fin 768) (j : Fin 128) : k0_pay6 s a.1 (ix2 x j) = k0_pay6 s a.1 (ix2 x 0) := by
    rw [pay6_apply, pay6_apply, h.lanes]
  refine ⟨fun x j => ?_, fun x j => ?_, fun x d => ?_⟩
  · exact (pay12_apply _ x j).trans ((lane x j).trans (pay12_apply _ x 0).symm)
  · obtain ⟨μ, e⟩ := top x j
    have e0 := (lane x j).symm.trans e
    refine Or.inr ⟨μ, (pay12_apply _ x j).trans e, ?_⟩
    refine (pay9_apply s a.1 a.2.1 x j).trans ?_
    rw [← Row.Sums.step (hs x) (h.l x j) (u := fun _ => 1) (fun _ => rfl), pay7_apply, e]
    refine congrArg _ (Finset.sum_congr rfl fun b _ => ?_)
    rw [pay8_apply, e0, mul_one]
  · obtain ⟨μ, e⟩ := top x d
    have e0 := (lane x d).symm.trans e
    refine Or.inr ⟨μ, (pay12_apply _ x d).trans e, ?_⟩
    refine (pay11_apply _ _ w x d).trans ?_
    rw [← Row.Sums.step (hs x) (h.o x d) (u := fun b => w (ix3 0 b d)) (fun b => hw b d), pay10_apply, pay7_apply, e]
    refine congrArg _ (Finset.sum_congr rfl fun b _ => ?_)
    rw [pay8_apply, e0]

/-! Where the loads lie. -/

theorem trips_eq : ∀ i : grid0.Coords, (k0_t1_loop i).trips = (i 1).val / 2 := by decide +kernel

theorem off1_eq : ∀ (i : grid0.Coords) (k : Fin (k0_t1_loop i).trips), k0_off1 i k 1#32 = ![0, 1536 * k.val + 768, 0]
    ∧ k0_off1 i k 2#32 = ![0, 1536 * k.val + 1536, 0] ∧ k0_off2 i k = ![0, 1536 * k.val, 0] ∧ k0_off3 i k = ![0, 1536 * k.val + 768, 0] := by
  decide +kernel

theorem off7_eq : ∀ i : grid0.Coords, k0_off7 i = ![0, 768 * (i 1).val, 0] ∧ k0_off8 i = ![0, 768 * (i 1).val, 0]
    ∧ k0_off10 i = ![0, 768 * (i 1).val, 0] := by decide +kernel

theorem off9_eq : ∀ i : grid0.Coords, k0_cond2 i = 1#1 → k0_off9 i = ![0, 768 * ((i 1).val - 1), 0] := by decide +kernel

/-- Which rows of tiles end with one tile, and which with two. -/
theorem cond_eq : ∀ i : grid0.Coords, (k0_cond1 i = 1#1 → 2 * ((i 1).val / 2) = (i 1).val)
    ∧ (k0_cond2 i = 1#1 → 2 * ((i 1).val / 2) + 1 = (i 1).val) := by decide +kernel

theorem ldK (x : Vec Ideal S1x8448x256 .bf16) {off : Fin 3 → ℕ} (ho : off = ![0, n, 0]) (hn : n + 768 ≤ 8448)
    (h : ∀ a, off a + S1x768x256.size a ≤ S1x8448x256.size a) (b : Fin 768) (d : Fin 256) :
    View.ld x (rowsK off h) (ix3 0 b d) = x (ix3 0 ⟨n + b, by omega⟩ d) := by
  subst ho
  refine View.ld_unit_apply_of _ _ _ _ _ _ fun a => ?_
  match a with
  | ⟨0, _⟩ => rfl
  | ⟨1, _⟩ => rfl
  | ⟨2, _⟩ => exact (Nat.zero_add _).symm

theorem ldV (x : Vec Ideal S1x8448x128 .bf16) {off : Fin 3 → ℕ} (ho : off = ![0, n, 0]) (hn : n + 768 ≤ 8448)
    (h : ∀ a, off a + S1x768x128.size a ≤ S1x8448x128.size a) (b : Fin 768) (d : Fin 128) :
    View.ld x (rowsV off h) (ix3 0 b d) = x (ix3 0 ⟨n + b, by omega⟩ d) := by
  subst ho
  refine View.ld_unit_apply_of _ _ _ _ _ _ fun a => ?_
  match a with
  | ⟨0, _⟩ => rfl
  | ⟨1, _⟩ => rfl
  | ⟨2, _⟩ => exact (Nat.zero_add _).symm

section Point

variable {x0 : Vec Ideal S1x768x256 .bf16} {x1 : Vec Ideal S1x8448x256 .bf16} {x2 : Vec Ideal S1x8448x128 .bf16}
  (hx : Reads H i x0 x1 x2)

include hx

/-- A tile's scores from its loads. -/
theorem scores {off : Fin 3 → ℕ} (ho : off = ![0, n, 0]) (hn : n + 768 ≤ 8448)
    (h : ∀ a, off a + S1x768x256.size a ≤ S1x8448x256.size a) : Scores H i n (k0_pay5 (k0_pay49 x0) (View.ld x1 (rowsK off h))) := by
  intro a b
  rw [pay5_apply]
  refine (Finset.sum_congr rfl fun d _ => Ideal.mul_congr ((pay49_apply x0 a d).trans (hx.q a d))
    ((ldK x1 ho hn h b d).trans (hx.k _ d))).trans ?_
  exact Proof.Tile.dot_coe 256 (fun d => H.qs (768 * i + a) d) (fun d => H.kk (n + b) d)

theorem values {off : Fin 3 → ℕ} (ho : off = ![0, n, 0]) (hn : n + 768 ≤ 8448)
    (h : ∀ a, off a + S1x768x128.size a ≤ S1x8448x128.size a) (b : Fin 768) (d : Fin 128) :
    View.ld x2 (rowsV off h) (ix3 0 b d) = H.vv (n + b) d :=
  (ldV x2 ho hn h b d).trans (hx.v _ d)

end Point

section Grid

variable {i : grid0.Coords} {x0 : Vec Ideal S1x768x256 .bf16} {x1 : Vec Ideal S1x8448x256 .bf16} {x2 : Vec Ideal S1x8448x128 .bf16}
  (hx : Reads H (i 1).val x0 x1 x2)

include hx

/-- Before trip `k`: the scores of tile `2k`, and the statistics of the keys before it. -/
theorem trips_inv : ∀ k, k ≤ (i 1).val / 2 → Scores H (i 1).val (1536 * k) (trips i (k0_pay49 x0) x1 x2 (start x0 x1) k).1
    ∧ Inv H (i 1).val (1536 * k) (trips i (k0_pay49 x0) x1 x2 (start x0 x1) k).2 := by
  have hi : (i 1).val < 11 := (i 1).isLt
  intro k
  induction k with
  | zero => exact fun _ => ⟨scores (n := 0) hx rfl (by omega) _, start_inv⟩
  | succ k ih =>
    intro hk
    obtain ⟨h1, h2⟩ := ih (by omega)
    have hlt : k < (k0_t1_loop i).trips := by rw [trips_eq]; omega
    obtain ⟨e1, e1', e2, e3⟩ := off1_eq i ⟨k, hlt⟩
    dsimp only at e1 e1' e2 e3
    have et : trips i (k0_pay49 x0) x1 x2 (start x0 x1) (k + 1)
        = tripStep i (k0_pay49 x0) x1 x2 ⟨k, hlt⟩ (trips i (k0_pay49 x0) x1 x2 (start x0 x1) k) := dif_pos hlt
    rw [et, show 1536 * (k + 1) = 1536 * k + 768 + 768 by ring]
    refine ⟨scores hx e1' (by omega) _, ?_⟩
    exact (h2.upd (by omega) (h1.below (by omega)) (values hx e2 (by omega) _)).upd (by omega)
      ((scores hx e1 (by omega) _).below (by omega)) (values hx e3 (by omega) _)

/-- At a point's end: the statistics of every key up to the tile's last row. -/
theorem point_inv : Inv H (i 1).val (768 * (i 1).val + 768) (point i x0 x1 x2) := by
  have hi : (i 1).val < 11 := (i 1).isLt
  obtain ⟨h1, h2⟩ := trips_inv hx ((i 1).val / 2) le_rfl
  obtain ⟨e7, e8, e10⟩ := off7_eq i
  rw [point]
  by_cases c1 : k0_cond1 i = 1#1
  · have ei := (cond_eq i).1 c1
    rw [show 1536 * ((i 1).val / 2) = 768 * (i 1).val by omega] at h1 h2
    rw [trips_eq i, dif_pos c1]
    exact h2.upd le_rfl h1.diag (values hx e7 (by omega) _)
  · have c2 : k0_cond2 i = 1#1 := (one_of i).elim (fun h => absurd h.1 c1) fun h => h.2
    have ei := (cond_eq i).2 c2
    rw [show 1536 * ((i 1).val / 2) = 768 * ((i 1).val - 1) by omega] at h1 h2
    rw [trips_eq i, dif_neg c1, dif_pos c2]
    have h3 := h2.upd (by omega) (h1.below (by omega)) (values hx (off9_eq i c2) (by omega) (k0_off9_inb i c2))
    rw [show 768 * ((i 1).val - 1) + 768 = 768 * (i 1).val by omega] at h3
    exact h3.upd le_rfl (scores hx e8 (by omega) _).diag (values hx e10 (by omega) _)

end Grid

end Cert.Proof.Forward.Tile

end
-- ==== Proof.Forward.Arrays.lean ====
/- The forward launch's two arrays after the run, over the reals: the attention's output and the rows' log-sum-exps. -/
module

public import proofs.«01_k».proof.Proof.Forward.Run
public import proofs.«01_k».proof.Proof.Forward.Tile
public import proofs.«01_k».proof.Proof.Host
public import Idealize.ShloMosaic.Lib.Pipeline.ValueKit

@[expose] public section

set_option maxRecDepth 16384

noncomputable section

namespace Cert.Proof.Forward.Arrays

open Cert.Kernel11Ideal Cert.Kernel11Ideal.Gen Cert.Proof.Spec Cert.Proof.Forward.Tile Cert.Proof.Forward.Run Cert.Proof.Forward.Pay
open Cert.Proof.Forward.Row (Sums W)
open Cert.Proof.Host (Q8 W8 qs lg2 lg2_apply qs_apply)
open Idealize.ShloMosaic Idealize.ShloMosaic.TcCoe Idealize.ShloMosaic.Tactic
open Finset (range)

/-! From the sums at a running maximum to the softmax. -/

/-- What the launch is handed of a head: the scaled queries beside the head's own keys, and the values `v`, which need not be
    real. -/
def hd (A : Attn) (v : ℕ → ℕ → EReal) : Head where
  qs r d := A.Q r d * A.σ / Real.log 2
  kk := A.K
  vv := v

section Softmax

variable {A : Attn} {v : ℕ → ℕ → EReal} {r n : ℕ} {m x y : EReal} {U : ℕ → EReal}

theorem log_two : Real.log 2 ≠ 0 := (Real.log_pos one_lt_two).ne'

theorem hd_S (r c : ℕ) : (hd A v).S r c = A.s r c / Real.log 2 := by
  rw [Head.S, Attn.s, Finset.sum_mul, Finset.sum_div]
  exact Finset.sum_congr rfl fun d _ => by rw [hd]; ring

/-- A weight is the row's exponential up to a factor of the row. -/
theorem W_eq (r c : ℕ) (μ : ℝ) : W ((hd A v).S r) r μ c = A.e r c * Real.exp (A.m r - μ * Real.log 2) := by
  rw [W, Attn.e]
  split_ifs
  · rw [← Real.exp_add, Real.rpow_def_of_pos two_pos, hd_S, mul_sub, mul_div_cancel₀ _ log_two]
    congr 1; ring
  · exact (zero_mul _).symm

/-- The sum over the keys met is the sum over all keys once the row's own key is met. -/
theorem sum_eq (hr : r < n) (hn : n ≤ 8448) (U : ℕ → EReal) (μ : ℝ) : ∑ c ∈ range n, (W ((hd A v).S r) r μ c : EReal) * U c
    = (Real.exp (A.m r - μ * Real.log 2) : EReal) * ∑ c ∈ range 8448, (A.e r c : EReal) * U c := by
  rw [Row.coe_mul_sum (Real.exp_pos _).le]
  refine (Finset.sum_congr rfl fun c _ => ?_).trans (Finset.sum_subset
    (f := fun c => (Real.exp (A.m r - μ * Real.log 2) : EReal) * ((A.e r c : EReal) * U c)) (Finset.range_mono hn) fun c _ hc => ?_)
  · rw [W_eq, mul_comm (A.e r c), EReal.coe_mul, mul_assoc]
  · have : n ≤ c := not_lt.mp fun h => hc (Finset.mem_range.mpr h)
    rw [e_above (by omega), EReal.coe_zero, zero_mul, mul_zero]

/-- The sums of a row that has met its own key: a real maximum, and the softmax's sums up to the row's factor. -/
theorem sums_real (hr : r < n) (hn : n ≤ 8448) (h : Sums ((hd A v).S r) r n U m x) : ∃ μ : ℝ, m = (μ : EReal)
    ∧ x = (Real.exp (A.m r - μ * Real.log 2) : EReal) * ∑ c ∈ range 8448, (A.e r c : EReal) * U c := by
  rcases h with ⟨-, h0, -⟩ | ⟨μ, e, e'⟩
  · omega
  · exact ⟨μ, e, by rw [e', sum_eq hr hn]⟩

theorem sum_real (hr : r < n) (hn : n ≤ 8448) (h : Sums ((hd A v).S r) r n (fun _ => 1) m x) :
    ∃ μ : ℝ, m = (μ : EReal) ∧ x = ((A.l r * Real.exp (A.m r - μ * Real.log 2) : ℝ) : EReal) := by
  obtain ⟨μ, e, e'⟩ := sums_real hr hn h
  refine ⟨μ, e, ?_⟩
  rw [e', mul_comm, EReal.coe_mul, Attn.l, ← Host.sum_coe, ← Fin.sum_univ_eq_sum_range]
  simp only [mul_one]

/-- The quotient of the two sums: the probabilities' sum. -/
theorem out_eq (hr : r < n) (hn : n ≤ 8448) (hl : Sums ((hd A v).S r) r n (fun _ => 1) m x) (ho : Sums ((hd A v).S r) r n U m y) :
    Ideal.div y x = ∑ c ∈ range 8448, (A.p r c : EReal) * U c := by
  obtain ⟨μ, e, rfl⟩ := sum_real hr hn hl
  obtain ⟨ν, e', rfl⟩ := sums_real hr hn ho
  obtain rfl : μ = ν := EReal.coe_injective (e.symm.trans e')
  have hκ := (Real.exp_pos (A.m r - μ * Real.log 2)).ne'
  have hL := l_ne (A := A) r
  rw [Ideal.div_coe (mul_ne_zero hL hκ), mul_comm, ← mul_assoc, ← EReal.coe_mul]
  rw [show 1 / (A.l r * Real.exp (A.m r - μ * Real.log 2)) * Real.exp (A.m r - μ * Real.log 2) = 1 / A.l r by field_simp,
    Row.coe_mul_sum (one_div_pos.mpr (l_pos r)).le]
  refine Finset.sum_congr rfl fun c _ => ?_
  rw [← mul_assoc, ← EReal.coe_mul, Attn.p, one_div_mul_eq_div]

/-- The maximum with the sum's logarithm: the row's log-sum-exp to the base two. -/
theorem lse_eq (hr : r < n) (hn : n ≤ 8448) (hl : Sums ((hd A v).S r) r n (fun _ => 1) m x) :
    m + Ideal.log x * (((Real.log 2)⁻¹ : ℝ) : EReal) = (((A.m r + Real.log (A.l r)) / Real.log 2 : ℝ) : EReal) := by
  obtain ⟨μ, rfl, rfl⟩ := sum_real hr hn hl
  have hκ := Real.exp_pos (A.m r - μ * Real.log 2)
  rw [Ideal.log_coe, if_neg (not_le.mpr (mul_pos (l_pos r) hκ)), ← EReal.coe_mul, ← EReal.coe_add,
    Real.log_mul (l_ne r) hκ.ne', Real.log_exp]
  refine congrArg _ ?_
  have := log_two
  field_simp
  ring

end Softmax

/-! The host's lines before the launch. -/

section Entry

variable (m : (ℓ : Loc nD τ sig) → Buf (Elt Ideal) ℓ) (c : Dev nD)

theorem V5 : (V m c main_v5 : FVec Ideal S8x8448x256 .bf16) = qs (m (c, Proc.tc.devRef main_arg0)) := by
  dsimp only [V, V0, hostOps0, List.flatten, List.append]
  after_results
  rfl

theorem V6 : V m c main_v6 = truncf (F := Ideal) .bf16 (m (c, Proc.tc.devRef main_arg1)) bitsLt_bf16_f32 := by
  dsimp only [V, V0, hostOps0, List.flatten, List.append]
  after_results

theorem V7 : V m c main_v7 = truncf (F := Ideal) .bf16 (m (c, Proc.tc.devRef main_arg2)) bitsLt_bf16_f32 := by
  dsimp only [V, V0, hostOps0, List.flatten, List.append]
  after_results

end Entry

/-! The windows. -/

/-- Where each window's block lies at each point. -/
theorem idx : ∀ t : Fin cfg0.N, win0_0.index t = ![t.val / 11, t.val % 11, 0] ∧ win0_1.index t = ![t.val / 11, 0, 0]
    ∧ win0_2.index t = ![t.val / 11, 0, 0] ∧ win0_3.index t = ![t.val % 11, t.val / 11]
    ∧ win0_4.index t = ![t.val / 11, t.val % 11, 0, 0] ∧ (grid0.coords t 1).val = t.val % 11 :=
  (by decide +kernel : ∀ t : Fin grid0.N, _)

theorem lt_88 (t : Fin cfg0.N) : t.val < 88 := Nat.lt_of_lt_of_eq t.isLt N_0

/-- The head of a point. -/
def hOf (t : Fin cfg0.N) : Fin 8 := ⟨t.val / 11, by have := lt_88 t; omega⟩

section Blocks

variable (m : (ℓ : Loc nD τ sig) → Buf (Elt Ideal) ℓ) (c : Dev nD) (t : Fin cfg0.N)

theorem blk0 (a : Fin 768) (d : Fin 256) :
    iblk m c 0 t (ix3 0 a d) = V m c main_v5 (ix3 (hOf t) (⟨768 * (t.val % 11) + a, by omega⟩ : Fin 8448) d) := by
  have e := (idx t).1
  blk_ext [iblk, e, hOf]

theorem blk1 (r : Fin 8448) (d : Fin 256) : iblk m c 1 t (ix3 0 r d) = V m c main_v6 (ix3 (hOf t) r d) := by
  have e := (idx t).2.1
  blk_ext [iblk, e, hOf]

theorem blk2 (r : Fin 8448) (d : Fin 128) : iblk m c 2 t (ix3 0 r d) = V m c main_v7 (ix3 (hOf t) r d) := by
  have e := (idx t).2.2.1
  blk_ext [iblk, e, hOf]

end Blocks

/-- The arguments on device `c` hold the heads' data `A` and values `v`. -/
structure Holds (m : (ℓ : Loc nD τ sig) → Buf (Elt Ideal) ℓ) (c : Dev nD) (A : ℕ → Attn) (v : ℕ → ℕ → ℕ → EReal) : Prop where
  σ : ∀ h, (A h).σ = Host.σ
  q : ∀ (h : Fin 8) (r : Fin 8448) (d : Fin 256), (m (c, Proc.tc.devRef main_arg0) : Q8) (ix3 h r d) = ((A h).Q r d : EReal)
  k : ∀ (h : Fin 8) (r : Fin 8448) (d : Fin 256), (m (c, Proc.tc.devRef main_arg1) : Q8) (ix3 h r d) = ((A h).K r d : EReal)
  v : ∀ (h : Fin 8) (r : Fin 8448) (d : Fin 128), (m (c, Proc.tc.devRef main_arg2) : W8) (ix3 h r d) = v h r d

/-- The output, every head's columns side by side. -/
def arrO (A : ℕ → Attn) (v : ℕ → ℕ → ℕ → EReal) : FVec Ideal S8448x1024 .f32 := fun i =>
  ∑ c ∈ range 8448, ((A ((i 1).val / 128)).p (i 0).val c : EReal) * v ((i 1).val / 128) c ((i 1).val % 128)
/-- The rows' log-sum-exps to the base two, as the launch lays them out. -/
def arrL (A : ℕ → Attn) : FVec Ideal S8x11x1x768 .f32 := fun i =>
  ((((A (i 0).val).m (768 * (i 1).val + (i 3).val) + Real.log ((A (i 0).val).l (768 * (i 1).val + (i 3).val))) / Real.log 2 : ℝ) : EReal)

section Run

variable {m : (ℓ : Loc nD τ sig) → Buf (Elt Ideal) ℓ} {c : Dev nD} {A : ℕ → Attn} {v : ℕ → ℕ → ℕ → EReal} (hA : Holds m c A v)

include hA

theorem reads (t : Fin cfg0.N) : Reads (hd (A (t.val / 11)) (v (t.val / 11))) (t.val % 11) (iblk m c 0 t) (iblk m c 1 t) (iblk m c 2 t) := by
  refine ⟨fun a d => ?_, fun r d => ?_, fun r d => ?_⟩
  · refine (blk0 m c t a d).trans ?_
    rw [V5]; exact qs_apply hA.σ hA.q (hOf t) _ d
  · refine (blk1 m c t r d).trans ?_
    rw [V6]; exact hA.k (hOf t) r d
  · refine (blk2 m c t r d).trans ?_
    rw [V7]; exact hA.v (hOf t) r d

theorem st_inv (t : Fin cfg0.N) : Inv (hd (A (t.val / 11)) (v (t.val / 11))) (t.val % 11) (768 * (t.val % 11) + 768) (stAt m c t) := by
  have e := (idx t).2.2.2.2.2
  have h := reads hA t
  rw [← e] at h ⊢
  exact point_inv h

theorem out_at (t : Fin cfg0.N) (a : Fin 768) (d : Fin 128) : k0_pay3 (stAt m c t).2.1 (stAt m c t).2.2 (ix2 a d)
    = ∑ k ∈ range 8448, ((A (t.val / 11)).p (768 * (t.val % 11) + a) k : EReal) * v (t.val / 11) k d := by
  have h := st_inv hA t
  rw [pay3_apply]
  exact out_eq (by omega) (by omega) (h.l a d) (h.o a d)

theorem lse_at (t : Fin cfg0.N) (a : Fin 768) : k0_pay4 (stAt m c t).2.1 (stAt m c t).1 (ix4 0 0 0 a)
    = ((((A (t.val / 11)).m (768 * (t.val % 11) + a) + Real.log ((A (t.val / 11)).l (768 * (t.val % 11) + a))) / Real.log 2 : ℝ) : EReal) := by
  have h := st_inv hA t
  rw [pay4_apply]
  exact lse_eq (by omega) (by omega) (h.l a 0)

theorem final3 : (dats m 0 c).arrAt 3 cfg0.N = arrO A v := by
  refine (dats m 0 c).arrAt_eq_of_covers 3 _ (by decide +kernel) fun t hf y => ?_
  have e := (idx t).2.2.2.1
  blk_simp
  rw [after_3]
  have h0 : (((win0_3.blk t).view.emb y) 0).val = 768 * (t.val % 11) + (y 0).val := by blk_simp [e]; omega
  have h1 : (((win0_3.blk t).view.emb y) 1).val = 128 * (t.val / 11) + (y 1).val := by blk_simp [e]; omega
  have hy : (y 1).val < 128 := (y 1).isLt
  unfold arrO
  rw [h0, h1, show (128 * (t.val / 11) + (y 1).val) / 128 = t.val / 11 by omega,
    show (128 * (t.val / 11) + (y 1).val) % 128 = (y 1).val by omega]
  have ey : y = (ix2 (y 0) (y 1) : S768x128.Idx) := by blk_ext
  exact (congrArg (k0_pay3 (stAt m c t).2.1 (stAt m c t).2.2) ey).trans (out_at hA t (y 0) (y 1))

theorem final4 : (dats m 0 c).arrAt 4 cfg0.N = arrL A := by
  refine (dats m 0 c).arrAt_eq_of_covers 4 _ (by decide +kernel) fun t hf y => ?_
  have e := (idx t).2.2.2.2.1
  blk_simp
  rw [after_4]
  have h0 : (((win0_4.blk t).view.emb y) 0).val = t.val / 11 := by blk_simp [e]
  have h1 : (((win0_4.blk t).view.emb y) 1).val = t.val % 11 := by blk_simp [e]
  have h3 : (((win0_4.blk t).view.emb y) 3).val = (y 3).val := by blk_simp [e]
  unfold arrL
  rw [h0, h1, h3]
  have ey : y = (ix4 0 0 0 (y 3) : S1x1x1x768.Idx) := by blk_ext
  exact (congrArg (k0_pay4 (stAt m c t).2.1 (stAt m c t).1) ey).trans (lse_at hA t (y 3))

end Run

end Cert.Proof.Forward.Arrays

end
-- ==== Proof.Forward.Result.lean ====
/- The forward call's value claim: on finite arguments both programs end with the attention's output and the rows'
   log-sum-exps. -/
module

public import proofs.«01_k».proof.Defs
public import proofs.«01_k».proof.Proof.Forward.Arrays
public import proofs.«01_k».proof.Proof.Result
public import proofs.«01_k».proof.Proof.Gen.Reference11Ideal.Run
public import proofs.«01_k».proof.Proof.Gen.Pre_finite_qk

@[expose] public section

set_option maxRecDepth 16384

noncomputable section

namespace Cert.Proof.Forward.Result

open Cert.Kernel11Ideal Cert.Kernel11Ideal.Gen Cert.Proof.Spec Cert.Proof.Forward.Run Cert.Proof.Forward.Arrays
open Cert.Proof.Host (Q8 W8 lg2 lg2_apply mx su pr ou mx_apply su_apply pr_apply neg_inf_eq)
open Cert.Proof.Result (tab tab_eq real_of_finite)
open Idealize.ShloMosaic Idealize.ShloMosaic.TcCoe Idealize.ShloMosaic.Tactic Idealize.SL.Sem
open Finset (range)

/-- The heads' data, read off the arguments: queries and keys as reals, and the values as they are. -/
def heads (m : (ℓ : Loc nD τ sig) → Buf (Elt Ideal) ℓ) (c : Dev nD) (h : ℕ) : Attn where
  Q := tab (n := 256) (m (c, Proc.tc.devRef main_arg0) : Q8) h
  K := tab (n := 256) (m (c, Proc.tc.devRef main_arg1) : Q8) h
  W _ _ := 0
  C _ _ := 0
  σ := Host.σ

/-- The values, zero outside. -/
def vals (x : W8) (h r d : ℕ) : EReal :=
  if e : h < 8 ∧ r < 8448 ∧ d < 128 then x (ix3 (⟨h, e.1⟩ : Fin 8) (⟨r, e.2.1⟩ : Fin 8448) (⟨d, e.2.2⟩ : Fin 128)) else 0

theorem vals_eq (x : W8) (h : Fin 8) (r : Fin 8448) (d : Fin 128) : x (ix3 h r d) = vals x h r d := by
  rw [vals, dif_pos ⟨h.isLt, r.isLt, d.isLt⟩]

theorem holds {m : (ℓ : Loc nD τ sig) → Buf (Elt Ideal) ℓ}
    (hm : Cert.Pre_Kernel11Ideal_finite_qk (hPre_finite_qk := Cert.Pre_finite_qk.Gen.facts) m) (c : Dev nD) :
    Arrays.Holds m c (heads m c) (vals (m (c, Proc.tc.devRef main_arg2))) where
  σ _ := rfl
  q := tab_eq (n := 256) _ (real_of_finite _ _ (hm c).1)
  k := tab_eq (n := 256) _ (real_of_finite _ _ (hm c).2)
  v := vals_eq _

/-- The rows' log-sum-exps. -/
def arrE (A : ℕ → Attn) : FVec Ideal S8x8448 .f32 := fun i =>
  (((A (i 0).val).m (i 1).val + Real.log ((A (i 0).val).l (i 1).val) : ℝ) : EReal)

theorem ix2_eta {a b : ℕ} (i : Shape.Idx ⟨2, ![a, b]⟩) : i = ix2 (i 0) (i 1) := by
  funext x; fin_cases x <;> rfl

/-! The kernel's side. -/

/-- The host's last lines: the launch's rows laid out flat, and brought to the natural logarithm. -/
theorem scale_eq (A : ℕ → Attn) (h : S_.BroadcastsInDim S8x8448 (![] : Fin 0 → Fin S8x8448.rank)) :
    mulf (shapeCast S8x8448 (arrL A) shapeCasts_S8x11x1x768_S8x8448) (broadcastInDim S8x8448 ![] h lg2) = arrE A := by
  funext i
  rw [ix2_eta i]
  have hr : (i 1).val < 8448 := (i 1).isLt
  have e : shapeCast S8x8448 (arrL A) shapeCasts_S8x11x1x768_S8x8448 (ix2 (i 0) (i 1))
      = arrL A (ix4 (i 0) (⟨(i 1).val / 768, by omega⟩ : Fin 11) (0 : Fin 1) (⟨(i 1).val % 768, by omega⟩ : Fin 768)) := by
    refine shapeCast_apply _ _ _ _ ?_
    rw [Shape.rowMajor_val_two, Shape.rowMajor_val_four]
    show (((i 0).val * 11 + (i 1).val / 768) * 1 + 0) * 768 + (i 1).val % 768 = (i 0).val * 8448 + (i 1).val
    omega
  have e1 : 768 * ((i 1).val / 768) + (i 1).val % 768 = (i 1).val := Nat.div_add_mod _ _
  refine (congrArg₂ (fun x y : EReal => x * y) e (lg2_apply _)).trans ?_
  show (((((A (i 0).val).m (768 * ((i 1).val / 768) + (i 1).val % 768)
    + Real.log ((A (i 0).val).l (768 * ((i 1).val / 768) + (i 1).val % 768))) / Real.log 2 : ℝ) : EReal) * ((Real.log 2 : ℝ) : EReal) : EReal)
    = (((A (i 0).val).m (i 1).val + Real.log ((A (i 0).val).l (i 1).val) : ℝ) : EReal)
  rw [e1, ← EReal.coe_mul, div_mul_cancel₀ _ log_two]

variable {m : (ℓ : Loc nD τ sig) → Buf (Elt Ideal) ℓ} (ρ : Dev nD → PrngReg)

theorem tail11 {c : Dev nD} {A : ℕ → Attn} {v : ℕ → ℕ → ℕ → EReal} (hA : Arrays.Holds m c A v) :
    Pipeline.afterTail₀ cfgs (dats m) 0 (V0 m) [hostOps1] c main_v11 = arrE A := by
  unfold Pipeline.afterTail₀
  simp only [List.flatten_cons, List.flatten_nil, List.append_nil, hostOps1]
  after_results
  have e : Pipeline.withArrays (cfgs 0).spec c (V0 m c) (fun w => (dats m 0 c).arrAt w (cfgs 0).N) (Proc.devRef .tc main_v8_1)
      = arrL A := (Pipeline.withArrays_arr (cfgs 0).spec (by decide) c _ _ 4).trans (final4 hA)
  rw [e]
  exact scale_eq A _

/-- The kernel's run: its two results and its arguments. -/
theorem kernel_run (hm : Cert.Pre_Kernel11Ideal_finite_qk (hPre_finite_qk := Cert.Pre_finite_qk.Gen.facts) m) :
    θ_run defs (onTc (τ := τ) (main (F := Ideal))) ⟨m, fun _ => 0, ρ⟩ (fun r => ∀ c : Dev nD,
      r.2.mem ((c.tc : Thread nD τ).loc main_v8_0) = arrO (heads m c) (vals (m (c, Proc.tc.devRef main_arg2)))
      ∧ r.2.mem ((c.tc : Thread nD τ).loc main_v11) = arrE (heads m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).1 3).trans (final3 (holds hm c)),
      ((h.1.1 c).2 main_v11 (Pipeline.mem_restRefs_of main_v11 (by decide) (by decide))).trans (tail11 (holds hm c)), h.2.1 c⟩)
    (θ_run_and (run_main m ρ) (quiescent m ρ))

/-! The reference's side. -/

/-- The reference's results as the host's stages, and their values. -/
def refE (q k : Q8) : FVec Ideal S8x8448 .f32 := addf (mx q k) (Host.log (su q k))

theorem add_log_at (x y : FVec Ideal S8x8448 .f32) (j : S8x8448.Idx) : addf x (Host.log y) j = x j + Ideal.log (y j) := rfl

theorem refE_eq {q k : Q8} {A : ℕ → Attn} (hσ : ∀ h, (A h).σ = Host.σ)
    (hq : ∀ (h : Fin 8) (r : Fin 8448) (d : Fin 256), q (ix3 h r d) = ((A h).Q r d : EReal))
    (hk : ∀ (h : Fin 8) (r : Fin 8448) (d : Fin 256), k (ix3 h r d) = ((A h).K r d : EReal)) : refE q k = arrE A := by
  funext i
  obtain ⟨h, r, rfl⟩ : ∃ (h : Fin 8) (r : Fin 8448), i = ix2 h r := ⟨i 0, i 1, ix2_eta i⟩
  rw [refE, add_log_at, mx_apply hσ hq hk, su_apply hσ hq hk, Ideal.log_coe, if_neg (not_le.mpr (l_pos _)), ← EReal.coe_add]
  rfl

/-- The row maximum taken against minus infinity is itself. -/
theorem max_eq (x : FVec Ideal S8x8448 .f32) (h : S_.BroadcastsInDim S8x8448 (![] : Fin 0 → Fin S8x8448.rank)) :
    maximumf (broadcastInDim S8x8448 ![] h (constant (F := Ideal) S_ .f32 0xFF800000#32)) x = x := by
  funext i
  show max (Ideal.ofBits .f32 0xFF800000#32) (x i : EReal) = x i
  rw [neg_inf_eq]
  exact max_eq_right bot_le

/-- An array with its first two axes exchanged. -/
theorem swap_at (x : W8) (r : Fin 8448) (h : Fin 8) (d : Fin 128) :
    transpose Cert.Reference11Ideal.S8448x8x128 [1, 0, 2] x Cert.Reference11Ideal.Gen.transposes_S8x8448x128_S8448x8x128_1_0_2 (ix3 r h d)
      = x (ix3 h r d) := by
  pointwise []

/-- The output of values that need not be real. -/
theorem ou_at {q k : Q8} (x : W8) {A : ℕ → Attn} (hσ : ∀ h, (A h).σ = Host.σ)
    (hq : ∀ (h : Fin 8) (r : Fin 8448) (d : Fin 256), q (ix3 h r d) = ((A h).Q r d : EReal))
    (hk : ∀ (h : Fin 8) (r : Fin 8448) (d : Fin 256), k (ix3 h r d) = ((A h).K r d : EReal)) (h : Fin 8) (r : Fin 8448) (d : Fin 128) :
    ou q k x (ix3 h r d) = ∑ c ∈ range 8448, ((A h).p r c : EReal) * vals x h c d := by
  pointwise [ou]
  simp only [pr_apply hσ hq hk, vals_eq x]
  exact Fin.sum_univ_eq_sum_range (fun c => ((A h).p r c : EReal) * vals x h c d) 8448

/-- The output with every head's columns side by side. -/
theorem out_eq {q k : Q8} (v : W8) {A : ℕ → Attn} (hσ : ∀ h, (A h).σ = Host.σ)
    (hq : ∀ (h : Fin 8) (r : Fin 8448) (d : Fin 256), q (ix3 h r d) = ((A h).Q r d : EReal))
    (hk : ∀ (h : Fin 8) (r : Fin 8448) (d : Fin 256), k (ix3 h r d) = ((A h).K r d : EReal)) :
    shapeCast Cert.Reference11Ideal.S8448x1024 (transpose Cert.Reference11Ideal.S8448x8x128 [1, 0, 2] (ou q k v)
        Cert.Reference11Ideal.Gen.transposes_S8x8448x128_S8448x8x128_1_0_2) Cert.Reference11Ideal.Gen.shapeCasts_S8448x8x128_S8448x1024
      = arrO A (vals v) := by
  funext i
  obtain ⟨r, x, rfl⟩ : ∃ (r : Fin 8448) (x : Fin 1024), i = ix2 r x := ⟨i 0, i 1, ix2_eta i⟩
  refine (shapeCast_apply _ _ _ (ix3 r (⟨x.val / 128, by omega⟩ : Fin 8) (⟨x.val % 128, by omega⟩ : Fin 128)) ?_).trans ?_
  · rw [Shape.rowMajor_val_two, Shape.rowMajor_val_three]
    show (r.val * 8 + x.val / 128) * 128 + x.val % 128 = r.val * 1024 + x.val
    omega
  · exact (swap_at (ou q k v) r _ _).trans (ou_at v hσ hq hk (⟨x.val / 128, by omega⟩ : Fin 8) r (⟨x.val % 128, by omega⟩ : Fin 128))

/-- The reference's results, at arguments equal to the kernel's. -/
theorem reference_results (hm : Cert.Pre_Kernel11Ideal_finite_qk (hPre_finite_qk := Cert.Pre_finite_qk.Gen.facts) m)
    (m' : (ℓ : Loc Cert.Reference11Ideal.nD Cert.Reference11Ideal.τ Cert.Reference11Ideal.sig) → Buf (Elt Ideal) ℓ)
    (h0 : ∀ c : Dev nD, (m' (c, Proc.tc.devRef Cert.Reference11Ideal.main_arg0) : Q8) = m (c, Proc.tc.devRef main_arg0))
    (h1 : ∀ c : Dev nD, (m' (c, Proc.tc.devRef Cert.Reference11Ideal.main_arg1) : Q8) = m (c, Proc.tc.devRef main_arg1))
    (h2 : ∀ c : Dev nD, (m' (c, Proc.tc.devRef Cert.Reference11Ideal.main_arg2) : W8) = m (c, Proc.tc.devRef main_arg2)) (c : Dev nD) :
    (Cert.Reference11Ideal.Value.res_main_v41 m' c : FVec Ideal S8448x1024 .f32) = arrO (heads m c) (vals (m (c, Proc.tc.devRef main_arg2)))
      ∧ refE (m' (c, Proc.tc.devRef Cert.Reference11Ideal.main_arg0)) (m' (c, Proc.tc.devRef Cert.Reference11Ideal.main_arg1)) = arrE (heads m c) := by
  have hA := holds hm c
  have q : ∀ (h : Fin 8) (r : Fin 8448) (d : Fin 256), (m' (c, Proc.tc.devRef Cert.Reference11Ideal.main_arg0) : Q8) (ix3 h r d)
      = ((heads m c h).Q r d : EReal) := fun h r d => (congrFun (h0 c) _).trans (hA.q h r d)
  have k : ∀ (h : Fin 8) (r : Fin 8448) (d : Fin 256), (m' (c, Proc.tc.devRef Cert.Reference11Ideal.main_arg1) : Q8) (ix3 h r d)
      = ((heads m c h).K r d : EReal) := fun h r d => (congrFun (h1 c) _).trans (hA.k h r d)
  refine ⟨?_, refE_eq hA.σ q k⟩
  rw [← h2 c, ← out_eq _ hA.σ q k]
  unfold Cert.Reference11Ideal.Value.res_main_v41
  rw [max_eq]
  rfl

/-- The reference leaves its arguments, and it has no counter to move. -/
theorem reference_quiescent (m : (ℓ : Loc Reference11Ideal.nD Reference11Ideal.τ Reference11Ideal.sig) → Buf (Elt Ideal) ℓ)
    (ρ : Dev Reference11Ideal.nD → PrngReg) :
    θ_run (Reference11Ideal.defs (F := Ideal)) (onTc (τ := Reference11Ideal.τ) (Reference11Ideal.main (F := Ideal))) ⟨m, fun _ => 0, ρ⟩
      (fun r => (∀ c : Dev Reference11Ideal.nD,
        r.2.mem ((c.tc : Thread Reference11Ideal.nD Reference11Ideal.τ).loc Reference11Ideal.main_arg0) = m ((c.tc : Thread Reference11Ideal.nD Reference11Ideal.τ).loc Reference11Ideal.main_arg0)
        ∧ r.2.mem ((c.tc : Thread Reference11Ideal.nD Reference11Ideal.τ).loc Reference11Ideal.main_arg1) = m ((c.tc : Thread Reference11Ideal.nD Reference11Ideal.τ).loc Reference11Ideal.main_arg1)
        ∧ r.2.mem ((c.tc : Thread Reference11Ideal.nD Reference11Ideal.τ).loc Reference11Ideal.main_arg2) = m ((c.tc : Thread Reference11Ideal.nD Reference11Ideal.τ).loc Reference11Ideal.main_arg2))
        ∧ r.2.sem = fun _ => 0) :=
  (θ_run _ _ _).mono (fun r h => ⟨fun c => (h c).2.2, sem_eq_zero_of_no_sems (by decide) r.2⟩) (Reference11Ideal.Value.run m ρ)

theorem algebraic : Cert.algebraic_Kernel11Ideal_Reference11Ideal_pre_finite_qk (hKernel11Ideal := Kernel11Ideal.Gen.facts)
    (hReference11Ideal := Reference11Ideal.Gen.facts) (hPre_finite_qk := Pre_finite_qk.Gen.facts) := by
  intro m g m' g' hm hargs
  have hr := reference_results hm m' (fun c => (hargs c).1) (fun c => (hargs c).2.1) (fun c => (hargs c).2.2)
  refine ⟨fun c => arrO (heads m c) (vals (m (c, Proc.tc.devRef main_arg2))), fun c => arrE (heads m c), kernel_run g hm, ?_⟩
  refine (θ_run _ _ _).mono (fun r h c => ?_) (Reference11Ideal.Value.run m' g')
  exact ⟨(h c).1.trans (hr c).1, (h c).2.1.trans (hr c).2, (h c).2.2⟩

end Cert.Proof.Forward.Result

end
-- ==== Proof.Products.Common.lean ====
/- Products of matrices over the extended reals, and the tiles of 768 rows in which the calls take them. -/
module

public import Idealize.ShloMosaic.Lib.Pipeline.ValueKit
public import Idealize.ShloMosaic.Lib.Pointwise
public import Idealize.ShloMosaic.Adequacy
public import Idealize.ShloMosaic.Init

@[expose] public section

noncomputable section

namespace Cert.Proof.Products

open Idealize.ShloMosaic

/-- A matrix of extended reals. -/
abbrev Mat (m n : ℕ) := Vec Ideal ⟨2, ![m, n]⟩ .f32

/-- `a b`, `a bᵀ` and `aᵀ b`. -/
def mul {m k n : ℕ} (a : Mat m k) (b : Mat k n) : Mat m n := fun i => ∑ j : Fin k, a (ix2 (i 0) j) * b (ix2 j (i 1))
def mulT {m k n : ℕ} (a : Mat m k) (b : Mat n k) : Mat m n := fun i => ∑ j : Fin k, a (ix2 (i 0) j) * b (ix2 (i 1) j)
def tMul {m k n : ℕ} (a : Mat k m) (b : Mat k n) : Mat m n := fun i => ∑ j : Fin k, a (ix2 j (i 0)) * b (ix2 j (i 1))

theorem origin : (![0, 0] : Fin 2 → ℕ) = fun _ => 0 := funext fun a => by fin_cases a <;> rfl

/-- The array row that row `a` of the `n`-th tile is; the eleven tiles repeat. -/
def row (n : ℕ) (a : Fin 768) : Fin 8448 := ⟨768 * (n % 11) + a, by omega⟩

/-- A sum over eleven consecutive tiles and their rows is the sum over all rows. -/
theorem sum_rows (q : ℕ) (f : Fin 8448 → EReal) :
    ∑ s ∈ Finset.range 11, ∑ a : Fin 768, f (row (11 * q + s) a) = ∑ k, f k := by
  rw [Finset.sum_range]
  refine Fin.sum_mul_add_congr (S := 11) (n := 768) (L := 8448) fun s a hl => ?_
  exact congrArg f (Fin.ext (by simp only [row]; omega))

/-- A sum of products, term by term. -/
theorem plain {n : ℕ} {X Y x y : Fin n → EReal} (hX : ∀ k, X k = x k) (hY : ∀ k, Y k = y k) : ∑ k, X k * Y k = ∑ k, x k * y k :=
  Finset.sum_congr rfl fun k _ => by rw [hX, hY]

/-- The sum over a segment filled up with zeros is the sum over the segment. -/
theorem filled {w n : ℕ} (hw : w ≤ n) {X Y : Fin n → EReal} {x y : Fin w → EReal} (hX : ∀ k, X k = if h : k.val < w then x ⟨k, h⟩ else 0)
    (hY : ∀ k, Y k = if h : k.val < w then y ⟨k, h⟩ else 0) : ∑ k, X k * Y k = ∑ k, x k * y k := by
  obtain ⟨d, rfl⟩ := Nat.exists_eq_add_of_le hw
  rw [Fin.sum_univ_add]
  refine (congrArg₂ (· + ·) (Finset.sum_congr rfl fun k _ => ?_) (Finset.sum_eq_zero fun k _ => ?_)).trans (add_zero _)
  · simp only [hX, hY, Fin.val_castAdd, k.isLt, dite_true]
  · simp only [hX, Fin.val_natAdd, Nat.not_lt.mpr (Nat.le_add_right w _), dite_false, zero_mul]

/-- `a bᵀ` over a contraction in two axes: heads and the columns of a head. -/
def mulHeads {m n h d : ℕ} (a : Vec Ideal ⟨3, ![m, h, d]⟩ .f32) (b : Vec Ideal ⟨3, ![n, h, d]⟩ .f32) : Mat m n :=
  fun i => ∑ s : Fin h, ∑ k : Fin d, a (ix3 (i 0) s k) * b (ix3 (i 1) s k)

/-- The column of eight heads side by side that column `k` of head `s` is. -/
def lane (s : Fin 8) (k : Fin 256) : Fin 2048 := ⟨256 * s + k, by omega⟩

/-- A sum over eight heads side by side is the sum over the heads and their columns. -/
theorem sum_lanes (f : Fin 2048 → EReal) : ∑ k, f k = ∑ s : Fin 8, ∑ k : Fin 256, f (lane s k) := by
  refine (Fin.sum_mul_add_congr (S := 8) (n := 256) (L := 2048) fun s k hl => ?_).symm
  exact congrArg f (Fin.ext (by simp only [lane]; omega))

end Cert.Proof.Products

end
-- ==== Proof.Products.UpDx.lean ====
/- The gradient of the MLP's input: the output's gradient against the transposed weight, the contraction in two halves of
   2816 columns, a block of 768 × 512 at each grid point. -/
module

public import proofs.«01_k».proof.Defs
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Products.Common

@[expose] public section

set_option maxRecDepth 16384

noncomputable section

namespace Cert.Proof.UpDx

open Cert.Kernel2Ideal Cert.Kernel2Ideal.Gen Cert.Proof.Products
open Idealize.ShloMosaic Idealize.ShloMosaic.TcCoe Idealize.ShloMosaic.Tactic Idealize.SL.Sem

/-- A block's product, in its two halves. -/
theorem pay_apply (x0 x2 : Vec Ideal S768x2816 .bf16) (x1 x3 : Vec Ideal S512x2816 .bf16) (a : Fin 768) (b : Fin 512) :
    k0_pay1 x0 x1 x2 x3 (ix2 a b)
      = (∑ k : Fin 2816, x0 (ix2 a k) * x1 (ix2 b k)) + ∑ k : Fin 2816, x2 (ix2 a k) * x3 (ix2 b k) := by
  pointwise [k0_pay1]

/-- Where each window's block lies at each point. -/
theorem idx : ∀ t : Fin cfg0.N, win0_0.index t = ![t.val / 2 % 11, 0] ∧ win0_1.index t = ![t.val % 2, 0]
    ∧ win0_2.index t = ![t.val / 2 % 11, 0] ∧ win0_3.index t = ![t.val % 2, 0] ∧ win0_4.index t = ![t.val / 2 % 11, t.val % 2] :=
  (by decide +kernel : ∀ t : Fin grid0.N, _)

variable (m : (ℓ : Loc nD τ sig) → Buf (Elt Ideal) ℓ) (c : Dev nD)

abbrev argW : Mat 1024 5632 := m (c, Proc.tc.devRef main_arg1)
abbrev argG : Mat 8448 5632 := m (c, Proc.tc.devRef main_arg2)

theorem V2 (i : Fin 8448) (k : Fin 2816) : V m c main_v2 (ix2 i k) = argG m c (ix2 i ⟨k, by omega⟩) := by
  have : V m c main_v2 = extractStridedSlice S8448x2816 ![0, 0] (truncf (F := Ideal) .bf16 (argG m c) bitsLt_bf16_f32)
      slices_S8448x5632_S8448x2816_0_0 := by
    dsimp only [V, hostOps0, List.flatten, List.append]
    after_results
  rw [this]
  pointwise []

theorem V4 (i : Fin 8448) (k : Fin 2816) : V m c main_v4 (ix2 i k) = argG m c (ix2 i ⟨2816 + k, by omega⟩) := by
  have : V m c main_v4 = extractStridedSlice S8448x2816 ![0, 2816] (truncf (F := Ideal) .bf16 (argG m c) bitsLt_bf16_f32)
      slices_S8448x5632_S8448x2816_0_2816 := by
    dsimp only [V, hostOps0, List.flatten, List.append]
    after_results
  rw [this]
  pointwise []

theorem V3 (i : Fin 1024) (k : Fin 2816) : V m c main_v3 (ix2 i k) = argW m c (ix2 i ⟨k, by omega⟩) := by
  have : V m c main_v3 = extractStridedSlice S1024x2816 ![0, 0] (truncf (F := Ideal) .bf16 (argW m c) bitsLt_bf16_f32)
      slices_S1024x5632_S1024x2816_0_0 := by
    dsimp only [V, hostOps0, List.flatten, List.append]
    after_results
  rw [this]
  pointwise []

theorem V5 (i : Fin 1024) (k : Fin 2816) : V m c main_v5 (ix2 i k) = argW m c (ix2 i ⟨2816 + k, by omega⟩) := by
  have : V m c main_v5 = extractStridedSlice S1024x2816 ![0, 2816] (truncf (F := Ideal) .bf16 (argW m c) bitsLt_bf16_f32)
      slices_S1024x5632_S1024x2816_0_2816 := by
    dsimp only [V, hostOps0, List.flatten, List.append]
    after_results
  rw [this]
  pointwise []

variable (t : Fin cfg0.N)

/-- The product's column that column `b` of the block is. -/
def col (b : Fin 512) : Fin 1024 := ⟨512 * (t.val % 2) + b, by omega⟩

theorem blk0 (a : Fin 768) (k : Fin 2816) : iblk m c 0 t (ix2 a k) = argG m c (ix2 (row (t / 2) a) ⟨k, by omega⟩) := by
  have e := (idx t).1
  refine Eq.trans ?_ (V2 m c (row (t / 2) a) k)
  blk_ext [iblk, e, row]

theorem blk1 (b : Fin 512) (k : Fin 2816) : iblk m c 1 t (ix2 b k) = argW m c (ix2 (col t b) ⟨k, by omega⟩) := by
  have e := (idx t).2.1
  refine Eq.trans ?_ (V3 m c (col t b) k)
  blk_ext [iblk, e, col]

theorem blk2 (a : Fin 768) (k : Fin 2816) : iblk m c 2 t (ix2 a k) = argG m c (ix2 (row (t / 2) a) ⟨2816 + k, by omega⟩) := by
  have e := (idx t).2.2.1
  refine Eq.trans ?_ (V4 m c (row (t / 2) a) k)
  blk_ext [iblk, e, row]

theorem blk3 (b : Fin 512) (k : Fin 2816) : iblk m c 3 t (ix2 b k) = argW m c (ix2 (col t b) ⟨2816 + k, by omega⟩) := by
  have e := (idx t).2.2.2.1
  refine Eq.trans ?_ (V5 m c (col t b) k)
  blk_ext [iblk, e, col]

/-- What a point's body leaves in its block. -/
theorem out_apply (a : Fin 768) (b : Fin 512) :
    out0_4 (iblk m c 0 t) (iblk m c 1 t) (iblk m c 2 t) (iblk m c 3 t) (ix2 a b)
      = mulT (argG m c) (argW m c) (ix2 (row (t / 2) a) (col t b)) := by
  unfold out0_4
  rw [View.canon_unit_zero origin]
  simp only [View.ld_unit_zero (S := S768x2816) origin, View.ld_unit_zero (S := S512x2816) origin]
  rw [pay_apply]
  simp only [blk0, blk1, blk2, blk3]
  exact (Fin.sum_univ_add (a := 2816) (b := 2816) fun k => argG m c (ix2 (row (t / 2) a) k) * argW m c (ix2 (col t b) k)).symm

/-- The array the launch leaves. -/
theorem final : (dats m 0 c).arrAt 4 cfg0.N = mulT (argG m c) (argW m c) := by
  refine (dats m 0 c).arrAt_eq_of_covers 4 _ (by decide +kernel) fun t hf y => ?_
  have e := (idx t).2.2.2.2
  blk_simp
  rw [after0_4]
  have ey : y = (ix2 (y 0) (y 1) : S768x512.Idx) := by blk_ext
  have ez : ((win0_4.blk t).view.emb y) = (ix2 (row (t / 2) (y 0)) (col t (y 1)) : S8448x1024.Idx) := by blk_ext [e, row, col]
  rw [ez]
  exact (congrArg _ ey).trans (out_apply m c t (y 0) (y 1))

/-- The reference's product is the same sum. -/
theorem reference_eq (w : Mat 1024 5632) (g : Mat 8448 5632) :
    Host.dotGeneral (F := Ideal) (φ₁ := .f32) (φ₂ := .f32) Reference2Ideal.dot_S8448x5632_S1024x5632_S8448x1024_1_1_0_0_n_n none g w = mulT g w := by
  funext i
  pointwise [mulT]

/-- Both programs end with the gradient. -/
theorem algebraic : Cert.algebraic_Kernel2Ideal_Reference2Ideal (hKernel2Ideal := Kernel2Ideal.Gen.facts)
    (hReference2Ideal := Reference2Ideal.Gen.facts) := by
  intro m ρ m' ρ' _ hargs
  refine ⟨fun c => mulT (argG m c) (argW m c), ?_, ?_⟩
  · exact (θ_run _ _ _).mono (fun r h c => ⟨(h c).1.trans (final m c), (h c).2⟩) (Kernel2Ideal.Value.run_blocks m ρ)
  · refine (θ_run _ _ _).mono (fun r h c => ⟨(h c).1.trans ?_, (h c).2⟩) (Reference2Ideal.Value.run m' ρ')
    rw [(hargs c).2.1, (hargs c).2.2]
    exact reference_eq _ _

/-- The two printed programs are the same text, so one run serves both. -/
theorem defs₀_eq : @Kernel2.defs₀ Bits _ _ = @Kernel2Ideal.defs₀ Bits _ _ :=
  congrArg Defs.onTc (funext fun l => funext fun x => match l, x with | 0, (_, _) => rfl)

theorem kernel_quiescent : Cert.quiescent_Kernel2 (hKernel2 := Kernel2.Gen.facts) := fun m ρ _ => by
  rw [show @Kernel2.defs Bits _ _ = @Kernel2Ideal.defs Bits _ _ from congrArg (Pipeline.defs _) defs₀_eq]
  exact Kernel2Ideal.Gen.frame (F := Bits) m ρ

/-- The reference leaves its arguments, and it has no counter to move. -/
theorem reference_quiescent : Cert.quiescent_Reference2Ideal (hReference2Ideal := Reference2Ideal.Gen.facts) :=
  fun m ρ _ => (θ_run _ _ _).mono (fun r h => ⟨fun c => (h c).2, sem_eq_zero_of_no_sems (by decide) r.2⟩)
    (Reference2Ideal.Value.run m ρ)

end Cert.Proof.UpDx

end
-- ==== Proof.Products.ProjDx.lean ====
/- The gradient of the input projection's input: the output's gradient against the transposed weight, the contraction in six segments
   of columns, of which two are filled up to 128 with zeros; a block of 768 × 512 at each grid point. -/
module

public import proofs.«01_k».proof.Defs
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Products.Common

@[expose] public section

set_option maxRecDepth 16384

noncomputable section

namespace Cert.Proof.ProjDx

open Cert.Kernel12Ideal Cert.Kernel12Ideal.Gen Cert.Proof.Products
open Idealize.ShloMosaic Idealize.ShloMosaic.TcCoe Idealize.ShloMosaic.Tactic Idealize.SL.Sem

/-- The six segments' sums, each replaced. -/
theorem six {a b c d e f a' b' c' d' e' f' : EReal} (ha : a = a') (hb : b = b') (hc : c = c') (hd : d = d') (he : e = e') (hf : f = f') :
    a + b + c + d + e + f = a' + b' + c' + d' + e' + f' := by
  rw [ha, hb, hc, hd, he, hf]

/-- The projection's columns in their six segments. -/
theorem sum_segments (f : Fin 3280 → EReal) : ∑ k, f k
    = ((((∑ k : Fin 384, f ⟨k, by omega⟩ + ∑ k : Fin 256, f ⟨384 + k, by omega⟩) + ∑ k : Fin 64, f ⟨640 + k, by omega⟩)
        + ∑ k : Fin 1024, f ⟨704 + k, by omega⟩) + ∑ k : Fin 1536, f ⟨1728 + k, by omega⟩) + ∑ k : Fin 16, f ⟨3264 + k, by omega⟩ :=
  (Fin.sum_univ_add (a := 3264) (b := 16) f).trans <| congrArg (· + _) <|
    (Fin.sum_univ_add (a := 1728) (b := 1536) _).trans <| congrArg (· + _) <|
      (Fin.sum_univ_add (a := 704) (b := 1024) _).trans <| congrArg (· + _) <|
        (Fin.sum_univ_add (a := 640) (b := 64) _).trans <| congrArg (· + _) <| Fin.sum_univ_add (a := 384) (b := 256) _

/-- The first five segments' products. -/
theorem pay2_apply (x0 : Vec Ideal S768x384 .bf16) (x1 : Vec Ideal S512x384 .bf16) (x2 : Vec Ideal S768x256 .bf16) (x3 : Vec Ideal S512x256 .bf16)
    (x4 : Vec Ideal S768x128 .f32) (x5 : Vec Ideal S512x128 .bf16) (x6 : Vec Ideal S768x1024 .bf16) (x7 : Vec Ideal S512x1024 .bf16)
    (x8 : Vec Ideal S768x1536 .bf16) (x9 : Vec Ideal S512x1536 .bf16) (a : Fin 768) (b : Fin 512) :
    k0_pay2 x0 x1 x2 x3 x4 x5 x6 x7 x8 x9 (ix2 a b)
      = (((∑ k : Fin 384, x0 (ix2 a k) * x1 (ix2 b k) + ∑ k : Fin 256, x2 (ix2 a k) * x3 (ix2 b k))
        + ∑ k : Fin 128, x4 (ix2 a k) * x5 (ix2 b k)) + ∑ k : Fin 1024, x6 (ix2 a k) * x7 (ix2 b k))
        + ∑ k : Fin 1536, x8 (ix2 a k) * x9 (ix2 b k) := by
  pointwise [k0_pay2]

/-- The last segment's product is added. -/
theorem pay_apply (acc : Vec Ideal S768x512 .f32) (x0 : Vec Ideal S768x128 .f32) (x1 : Vec Ideal S512x128 .bf16) (a : Fin 768) (b : Fin 512) :
    k0_pay1 acc x0 x1 (ix2 a b) = acc (ix2 a b) + ∑ k : Fin 128, x0 (ix2 a k) * x1 (ix2 b k) := by
  pointwise [k0_pay1]

/-- Where each window's block lies at each point: the gradient's rows, the weight's rows, and the result's block. -/
theorem idx : ∀ t : Fin cfg0.N, (win0_0.index t = ![t.val / 2 % 11, 0] ∧ win0_2.index t = ![t.val / 2 % 11, 0]
      ∧ win0_4.index t = ![t.val / 2 % 11, 0] ∧ win0_6.index t = ![t.val / 2 % 11, 0] ∧ win0_8.index t = ![t.val / 2 % 11, 0]
      ∧ win0_10.index t = ![t.val / 2 % 11, 0])
    ∧ (win0_1.index t = ![t.val % 2, 0] ∧ win0_3.index t = ![t.val % 2, 0] ∧ win0_5.index t = ![t.val % 2, 0]
      ∧ win0_7.index t = ![t.val % 2, 0] ∧ win0_9.index t = ![t.val % 2, 0] ∧ win0_11.index t = ![t.val % 2, 0])
    ∧ win0_12.index t = ![t.val / 2 % 11, t.val % 2] :=
  (by decide +kernel : ∀ t : Fin grid0.N, _)

variable (m : (ℓ : Loc nD τ sig) → Buf (Elt Ideal) ℓ) (c : Dev nD)

abbrev argW : Mat 1024 3280 := m (c, Proc.tc.devRef main_arg1)
abbrev argG : Mat 8448 3280 := m (c, Proc.tc.devRef main_arg2)

/-! The segments that the call is handed: columns of the gradient and of the weight, with zeros after them in the two narrow ones. -/

theorem V13 (i : Fin 8448) (k : Fin 384) : V m c main_v13 (ix2 i k) = argG m c (ix2 i ⟨k, by omega⟩) := by
  have : V m c main_v13 = truncf (F := Ideal) .bf16 (extractStridedSlice S8448x384 ![0, 0] (argG m c) slices_S8448x3280_S8448x384_0_0)
      bitsLt_bf16_f32 := by
    dsimp only [V, hostOps0, List.flatten, List.append]
    after_results
  rw [this]
  pointwise []

theorem V1 (i : Fin 1024) (k : Fin 384) : V m c main_v1 (ix2 i k) = argW m c (ix2 i ⟨k, by omega⟩) := by
  have : V m c main_v1 = extractStridedSlice S1024x384 ![0, 0]
      (truncf (F := Ideal) .bf16 (argW m c) bitsLt_bf16_f32) slices_S1024x3280_S1024x384_0_0 := by
    dsimp only [V, hostOps0, List.flatten, List.append]
    after_results
  rw [this]
  pointwise []

theorem V14 (i : Fin 8448) (k : Fin 256) : V m c main_v14 (ix2 i k) = argG m c (ix2 i ⟨384 + k, by omega⟩) := by
  have : V m c main_v14 = truncf (F := Ideal) .bf16 (extractStridedSlice S8448x256 ![0, 384] (argG m c) slices_S8448x3280_S8448x256_0_384)
      bitsLt_bf16_f32 := by
    dsimp only [V, hostOps0, List.flatten, List.append]
    after_results
  rw [this]
  pointwise []

theorem V2 (i : Fin 1024) (k : Fin 256) : V m c main_v2 (ix2 i k) = argW m c (ix2 i ⟨384 + k, by omega⟩) := by
  have : V m c main_v2 = extractStridedSlice S1024x256 ![0, 384]
      (truncf (F := Ideal) .bf16 (argW m c) bitsLt_bf16_f32) slices_S1024x3280_S1024x256_0_384 := by
    dsimp only [V, hostOps0, List.flatten, List.append]
    after_results
  rw [this]
  pointwise []

theorem V15 (i : Fin 8448) (k : Fin 128) : V m c main_v15 (ix2 i k) = if h : k.val < 64 then argG m c (ix2 i ⟨640 + k, by omega⟩) else 0 := by
  have : V m c main_v15 = pad S8448x128 ![0, 0] ![0, 64] ![0, 0] (extractStridedSlice S8448x64 ![0, 640] (argG m c) slices_S8448x3280_S8448x64_0_640)
      (constant (F := Ideal) S_ .f32 0x00000000#32) pads_S8448x64_S8448x128_000_0640 h_S_ := by
    dsimp only [V, hostOps0, List.flatten, List.append]
    after_results
  rw [this]
  pointwise []

theorem V16 (i : Fin 1024) (k : Fin 128) : V m c main_v16 (ix2 i k) = if h : k.val < 64 then argW m c (ix2 i ⟨640 + k, by omega⟩) else 0 := by
  have : V m c main_v16 = pad S1024x128 ![0, 0] ![0, 64] ![0, 0] (extractStridedSlice S1024x64 ![0, 640] (truncf (F := Ideal) .bf16 (argW m c) bitsLt_bf16_f32) slices_S1024x3280_S1024x64_0_640)
      (constant (F := Ideal) S_ .bf16 0x0000#16) pads_S1024x64_S1024x128_000_0640 h_S_ := by
    dsimp only [V, hostOps0, List.flatten, List.append]
    after_results
  rw [this]
  pointwise []

theorem V17 (i : Fin 8448) (k : Fin 1024) : V m c main_v17 (ix2 i k) = argG m c (ix2 i ⟨704 + k, by omega⟩) := by
  have : V m c main_v17 = truncf (F := Ideal) .bf16 (extractStridedSlice S8448x1024 ![0, 704] (argG m c) slices_S8448x3280_S8448x1024_0_704)
      bitsLt_bf16_f32 := by
    dsimp only [V, hostOps0, List.flatten, List.append]
    after_results
  rw [this]
  pointwise []

theorem V4 (i : Fin 1024) (k : Fin 1024) : V m c main_v4 (ix2 i k) = argW m c (ix2 i ⟨704 + k, by omega⟩) := by
  have : V m c main_v4 = extractStridedSlice S1024x1024 ![0, 704]
      (truncf (F := Ideal) .bf16 (argW m c) bitsLt_bf16_f32) slices_S1024x3280_S1024x1024_0_704 := by
    dsimp only [V, hostOps0, List.flatten, List.append]
    after_results
  rw [this]
  pointwise []

theorem V18 (i : Fin 8448) (k : Fin 1536) : V m c main_v18 (ix2 i k) = argG m c (ix2 i ⟨1728 + k, by omega⟩) := by
  have : V m c main_v18 = truncf (F := Ideal) .bf16 (extractStridedSlice S8448x1536 ![0, 1728] (argG m c) slices_S8448x3280_S8448x1536_0_1728)
      bitsLt_bf16_f32 := by
    dsimp only [V, hostOps0, List.flatten, List.append]
    after_results
  rw [this]
  pointwise []

theorem V5 (i : Fin 1024) (k : Fin 1536) : V m c main_v5 (ix2 i k) = argW m c (ix2 i ⟨1728 + k, by omega⟩) := by
  have : V m c main_v5 = extractStridedSlice S1024x1536 ![0, 1728]
      (truncf (F := Ideal) .bf16 (argW m c) bitsLt_bf16_f32) slices_S1024x3280_S1024x1536_0_1728 := by
    dsimp only [V, hostOps0, List.flatten, List.append]
    after_results
  rw [this]
  pointwise []

theorem V19 (i : Fin 8448) (k : Fin 128) : V m c main_v19 (ix2 i k) = if h : k.val < 16 then argG m c (ix2 i ⟨3264 + k, by omega⟩) else 0 := by
  have : V m c main_v19 = pad S8448x128 ![0, 0] ![0, 112] ![0, 0] (extractStridedSlice S8448x16 ![0, 3264] (argG m c) slices_S8448x3280_S8448x16_0_3264)
      (constant (F := Ideal) S_ .f32 0x00000000#32) pads_S8448x16_S8448x128_000_01120 h_S_ := by
    dsimp only [V, hostOps0, List.flatten, List.append]
    after_results
  rw [this]
  pointwise []

theorem V20 (i : Fin 1024) (k : Fin 128) : V m c main_v20 (ix2 i k) = if h : k.val < 16 then argW m c (ix2 i ⟨3264 + k, by omega⟩) else 0 := by
  have : V m c main_v20 = pad S1024x128 ![0, 0] ![0, 112] ![0, 0] (extractStridedSlice S1024x16 ![0, 3264] (truncf (F := Ideal) .bf16 (argW m c) bitsLt_bf16_f32) slices_S1024x3280_S1024x16_0_3264)
      (constant (F := Ideal) S_ .bf16 0x0000#16) pads_S1024x16_S1024x128_000_01120 h_S_ := by
    dsimp only [V, hostOps0, List.flatten, List.append]
    after_results
  rw [this]
  pointwise []

variable (t : Fin cfg0.N)

/-- The product's column that column `b` of the block is. -/
def col (b : Fin 512) : Fin 1024 := ⟨512 * (t.val % 2) + b, by omega⟩

/-- The gradient's blocks are rows of its segments. -/
theorem blksG (a : Fin 768) : (∀ k : Fin 384, iblk m c 0 t (ix2 a k) = V m c main_v13 (ix2 (row (t / 2) a) k))
    ∧ (∀ k : Fin 256, iblk m c 2 t (ix2 a k) = V m c main_v14 (ix2 (row (t / 2) a) k))
    ∧ (∀ k : Fin 128, iblk m c 4 t (ix2 a k) = V m c main_v15 (ix2 (row (t / 2) a) k))
    ∧ (∀ k : Fin 1024, iblk m c 6 t (ix2 a k) = V m c main_v17 (ix2 (row (t / 2) a) k))
    ∧ (∀ k : Fin 1536, iblk m c 8 t (ix2 a k) = V m c main_v18 (ix2 (row (t / 2) a) k))
    ∧ ∀ k : Fin 128, iblk m c 10 t (ix2 a k) = V m c main_v19 (ix2 (row (t / 2) a) k) := by
  obtain ⟨e0, e2, e4, e6, e8, e10⟩ := (idx t).1
  refine ⟨fun k => ?_, fun k => ?_, fun k => ?_, fun k => ?_, fun k => ?_, fun k => ?_⟩ <;>
    blk_ext [iblk, e0, e2, e4, e6, e8, e10, row]

/-- The weight's blocks are rows of its segments. -/
theorem blksW (b : Fin 512) : (∀ k : Fin 384, iblk m c 1 t (ix2 b k) = V m c main_v1 (ix2 (col t b) k))
    ∧ (∀ k : Fin 256, iblk m c 3 t (ix2 b k) = V m c main_v2 (ix2 (col t b) k))
    ∧ (∀ k : Fin 128, iblk m c 5 t (ix2 b k) = V m c main_v16 (ix2 (col t b) k))
    ∧ (∀ k : Fin 1024, iblk m c 7 t (ix2 b k) = V m c main_v4 (ix2 (col t b) k))
    ∧ (∀ k : Fin 1536, iblk m c 9 t (ix2 b k) = V m c main_v5 (ix2 (col t b) k))
    ∧ ∀ k : Fin 128, iblk m c 11 t (ix2 b k) = V m c main_v20 (ix2 (col t b) k) := by
  obtain ⟨e1, e3, e5, e7, e9, e11⟩ := (idx t).2.1
  refine ⟨fun k => ?_, fun k => ?_, fun k => ?_, fun k => ?_, fun k => ?_, fun k => ?_⟩ <;>
    blk_ext [iblk, e1, e3, e5, e7, e9, e11, col]

set_option maxHeartbeats 1000000 in
/-- What a point's body leaves in its block. -/
theorem out_apply (a : Fin 768) (b : Fin 512) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a b)
      = mulT (argG m c) (argW m c) (ix2 (row (t / 2) a) (col t b)) := by
  obtain ⟨g0, g2, g4, g6, g8, g10⟩ := blksG m c t a
  obtain ⟨w1, w3, w5, w7, w9, w11⟩ := blksW m c t b
  unfold out0_12
  rw [View.canon_unit_zero origin]
  simp only [View.ld_unit_zero (S := S768x384) origin, View.ld_unit_zero (S := S512x384) origin, View.ld_unit_zero (S := S768x256) origin,
    View.ld_unit_zero (S := S512x256) origin, View.ld_unit_zero (S := S768x128) origin, View.ld_unit_zero (S := S512x128) origin,
    View.ld_unit_zero (S := S768x1024) origin, View.ld_unit_zero (S := S512x1024) origin, View.ld_unit_zero (S := S768x1536) origin,
    View.ld_unit_zero (S := S512x1536) origin]
  rw [pay_apply, pay2_apply]
  exact (six (plain (fun k => (g0 k).trans (V13 m c _ k)) fun k => (w1 k).trans (V1 m c _ k))
    (plain (fun k => (g2 k).trans (V14 m c _ k)) fun k => (w3 k).trans (V2 m c _ k))
    (filled (w := 64) (by decide) (fun k => (g4 k).trans (V15 m c _ k)) fun k => (w5 k).trans (V16 m c _ k))
    (plain (fun k => (g6 k).trans (V17 m c _ k)) fun k => (w7 k).trans (V4 m c _ k))
    (plain (fun k => (g8 k).trans (V18 m c _ k)) fun k => (w9 k).trans (V5 m c _ k))
    (filled (w := 16) (by decide) (fun k => (g10 k).trans (V19 m c _ k)) fun k => (w11 k).trans (V20 m c _ k))).trans
    (sum_segments fun k => argG m c (ix2 (row (t / 2) a) k) * argW m c (ix2 (col t b) k)).symm

/-- The array the launch leaves. -/
theorem final : (dats m 0 c).arrAt 12 cfg0.N = mulT (argG m c) (argW m c) := by
  refine (dats m 0 c).arrAt_eq_of_covers 12 _ (by decide +kernel) fun t hf y => ?_
  have e := (idx t).2.2
  blk_simp
  rw [after0_12]
  have ey : y = (ix2 (y 0) (y 1) : S768x512.Idx) := by blk_ext
  have ez : ((win0_12.blk t).view.emb y) = (ix2 (row (t / 2) (y 0)) (col t (y 1)) : S8448x1024.Idx) := by blk_ext [e, row, col]
  rw [ez]
  exact (congrArg _ ey).trans (out_apply m c t (y 0) (y 1))

/-- The reference's product is the same sum. -/
theorem reference_eq (w : Mat 1024 3280) (g : Mat 8448 3280) :
    Host.dotGeneral (F := Ideal) (φ₁ := .f32) (φ₂ := .f32) Reference12Ideal.dot_S8448x3280_S1024x3280_S8448x1024_1_1_0_0_n_n none g w = mulT g w := by
  funext i
  pointwise [mulT]

/-- Both programs end with the gradient. -/
theorem algebraic : Cert.algebraic_Kernel12Ideal_Reference12Ideal (hKernel12Ideal := Kernel12Ideal.Gen.facts)
    (hReference12Ideal := Reference12Ideal.Gen.facts) := by
  intro m ρ m' ρ' _ hargs
  refine ⟨fun c => mulT (argG m c) (argW m c), ?_, ?_⟩
  · exact (θ_run _ _ _).mono (fun r h c => ⟨(h c).1.trans (final m c), (h c).2⟩) (Kernel12Ideal.Value.run_blocks m ρ)
  · refine (θ_run _ _ _).mono (fun r h c => ⟨(h c).1.trans ?_, (h c).2⟩) (Reference12Ideal.Value.run m' ρ')
    rw [(hargs c).2.1, (hargs c).2.2]
    exact reference_eq _ _

/-- The two printed programs are the same text, so one run serves both. -/
theorem defs₀_eq : @Kernel12.defs₀ Bits _ _ = @Kernel12Ideal.defs₀ Bits _ _ :=
  congrArg Defs.onTc (funext fun l => funext fun x => match l, x with | 0, (_, _) => rfl)

set_option maxHeartbeats 1000000 in
theorem kernel_quiescent : Cert.quiescent_Kernel12 (hKernel12 := Kernel12.Gen.facts) := fun m ρ _ => by
  rw [show @Kernel12.defs Bits _ _ = @Kernel12Ideal.defs Bits _ _ from congrArg (Pipeline.defs _) defs₀_eq]
  exact Kernel12Ideal.Gen.frame (F := Bits) m ρ

/-- The reference leaves its arguments, and it has no counter to move. -/
theorem reference_quiescent : Cert.quiescent_Reference12Ideal (hReference12Ideal := Reference12Ideal.Gen.facts) :=
  fun m ρ _ => (θ_run _ _ _).mono (fun r h => ⟨fun c => (h c).2, sem_eq_zero_of_no_sems (by decide) r.2⟩)
    (Reference12Ideal.Value.run m ρ)

end Cert.Proof.ProjDx

end
-- ==== Proof.Products.ProjDwXbc.lean ====
/- The gradient of the input projection's weight behind the state-space convolution: the input transposed against the output's
   gradient, summed over eleven tiles of 768 rows into a block of 512 columns. -/
module

public import proofs.«01_k».proof.Defs
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Products.Common

@[expose] public section

set_option maxRecDepth 16384

noncomputable section

namespace Cert.Proof.ProjDwXbc

open Cert.Kernel13Ideal Cert.Kernel13Ideal.Gen Cert.Proof.Products
open Idealize.ShloMosaic Idealize.ShloMosaic.TcCoe Idealize.ShloMosaic.Tactic Idealize.SL.Sem

/-- One step adds a tile's product. -/
theorem pay_apply (acc : Vec Ideal S1024x512 .f32) (x0 : Vec Ideal S768x1024 .bf16) (x1 : Vec Ideal S768x512 .bf16)
    (i : S1024x512.Idx) : k0_pay2 acc x0 x1 i = acc i + ∑ k : Fin 768, x0 (ix2 k (i 0)) * x1 (ix2 k (i 1)) := by
  pointwise [k0_pay2]

theorem zero_apply (i : S1024x512.Idx) : k0_pay1 (F := Ideal) i = 0 := by
  pointwise [k0_pay1]

/-- Where each window's block lies at each point. -/
theorem idx : ∀ t : Fin cfg0.N, win0_0.index t = ![t.val % 11, 0] ∧ win0_1.index t = ![t.val % 11, t.val / 11 % 3]
    ∧ win0_2.index t = ![0, t.val / 11 % 3] :=
  (by decide +kernel : ∀ t : Fin grid0.N, _)

variable (m : (ℓ : Loc nD τ sig) → Buf (Elt Ideal) ℓ) (c : Dev nD)

abbrev argA : Mat 8448 1024 := m (c, Proc.tc.devRef main_arg0)
abbrev argG : Mat 8448 1536 := m (c, Proc.tc.devRef main_arg2)

/-- The product's column that column `b` of the block is. -/
def col (n : ℕ) (b : Fin 512) : Fin 1536 := ⟨512 * (n / 11 % 3) + b, by omega⟩

/-- What point `n` adds. -/
def part (n : ℕ) (i : S1024x512.Idx) : EReal :=
  ∑ k : Fin 768, argA m c (ix2 (row n k) (i 0)) * argG m c (ix2 (row n k) (col n (i 1)))

theorem blk0 (t : Fin cfg0.N) (k : Fin 768) (a : Fin 1024) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 512) :
    iblk m c 1 t (ix2 k b) = argG m c (ix2 (row t k) (col t b)) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) (col t b)))
  blk_ext [iblk, e, row, col]

theorem step_apply (t : Fin cfg0.N) (acc : Vec Ideal S1024x512 .f32) (i : S1024x512.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S1024x512.Idx) :
    ∑ s ∈ Finset.range 11, part m c (11 * q + s) i = tMul (argA m c) (argG m c) (ix2 (i 0) (col (11 * q) (i 1))) := by
  refine Eq.trans (Finset.sum_congr rfl fun s hs => ?_)
    (sum_rows q fun k => argA m c (ix2 k (i 0)) * argG m c (ix2 k (col (11 * q) (i 1))))
  have hc : col (11 * q + s) (i 1) = col (11 * q) (i 1) :=
    Fin.ext (by simp only [col]; have := Finset.mem_range.mp hs; omega)
  simp only [part, hc]

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (col (11 * (t.val / 11)) (y 1)) : S1024x1536.Idx) := by
    blk_ext [e, col]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 1024) (g : Mat 8448 1536) :
    transpose S1024x1536 [1, 0] (Host.dotGeneral (F := Ideal) (φ₁ := .f32) (φ₂ := .f32) Reference13Ideal.dot_S8448x1536_S8448x1024_S1536x1024_0_0_1_1_n_n none g h)
      Reference13Ideal.Gen.transposes_S1536x1024_S1024x1536_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel13Ideal_Reference13Ideal (hKernel13Ideal := Kernel13Ideal.Gen.facts)
    (hReference13Ideal := Reference13Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel13Ideal.Value.run_blocks m ρ)
  · refine (θ_run _ _ _).mono (fun r h c => ⟨(h c).1.trans ?_, (h c).2⟩) (Reference13Ideal.Value.run m' ρ')
    rw [(hargs c).1, (hargs c).2.2]
    exact reference_eq _ _

/-- The two printed programs are the same text, so one run serves both. -/
theorem defs₀_eq : @Kernel13.defs₀ Bits _ _ = @Kernel13Ideal.defs₀ Bits _ _ :=
  congrArg Defs.onTc (funext fun l => funext fun x => match l, x with | 0, (_, _) => rfl)

theorem kernel_quiescent : Cert.quiescent_Kernel13 (hKernel13 := Kernel13.Gen.facts) := fun m ρ _ => by
  rw [show @Kernel13.defs Bits _ _ = @Kernel13Ideal.defs Bits _ _ from congrArg (Pipeline.defs _) defs₀_eq]
  exact Kernel13Ideal.Gen.frame (F := Bits) m ρ

/-- The reference leaves its arguments, and it has no counter to move. -/
theorem reference_quiescent : Cert.quiescent_Reference13Ideal (hReference13Ideal := Reference13Ideal.Gen.facts) :=
  fun m ρ _ => (θ_run _ _ _).mono (fun r h => ⟨fun c => (h c).2, sem_eq_zero_of_no_sems (by decide) r.2⟩)
    (Reference13Ideal.Value.run m ρ)

end Cert.Proof.ProjDwXbc

end
-- ==== Proof.Products.ProjXbc.lean ====
/- The input projection's segment behind the state-space convolution: the input against 1536 columns of the weight, a block of
   768 × 512 at each grid point. -/
module

public import proofs.«01_k».proof.Defs
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Products.Common

@[expose] public section

set_option maxRecDepth 16384

noncomputable section

namespace Cert.Proof.ProjXbc

open Cert.Kernel14Ideal Cert.Kernel14Ideal.Gen Cert.Proof.Products
open Idealize.ShloMosaic Idealize.ShloMosaic.TcCoe Idealize.ShloMosaic.Tactic Idealize.SL.Sem

theorem pay_apply (x0 : Vec Ideal S768x1024 .bf16) (x1 : Vec Ideal S1024x512 .bf16) (a : Fin 768) (b : Fin 512) :
    k0_pay1 x0 x1 (ix2 a b) = ∑ k : Fin 1024, x0 (ix2 a k) * x1 (ix2 k b) := by
  pointwise [k0_pay1]

/-- Where each window's block lies at each point. -/
theorem idx : ∀ t : Fin cfg0.N, win0_0.index t = ![t.val / 3 % 11, 0] ∧ win0_1.index t = ![0, t.val % 3]
    ∧ win0_2.index t = ![t.val / 3 % 11, t.val % 3] :=
  (by decide +kernel : ∀ t : Fin grid0.N, _)

variable (m : (ℓ : Loc nD τ sig) → Buf (Elt Ideal) ℓ) (c : Dev nD) (t : Fin cfg0.N)

abbrev argA : Mat 8448 1024 := m (c, Proc.tc.devRef main_arg0)
abbrev argW : Mat 1024 1536 := m (c, Proc.tc.devRef main_arg1)

/-- The product's column that column `b` of the block is. -/
def col (b : Fin 512) : Fin 1536 := ⟨512 * (t.val % 3) + b, by omega⟩

theorem blk0 (a : Fin 768) (k : Fin 1024) : iblk m c 0 t (ix2 a k) = argA m c (ix2 (row (t / 3) a) k) := by
  have e := (idx t).1
  have h : V m c main_v0 = truncf (F := Ideal) .bf16 (argA m c) bitsLt_bf16_f32 := by
    dsimp only [V, hostOps0, List.flatten, List.append]
    after_results
  refine Eq.trans ?_ (congrFun h (ix2 (row (t / 3) a) k))
  blk_ext [iblk, e, row]

theorem blk1 (k : Fin 1024) (b : Fin 512) : iblk m c 1 t (ix2 k b) = argW m c (ix2 k (col t b)) := by
  have e := (idx t).2.1
  have h : V m c main_v1 = truncf (F := Ideal) .bf16 (argW m c) bitsLt_bf16_f32 := by
    dsimp only [V, hostOps0, List.flatten, List.append]
    after_results
  refine Eq.trans ?_ (congrFun h (ix2 k (col t b)))
  blk_ext [iblk, e, col]

theorem out_apply (a : Fin 768) (b : Fin 512) :
    out0_2 (iblk m c 0 t) (iblk m c 1 t) (ix2 a b) = mul (argA m c) (argW m c) (ix2 (row (t / 3) a) (col t b)) := by
  unfold out0_2
  rw [View.canon_unit_zero origin, View.ld_unit_zero origin, View.ld_unit_zero origin, pay_apply]
  exact Finset.sum_congr rfl fun k _ => congrArg₂ (· * ·) (blk0 m c t a k) (blk1 m c t k b)

/-- The array the launch leaves. -/
theorem final : (dats m 0 c).arrAt 2 cfg0.N = mul (argA m c) (argW m c) := by
  refine (dats m 0 c).arrAt_eq_of_covers 2 _ (by decide +kernel) fun t hf y => ?_
  have e := (idx t).2.2
  blk_simp
  rw [after0_2]
  have ez : ((win0_2.blk t).view.emb y) = (ix2 (row (t / 3) (y 0)) (col t (y 1)) : S8448x1536.Idx) := by
    blk_ext [e, row, col]
  rw [ez]
  exact (congrArg _ (by blk_ext : y = (ix2 (y 0) (y 1) : S768x512.Idx))).trans (out_apply m c t (y 0) (y 1))

theorem reference_eq (a : Mat 8448 1024) (w : Mat 1024 1536) :
    Host.dotGeneral (F := Ideal) (φ₁ := .f32) (φ₂ := .f32) Reference14Ideal.dot_S8448x1024_S1024x1536_S8448x1536_1_0_0_1_n_n none a w
      = mul a w := by
  funext i
  pointwise [mul]

/-- Both programs end with the product. -/
theorem algebraic : Cert.algebraic_Kernel14Ideal_Reference14Ideal (hKernel14Ideal := Kernel14Ideal.Gen.facts)
    (hReference14Ideal := Reference14Ideal.Gen.facts) := by
  intro m ρ m' ρ' _ hargs
  refine ⟨fun c => mul (argA m c) (argW m c), ?_, ?_⟩
  · exact (θ_run _ _ _).mono (fun r h c => ⟨(h c).1.trans (final m c), (h c).2⟩) (Kernel14Ideal.Value.run_blocks m ρ)
  · refine (θ_run _ _ _).mono (fun r h c => ⟨(h c).1.trans ?_, (h c).2⟩) (Reference14Ideal.Value.run m' ρ')
    rw [(hargs c).1, (hargs c).2]
    exact reference_eq _ _

/-- The two printed programs are the same text, so one run serves both. -/
theorem defs₀_eq : @Kernel14.defs₀ Bits _ _ = @Kernel14Ideal.defs₀ Bits _ _ :=
  congrArg Defs.onTc (funext fun l => funext fun x => match l, x with | 0, (_, _) => rfl)

theorem kernel_quiescent : Cert.quiescent_Kernel14 (hKernel14 := Kernel14.Gen.facts) := fun m ρ _ => by
  rw [show @Kernel14.defs Bits _ _ = @Kernel14Ideal.defs Bits _ _ from congrArg (Pipeline.defs _) defs₀_eq]
  exact Kernel14Ideal.Gen.frame (F := Bits) m ρ

/-- The reference leaves its arguments, and it has no counter to move. -/
theorem reference_quiescent : Cert.quiescent_Reference14Ideal (hReference14Ideal := Reference14Ideal.Gen.facts) :=
  fun m ρ _ => (θ_run _ _ _).mono (fun r h => ⟨fun c => (h c).2, sem_eq_zero_of_no_sems (by decide) r.2⟩)
    (Reference14Ideal.Value.run m ρ)

end Cert.Proof.ProjXbc

end
-- ==== Proof.Products.ProjZ.lean ====
/- The input projection's segment behind the gate z: the input against 1024 columns of the weight, a block of 768 × 512 at each
   grid point. -/
module

public import proofs.«01_k».proof.Defs
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Products.Common

@[expose] public section

set_option maxRecDepth 16384

noncomputable section

namespace Cert.Proof.ProjZ

open Cert.Kernel15Ideal Cert.Kernel15Ideal.Gen Cert.Proof.Products
open Idealize.ShloMosaic Idealize.ShloMosaic.TcCoe Idealize.ShloMosaic.Tactic Idealize.SL.Sem

theorem pay_apply (x0 : Vec Ideal S768x1024 .bf16) (x1 : Vec Ideal S1024x512 .bf16) (a : Fin 768) (b : Fin 512) :
    k0_pay1 x0 x1 (ix2 a b) = ∑ k : Fin 1024, x0 (ix2 a k) * x1 (ix2 k b) := by
  pointwise [k0_pay1]

/-- Where each window's block lies at each point. -/
theorem idx : ∀ t : Fin cfg0.N, win0_0.index t = ![t.val / 2 % 11, 0] ∧ win0_1.index t = ![0, t.val % 2]
    ∧ win0_2.index t = ![t.val / 2 % 11, t.val % 2] :=
  (by decide +kernel : ∀ t : Fin grid0.N, _)

variable (m : (ℓ : Loc nD τ sig) → Buf (Elt Ideal) ℓ) (c : Dev nD) (t : Fin cfg0.N)

abbrev argA : Mat 8448 1024 := m (c, Proc.tc.devRef main_arg0)
abbrev argW : Mat 1024 1024 := m (c, Proc.tc.devRef main_arg1)

/-- The product's column that column `b` of the block is. -/
def col (b : Fin 512) : Fin 1024 := ⟨512 * (t.val % 2) + b, by omega⟩

theorem blk0 (a : Fin 768) (k : Fin 1024) : iblk m c 0 t (ix2 a k) = argA m c (ix2 (row (t / 2) a) k) := by
  have e := (idx t).1
  have h : V m c main_v0 = truncf (F := Ideal) .bf16 (argA m c) bitsLt_bf16_f32 := by
    dsimp only [V, hostOps0, List.flatten, List.append]
    after_results
  refine Eq.trans ?_ (congrFun h (ix2 (row (t / 2) a) k))
  blk_ext [iblk, e, row]

theorem blk1 (k : Fin 1024) (b : Fin 512) : iblk m c 1 t (ix2 k b) = argW m c (ix2 k (col t b)) := by
  have e := (idx t).2.1
  have h : V m c main_v1 = truncf (F := Ideal) .bf16 (argW m c) bitsLt_bf16_f32 := by
    dsimp only [V, hostOps0, List.flatten, List.append]
    after_results
  refine Eq.trans ?_ (congrFun h (ix2 k (col t b)))
  blk_ext [iblk, e, col]

theorem out_apply (a : Fin 768) (b : Fin 512) :
    out0_2 (iblk m c 0 t) (iblk m c 1 t) (ix2 a b) = mul (argA m c) (argW m c) (ix2 (row (t / 2) a) (col t b)) := by
  unfold out0_2
  rw [View.canon_unit_zero origin, View.ld_unit_zero origin, View.ld_unit_zero origin, pay_apply]
  exact Finset.sum_congr rfl fun k _ => congrArg₂ (· * ·) (blk0 m c t a k) (blk1 m c t k b)

/-- The array the launch leaves. -/
theorem final : (dats m 0 c).arrAt 2 cfg0.N = mul (argA m c) (argW m c) := by
  refine (dats m 0 c).arrAt_eq_of_covers 2 _ (by decide +kernel) fun t hf y => ?_
  have e := (idx t).2.2
  blk_simp
  rw [after0_2]
  have ez : ((win0_2.blk t).view.emb y) = (ix2 (row (t / 2) (y 0)) (col t (y 1)) : S8448x1024.Idx) := by
    blk_ext [e, row, col]
  rw [ez]
  exact (congrArg _ (by blk_ext : y = (ix2 (y 0) (y 1) : S768x512.Idx))).trans (out_apply m c t (y 0) (y 1))

theorem reference_eq (a : Mat 8448 1024) (w : Mat 1024 1024) :
    Host.dotGeneral (F := Ideal) (φ₁ := .f32) (φ₂ := .f32) Reference15Ideal.dot_S8448x1024_S1024x1024_S8448x1024_1_0_0_1_n_n none a w
      = mul a w := by
  funext i
  pointwise [mul]

/-- Both programs end with the product. -/
theorem algebraic : Cert.algebraic_Kernel15Ideal_Reference15Ideal (hKernel15Ideal := Kernel15Ideal.Gen.facts)
    (hReference15Ideal := Reference15Ideal.Gen.facts) := by
  intro m ρ m' ρ' _ hargs
  refine ⟨fun c => mul (argA m c) (argW m c), ?_, ?_⟩
  · exact (θ_run _ _ _).mono (fun r h c => ⟨(h c).1.trans (final m c), (h c).2⟩) (Kernel15Ideal.Value.run_blocks m ρ)
  · refine (θ_run _ _ _).mono (fun r h c => ⟨(h c).1.trans ?_, (h c).2⟩) (Reference15Ideal.Value.run m' ρ')
    rw [(hargs c).1, (hargs c).2]
    exact reference_eq _ _

/-- The two printed programs are the same text, so one run serves both. -/
theorem defs₀_eq : @Kernel15.defs₀ Bits _ _ = @Kernel15Ideal.defs₀ Bits _ _ :=
  congrArg Defs.onTc (funext fun l => funext fun x => match l, x with | 0, (_, _) => rfl)

theorem kernel_quiescent : Cert.quiescent_Kernel15 (hKernel15 := Kernel15.Gen.facts) := fun m ρ _ => by
  rw [show @Kernel15.defs Bits _ _ = @Kernel15Ideal.defs Bits _ _ from congrArg (Pipeline.defs _) defs₀_eq]
  exact Kernel15Ideal.Gen.frame (F := Bits) m ρ

/-- The reference leaves its arguments, and it has no counter to move. -/
theorem reference_quiescent : Cert.quiescent_Reference15Ideal (hReference15Ideal := Reference15Ideal.Gen.facts) :=
  fun m ρ _ => (θ_run _ _ _).mono (fun r h => ⟨fun c => (h c).2, sem_eq_zero_of_no_sems (by decide) r.2⟩)
    (Reference15Ideal.Value.run m ρ)

end Cert.Proof.ProjZ

end
-- ==== Proof.Products.UpKvDx.lean ====
/- The gradient of the key and value latent: the heads' gradient against the transposed weight, the heads side by side; a block of 768 rows
   at each grid point. -/
module

public import proofs.«01_k».proof.Defs
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Products.Common

@[expose] public section

set_option maxRecDepth 16384

noncomputable section

namespace Cert.Proof.UpKvDx

open Cert.Kernel16Ideal Cert.Kernel16Ideal.Gen Cert.Proof.Products
open Idealize.ShloMosaic Idealize.ShloMosaic.TcCoe Idealize.ShloMosaic.Tactic Idealize.SL.Sem

theorem pay_apply (x0 : Vec Ideal S768x2048 .bf16) (x1 : Vec Ideal S256x2048 .bf16) (a : Fin 768) (b : Fin 256) :
    k0_pay1 x0 x1 (ix2 a b) = ∑ k : Fin 2048, x0 (ix2 a k) * x1 (ix2 b k) := by
  pointwise [k0_pay1]

/-- Where each window's block lies at each point. -/
theorem idx : ∀ t : Fin cfg0.N, win0_0.index t = ![t.val % 11, 0] ∧ win0_1.index t = ![0, 0]
    ∧ win0_2.index t = ![t.val % 11, 0] :=
  (by decide +kernel : ∀ t : Fin grid0.N, _)

variable (m : (ℓ : Loc nD τ sig) → Buf (Elt Ideal) ℓ) (c : Dev nD) (t : Fin cfg0.N)

abbrev argW : Vec Ideal S256x8x256 .f32 := m (c, Proc.tc.devRef main_arg1)
abbrev argG : Vec Ideal S8448x8x256 .f32 := m (c, Proc.tc.devRef main_arg2)

/-! The heads side by side, which the call is handed. -/

theorem V1 (i : Fin 8448) (s : Fin 8) (k : Fin 256) : V m c main_v1 (ix2 i (lane s k)) = argG m c (ix3 i s k) := by
  have : V m c main_v1 = shapeCast S8448x2048 (truncf (F := Ideal) .bf16 (argG m c) bitsLt_bf16_f32) shapeCasts_S8448x8x256_S8448x2048 := by
    dsimp only [V, hostOps0, List.flatten, List.append]
    after_results
    rfl
  rw [this]
  pointwise [lane]

theorem V3 (i : Fin 256) (s : Fin 8) (k : Fin 256) : V m c main_v3 (ix2 i (lane s k)) = argW m c (ix3 i s k) := by
  have : V m c main_v3 = shapeCast S256x2048 (truncf (F := Ideal) .bf16 (argW m c) bitsLt_bf16_f32) shapeCasts_S256x8x256_S256x2048 := by
    dsimp only [V, hostOps0, List.flatten, List.append]
    after_results
    rfl
  rw [this]
  pointwise [lane]

theorem blk0 (a : Fin 768) (k : Fin 2048) : iblk m c 0 t (ix2 a k) = V m c main_v1 (ix2 (row t a) k) := by
  have e := (idx t).1
  blk_ext [iblk, e, row]

theorem blk1 (b : Fin 256) (k : Fin 2048) : iblk m c 1 t (ix2 b k) = V m c main_v3 (ix2 b k) := by
  have e := (idx t).2.1
  blk_ext [iblk, e]

theorem out_apply (a : Fin 768) (b : Fin 256) :
    out0_2 (iblk m c 0 t) (iblk m c 1 t) (ix2 a b) = mulHeads (argG m c) (argW m c) (ix2 (row t a) b) := by
  unfold out0_2
  rw [View.canon_unit_zero origin, View.ld_unit_zero origin, View.ld_unit_zero origin, pay_apply, sum_lanes]
  exact Finset.sum_congr rfl fun s _ => plain (fun k => (blk0 m c t a _).trans (V1 m c _ s k)) fun k => (blk1 m c t b _).trans (V3 m c b s k)

/-- The array the launch leaves. -/
theorem final : (dats m 0 c).arrAt 2 cfg0.N = mulHeads (argG m c) (argW m c) := by
  refine (dats m 0 c).arrAt_eq_of_covers 2 _ (by decide +kernel) fun t hf y => ?_
  have e := (idx t).2.2
  blk_simp
  rw [after0_2]
  have ez : ((win0_2.blk t).view.emb y) = (ix2 (row t (y 0)) (y 1) : S8448x256.Idx) := by
    blk_ext [e, row]
  rw [ez]
  exact (congrArg _ (by blk_ext : y = (ix2 (y 0) (y 1) : S768x256.Idx))).trans (out_apply m c t (y 0) (y 1))

theorem reference_eq (w : Vec Ideal S256x8x256 .f32) (g : Vec Ideal S8448x8x256 .f32) :
    Host.dotGeneral (F := Ideal) (φ₁ := .f32) (φ₂ := .f32) Reference16Ideal.dot_S8448x8x256_S256x8x256_S8448x256_12_12_0_0_n_n none g w
      = mulHeads g w := by
  funext i
  pointwise [mulHeads]

/-- Both programs end with the gradient. -/
theorem algebraic : Cert.algebraic_Kernel16Ideal_Reference16Ideal (hKernel16Ideal := Kernel16Ideal.Gen.facts)
    (hReference16Ideal := Reference16Ideal.Gen.facts) := by
  intro m ρ m' ρ' _ hargs
  refine ⟨fun c => mulHeads (argG m c) (argW m c), ?_, ?_⟩
  · exact (θ_run _ _ _).mono (fun r h c => ⟨(h c).1.trans (final m c), (h c).2⟩) (Kernel16Ideal.Value.run_blocks m ρ)
  · refine (θ_run _ _ _).mono (fun r h c => ⟨(h c).1.trans ?_, (h c).2⟩) (Reference16Ideal.Value.run m' ρ')
    rw [(hargs c).2.1, (hargs c).2.2]
    exact reference_eq _ _

/-- The two printed programs are the same text, so one run serves both. -/
theorem defs₀_eq : @Kernel16.defs₀ Bits _ _ = @Kernel16Ideal.defs₀ Bits _ _ :=
  congrArg Defs.onTc (funext fun l => funext fun x => match l, x with | 0, (_, _) => rfl)

theorem kernel_quiescent : Cert.quiescent_Kernel16 (hKernel16 := Kernel16.Gen.facts) := fun m ρ _ => by
  rw [show @Kernel16.defs Bits _ _ = @Kernel16Ideal.defs Bits _ _ from congrArg (Pipeline.defs _) defs₀_eq]
  exact Kernel16Ideal.Gen.frame (F := Bits) m ρ

/-- The reference leaves its arguments, and it has no counter to move. -/
theorem reference_quiescent : Cert.quiescent_Reference16Ideal (hReference16Ideal := Reference16Ideal.Gen.facts) :=
  fun m ρ _ => (θ_run _ _ _).mono (fun r h => ⟨fun c => (h c).2, sem_eq_zero_of_no_sems (by decide) r.2⟩)
    (Reference16Ideal.Value.run m ρ)

end Cert.Proof.UpKvDx

end
-- ==== Proof.Products.UpKvDw.lean ====
/- The gradient of the weight that takes the key and value latent to the heads: the latent transposed against the heads' gradient,
   summed over eleven tiles of 768 rows into a block of 1024 columns. -/
module

public import proofs.«01_k».proof.Defs
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Products.Common

@[expose] public section

set_option maxRecDepth 16384

noncomputable section

namespace Cert.Proof.UpKvDw

open Cert.Kernel17Ideal Cert.Kernel17Ideal.Gen Cert.Proof.Products
open Idealize.ShloMosaic Idealize.ShloMosaic.TcCoe Idealize.ShloMosaic.Tactic Idealize.SL.Sem

/-- One step adds a tile's product. -/
theorem pay_apply (acc : Vec Ideal S256x1024 .f32) (x0 : Vec Ideal S768x256 .bf16) (x1 : Vec Ideal S768x1024 .bf16)
    (i : S256x1024.Idx) : k0_pay2 acc x0 x1 i = acc i + ∑ k : Fin 768, x0 (ix2 k (i 0)) * x1 (ix2 k (i 1)) := by
  pointwise [k0_pay2]

theorem zero_apply (i : S256x1024.Idx) : k0_pay1 (F := Ideal) i = 0 := by
  pointwise [k0_pay1]

/-- Where each window's block lies at each point. -/
theorem idx : ∀ t : Fin cfg0.N, win0_0.index t = ![t.val % 11, 0] ∧ win0_1.index t = ![t.val % 11, t.val / 11 % 2]
    ∧ win0_2.index t = ![0, t.val / 11 % 2] :=
  (by decide +kernel : ∀ t : Fin grid0.N, _)

variable (m : (ℓ : Loc nD τ sig) → Buf (Elt Ideal) ℓ) (c : Dev nD)

abbrev argA : Mat 8448 256 := m (c, Proc.tc.devRef main_arg0)
abbrev argG : Mat 8448 2048 := m (c, Proc.tc.devRef main_arg2)

/-- The product's column that column `b` of the block is. -/
def col (n : ℕ) (b : Fin 1024) : Fin 2048 := ⟨1024 * (n / 11 % 2) + b, by omega⟩

/-- What point `n` adds. -/
def part (n : ℕ) (i : S256x1024.Idx) : EReal :=
  ∑ k : Fin 768, argA m c (ix2 (row n k) (i 0)) * argG m c (ix2 (row n k) (col n (i 1)))

theorem blk0 (t : Fin cfg0.N) (k : Fin 768) (a : Fin 256) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 1024) :
    iblk m c 1 t (ix2 k b) = argG m c (ix2 (row t k) (col t b)) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) (col t b)))
  blk_ext [iblk, e, row, col]

theorem step_apply (t : Fin cfg0.N) (acc : Vec Ideal S256x1024 .f32) (i : S256x1024.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S256x1024.Idx) :
    ∑ s ∈ Finset.range 11, part m c (11 * q + s) i = tMul (argA m c) (argG m c) (ix2 (i 0) (col (11 * q) (i 1))) := by
  refine Eq.trans (Finset.sum_congr rfl fun s hs => ?_)
    (sum_rows q fun k => argA m c (ix2 k (i 0)) * argG m c (ix2 k (col (11 * q) (i 1))))
  have hc : col (11 * q + s) (i 1) = col (11 * q) (i 1) :=
    Fin.ext (by simp only [col]; have := Finset.mem_range.mp hs; omega)
  simp only [part, hc]

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (col (11 * (t.val / 11)) (y 1)) : S256x2048.Idx) := by
    blk_ext [e, col]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 256) (g : Mat 8448 2048) :
    transpose S256x2048 [1, 0] (Host.dotGeneral (F := Ideal) (φ₁ := .f32) (φ₂ := .f32) Reference17Ideal.dot_S8448x2048_S8448x256_S2048x256_0_0_1_1_n_n none g h)
      Reference17Ideal.Gen.transposes_S2048x256_S256x2048_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel17Ideal_Reference17Ideal (hKernel17Ideal := Kernel17Ideal.Gen.facts)
    (hReference17Ideal := Reference17Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel17Ideal.Value.run_blocks m ρ)
  · refine (θ_run _ _ _).mono (fun r h c => ⟨(h c).1.trans ?_, (h c).2⟩) (Reference17Ideal.Value.run m' ρ')
    rw [(hargs c).1, (hargs c).2.2]
    exact reference_eq _ _

/-- The two printed programs are the same text, so one run serves both. -/
theorem defs₀_eq : @Kernel17.defs₀ Bits _ _ = @Kernel17Ideal.defs₀ Bits _ _ :=
  congrArg Defs.onTc (funext fun l => funext fun x => match l, x with | 0, (_, _) => rfl)

theorem kernel_quiescent : Cert.quiescent_Kernel17 (hKernel17 := Kernel17.Gen.facts) := fun m ρ _ => by
  rw [show @Kernel17.defs Bits _ _ = @Kernel17Ideal.defs Bits _ _ from congrArg (Pipeline.defs _) defs₀_eq]
  exact Kernel17Ideal.Gen.frame (F := Bits) m ρ

/-- The reference leaves its arguments, and it has no counter to move. -/
theorem reference_quiescent : Cert.quiescent_Reference17Ideal (hReference17Ideal := Reference17Ideal.Gen.facts) :=
  fun m ρ _ => (θ_run _ _ _).mono (fun r h => ⟨fun c => (h c).2, sem_eq_zero_of_no_sems (by decide) r.2⟩)
    (Reference17Ideal.Value.run m ρ)

end Cert.Proof.UpKvDw

end
-- ==== Proof.Products.UpQDx.lean ====
/- The gradient of the query latent: the heads' gradient against the transposed weight, the heads side by side, each filled up
   to 256 columns with zeros; a block of 768 rows at each grid point. -/
module

public import proofs.«01_k».proof.Defs
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Products.Common

@[expose] public section

set_option maxRecDepth 16384

noncomputable section

namespace Cert.Proof.UpQDx

open Cert.Kernel18Ideal Cert.Kernel18Ideal.Gen Cert.Proof.Products
open Idealize.ShloMosaic Idealize.ShloMosaic.TcCoe Idealize.ShloMosaic.Tactic Idealize.SL.Sem

theorem pay_apply (x0 : Vec Ideal S768x2048 .bf16) (x1 : Vec Ideal S384x2048 .bf16) (a : Fin 768) (b : Fin 384) :
    k0_pay1 x0 x1 (ix2 a b) = ∑ k : Fin 2048, x0 (ix2 a k) * x1 (ix2 b k) := by
  pointwise [k0_pay1]

/-- Where each window's block lies at each point. -/
theorem idx : ∀ t : Fin cfg0.N, win0_0.index t = ![t.val % 11, 0] ∧ win0_1.index t = ![0, 0]
    ∧ win0_2.index t = ![t.val % 11, 0] :=
  (by decide +kernel : ∀ t : Fin grid0.N, _)

variable (m : (ℓ : Loc nD τ sig) → Buf (Elt Ideal) ℓ) (c : Dev nD) (t : Fin cfg0.N)

abbrev argW : Vec Ideal S384x8x192 .f32 := m (c, Proc.tc.devRef main_arg1)
abbrev argG : Vec Ideal S8448x8x192 .f32 := m (c, Proc.tc.devRef main_arg2)

/-! The heads side by side, which the call is handed: zeros after the 192 columns of each. -/

theorem V2 (i : Fin 8448) (s : Fin 8) (k : Fin 256) :
    V m c main_v2 (ix2 i (lane s k)) = if h : k.val < 192 then argG m c (ix3 i s ⟨k, h⟩) else 0 := by
  have : V m c main_v2 = shapeCast S8448x2048 (pad S8448x8x256 ![0, 0, 0] ![0, 0, 64] ![0, 0, 0] (truncf (F := Ideal) .bf16 (argG m c) bitsLt_bf16_f32)
      (constant (F := Ideal) S_ .bf16 0x0000#16) pads_S8448x8x192_S8448x8x256_000_000_0640 h_S_) shapeCasts_S8448x8x256_S8448x2048 := by
    dsimp only [V, hostOps0, List.flatten, List.append]
    after_results
    rfl
  rw [this]
  pointwise [lane]

theorem V5 (i : Fin 384) (s : Fin 8) (k : Fin 256) :
    V m c main_v5 (ix2 i (lane s k)) = if h : k.val < 192 then argW m c (ix3 i s ⟨k, h⟩) else 0 := by
  have : V m c main_v5 = shapeCast S384x2048 (pad S384x8x256 ![0, 0, 0] ![0, 0, 64] ![0, 0, 0] (truncf (F := Ideal) .bf16 (argW m c) bitsLt_bf16_f32)
      (constant (F := Ideal) S_ .bf16 0x0000#16) pads_S384x8x192_S384x8x256_000_000_0640 h_S_) shapeCasts_S384x8x256_S384x2048 := by
    dsimp only [V, hostOps0, List.flatten, List.append]
    after_results
    rfl
  rw [this]
  pointwise [lane]

theorem blk0 (a : Fin 768) (k : Fin 2048) : iblk m c 0 t (ix2 a k) = V m c main_v2 (ix2 (row t a) k) := by
  have e := (idx t).1
  blk_ext [iblk, e, row]

theorem blk1 (b : Fin 384) (k : Fin 2048) : iblk m c 1 t (ix2 b k) = V m c main_v5 (ix2 b k) := by
  have e := (idx t).2.1
  blk_ext [iblk, e]

theorem out_apply (a : Fin 768) (b : Fin 384) :
    out0_2 (iblk m c 0 t) (iblk m c 1 t) (ix2 a b) = mulHeads (argG m c) (argW m c) (ix2 (row t a) b) := by
  unfold out0_2
  rw [View.canon_unit_zero origin, View.ld_unit_zero origin, View.ld_unit_zero origin, pay_apply, sum_lanes]
  exact Finset.sum_congr rfl fun s _ => filled (by norm_num) (fun k => (blk0 m c t a _).trans (V2 m c _ s k)) fun k => (blk1 m c t b _).trans (V5 m c b s k)

/-- The array the launch leaves. -/
theorem final : (dats m 0 c).arrAt 2 cfg0.N = mulHeads (argG m c) (argW m c) := by
  refine (dats m 0 c).arrAt_eq_of_covers 2 _ (by decide +kernel) fun t hf y => ?_
  have e := (idx t).2.2
  blk_simp
  rw [after0_2]
  have ez : ((win0_2.blk t).view.emb y) = (ix2 (row t (y 0)) (y 1) : S8448x384.Idx) := by
    blk_ext [e, row]
  rw [ez]
  exact (congrArg _ (by blk_ext : y = (ix2 (y 0) (y 1) : S768x384.Idx))).trans (out_apply m c t (y 0) (y 1))

theorem reference_eq (w : Vec Ideal S384x8x192 .f32) (g : Vec Ideal S8448x8x192 .f32) :
    Host.dotGeneral (F := Ideal) (φ₁ := .f32) (φ₂ := .f32) Reference18Ideal.dot_S8448x8x192_S384x8x192_S8448x384_12_12_0_0_n_n none g w
      = mulHeads g w := by
  funext i
  pointwise [mulHeads]

/-- Both programs end with the gradient. -/
theorem algebraic : Cert.algebraic_Kernel18Ideal_Reference18Ideal (hKernel18Ideal := Kernel18Ideal.Gen.facts)
    (hReference18Ideal := Reference18Ideal.Gen.facts) := by
  intro m ρ m' ρ' _ hargs
  refine ⟨fun c => mulHeads (argG m c) (argW m c), ?_, ?_⟩
  · exact (θ_run _ _ _).mono (fun r h c => ⟨(h c).1.trans (final m c), (h c).2⟩) (Kernel18Ideal.Value.run_blocks m ρ)
  · refine (θ_run _ _ _).mono (fun r h c => ⟨(h c).1.trans ?_, (h c).2⟩) (Reference18Ideal.Value.run m' ρ')
    rw [(hargs c).2.1, (hargs c).2.2]
    exact reference_eq _ _

/-- The two printed programs are the same text, so one run serves both. -/
theorem defs₀_eq : @Kernel18.defs₀ Bits _ _ = @Kernel18Ideal.defs₀ Bits _ _ :=
  congrArg Defs.onTc (funext fun l => funext fun x => match l, x with | 0, (_, _) => rfl)

theorem kernel_quiescent : Cert.quiescent_Kernel18 (hKernel18 := Kernel18.Gen.facts) := fun m ρ _ => by
  rw [show @Kernel18.defs Bits _ _ = @Kernel18Ideal.defs Bits _ _ from congrArg (Pipeline.defs _) defs₀_eq]
  exact Kernel18Ideal.Gen.frame (F := Bits) m ρ

/-- The reference leaves its arguments, and it has no counter to move. -/
theorem reference_quiescent : Cert.quiescent_Reference18Ideal (hReference18Ideal := Reference18Ideal.Gen.facts) :=
  fun m ρ _ => (θ_run _ _ _).mono (fun r h => ⟨fun c => (h c).2, sem_eq_zero_of_no_sems (by decide) r.2⟩)
    (Reference18Ideal.Value.run m ρ)

end Cert.Proof.UpQDx

end
-- ==== Proof.Products.UpQDw.lean ====
/- The gradient of the weight that takes the query latent to the heads: the latent transposed against the heads' gradient in 256 columns a head,
   summed over eleven tiles of 768 rows into a block of 1024 columns. -/
module

public import proofs.«01_k».proof.Defs
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Products.Common

@[expose] public section

set_option maxRecDepth 16384

noncomputable section

namespace Cert.Proof.UpQDw

open Cert.Kernel19Ideal Cert.Kernel19Ideal.Gen Cert.Proof.Products
open Idealize.ShloMosaic Idealize.ShloMosaic.TcCoe Idealize.ShloMosaic.Tactic Idealize.SL.Sem

/-- One step adds a tile's product. -/
theorem pay_apply (acc : Vec Ideal S384x1024 .f32) (x0 : Vec Ideal S768x384 .bf16) (x1 : Vec Ideal S768x1024 .bf16)
    (i : S384x1024.Idx) : k0_pay2 acc x0 x1 i = acc i + ∑ k : Fin 768, x0 (ix2 k (i 0)) * x1 (ix2 k (i 1)) := by
  pointwise [k0_pay2]

theorem zero_apply (i : S384x1024.Idx) : k0_pay1 (F := Ideal) i = 0 := by
  pointwise [k0_pay1]

/-- Where each window's block lies at each point. -/
theorem idx : ∀ t : Fin cfg0.N, win0_0.index t = ![t.val % 11, 0] ∧ win0_1.index t = ![t.val % 11, t.val / 11 % 2]
    ∧ win0_2.index t = ![0, t.val / 11 % 2] :=
  (by decide +kernel : ∀ t : Fin grid0.N, _)

variable (m : (ℓ : Loc nD τ sig) → Buf (Elt Ideal) ℓ) (c : Dev nD)

abbrev argA : Mat 8448 384 := m (c, Proc.tc.devRef main_arg0)
abbrev argG : Mat 8448 2048 := m (c, Proc.tc.devRef main_arg2)

/-- The product's column that column `b` of the block is. -/
def col (n : ℕ) (b : Fin 1024) : Fin 2048 := ⟨1024 * (n / 11 % 2) + b, by omega⟩

/-- What point `n` adds. -/
def part (n : ℕ) (i : S384x1024.Idx) : EReal :=
  ∑ k : Fin 768, argA m c (ix2 (row n k) (i 0)) * argG m c (ix2 (row n k) (col n (i 1)))

theorem blk0 (t : Fin cfg0.N) (k : Fin 768) (a : Fin 384) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 1024) :
    iblk m c 1 t (ix2 k b) = argG m c (ix2 (row t k) (col t b)) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) (col t b)))
  blk_ext [iblk, e, row, col]

theorem step_apply (t : Fin cfg0.N) (acc : Vec Ideal S384x1024 .f32) (i : S384x1024.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S384x1024.Idx) :
    ∑ s ∈ Finset.range 11, part m c (11 * q + s) i = tMul (argA m c) (argG m c) (ix2 (i 0) (col (11 * q) (i 1))) := by
  refine Eq.trans (Finset.sum_congr rfl fun s hs => ?_)
    (sum_rows q fun k => argA m c (ix2 k (i 0)) * argG m c (ix2 k (col (11 * q) (i 1))))
  have hc : col (11 * q + s) (i 1) = col (11 * q) (i 1) :=
    Fin.ext (by simp only [col]; have := Finset.mem_range.mp hs; omega)
  simp only [part, hc]

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (col (11 * (t.val / 11)) (y 1)) : S384x2048.Idx) := by
    blk_ext [e, col]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 384) (g : Mat 8448 2048) :
    transpose S384x2048 [1, 0] (Host.dotGeneral (F := Ideal) (φ₁ := .f32) (φ₂ := .f32) Reference19Ideal.dot_S8448x2048_S8448x384_S2048x384_0_0_1_1_n_n none g h)
      Reference19Ideal.Gen.transposes_S2048x384_S384x2048_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel19Ideal_Reference19Ideal (hKernel19Ideal := Kernel19Ideal.Gen.facts)
    (hReference19Ideal := Reference19Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel19Ideal.Value.run_blocks m ρ)
  · refine (θ_run _ _ _).mono (fun r h c => ⟨(h c).1.trans ?_, (h c).2⟩) (Reference19Ideal.Value.run m' ρ')
    rw [(hargs c).1, (hargs c).2.2]
    exact reference_eq _ _

/-- The two printed programs are the same text, so one run serves both. -/
theorem defs₀_eq : @Kernel19.defs₀ Bits _ _ = @Kernel19Ideal.defs₀ Bits _ _ :=
  congrArg Defs.onTc (funext fun l => funext fun x => match l, x with | 0, (_, _) => rfl)

theorem kernel_quiescent : Cert.quiescent_Kernel19 (hKernel19 := Kernel19.Gen.facts) := fun m ρ _ => by
  rw [show @Kernel19.defs Bits _ _ = @Kernel19Ideal.defs Bits _ _ from congrArg (Pipeline.defs _) defs₀_eq]
  exact Kernel19Ideal.Gen.frame (F := Bits) m ρ

/-- The reference leaves its arguments, and it has no counter to move. -/
theorem reference_quiescent : Cert.quiescent_Reference19Ideal (hReference19Ideal := Reference19Ideal.Gen.facts) :=
  fun m ρ _ => (θ_run _ _ _).mono (fun r h => ⟨fun c => (h c).2, sem_eq_zero_of_no_sems (by decide) r.2⟩)
    (Reference19Ideal.Value.run m ρ)

end Cert.Proof.UpQDw

end
-- ==== Proof.Products.ProjQ.lean ====
/- The input projection's segment behind the query latent: the input against 384 columns of the weight, a block of 768 rows at each
   grid point. -/
module

public import proofs.«01_k».proof.Defs
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Products.Common

@[expose] public section

set_option maxRecDepth 16384

noncomputable section

namespace Cert.Proof.ProjQ

open Cert.Kernel20Ideal Cert.Kernel20Ideal.Gen Cert.Proof.Products
open Idealize.ShloMosaic Idealize.ShloMosaic.TcCoe Idealize.ShloMosaic.Tactic Idealize.SL.Sem

theorem pay_apply (x0 : Vec Ideal S768x1024 .bf16) (x1 : Vec Ideal S1024x384 .bf16) (a : Fin 768) (b : Fin 384) :
    k0_pay1 x0 x1 (ix2 a b) = ∑ k : Fin 1024, x0 (ix2 a k) * x1 (ix2 k b) := by
  pointwise [k0_pay1]

/-- Where each window's block lies at each point. -/
theorem idx : ∀ t : Fin cfg0.N, win0_0.index t = ![t.val % 11, 0] ∧ win0_1.index t = ![0, 0]
    ∧ win0_2.index t = ![t.val % 11, 0] :=
  (by decide +kernel : ∀ t : Fin grid0.N, _)

variable (m : (ℓ : Loc nD τ sig) → Buf (Elt Ideal) ℓ) (c : Dev nD) (t : Fin cfg0.N)

abbrev argA : Mat 8448 1024 := m (c, Proc.tc.devRef main_arg0)
abbrev argW : Mat 1024 384 := m (c, Proc.tc.devRef main_arg1)

theorem blk0 (a : Fin 768) (k : Fin 1024) : iblk m c 0 t (ix2 a k) = argA m c (ix2 (row t a) k) := by
  have e := (idx t).1
  have h : V m c main_v0 = truncf (F := Ideal) .bf16 (argA m c) bitsLt_bf16_f32 := by
    dsimp only [V, hostOps0, List.flatten, List.append]
    after_results
  refine Eq.trans ?_ (congrFun h (ix2 (row t a) k))
  blk_ext [iblk, e, row]

theorem blk1 (k : Fin 1024) (b : Fin 384) : iblk m c 1 t (ix2 k b) = argW m c (ix2 k b) := by
  have e := (idx t).2.1
  have h : V m c main_v1 = truncf (F := Ideal) .bf16 (argW m c) bitsLt_bf16_f32 := by
    dsimp only [V, hostOps0, List.flatten, List.append]
    after_results
  refine Eq.trans ?_ (congrFun h (ix2 k b))
  blk_ext [iblk, e]

theorem out_apply (a : Fin 768) (b : Fin 384) :
    out0_2 (iblk m c 0 t) (iblk m c 1 t) (ix2 a b) = mul (argA m c) (argW m c) (ix2 (row t a) b) := by
  unfold out0_2
  rw [View.canon_unit_zero origin, View.ld_unit_zero origin, View.ld_unit_zero origin, pay_apply]
  exact Finset.sum_congr rfl fun k _ => congrArg₂ (· * ·) (blk0 m c t a k) (blk1 m c t k b)

/-- The array the launch leaves. -/
theorem final : (dats m 0 c).arrAt 2 cfg0.N = mul (argA m c) (argW m c) := by
  refine (dats m 0 c).arrAt_eq_of_covers 2 _ (by decide +kernel) fun t hf y => ?_
  have e := (idx t).2.2
  blk_simp
  rw [after0_2]
  have ez : ((win0_2.blk t).view.emb y) = (ix2 (row t (y 0)) (y 1) : S8448x384.Idx) := by
    blk_ext [e, row]
  rw [ez]
  exact (congrArg _ (by blk_ext : y = (ix2 (y 0) (y 1) : S768x384.Idx))).trans (out_apply m c t (y 0) (y 1))

theorem reference_eq (a : Mat 8448 1024) (w : Mat 1024 384) :
    Host.dotGeneral (F := Ideal) (φ₁ := .f32) (φ₂ := .f32) Reference20Ideal.dot_S8448x1024_S1024x384_S8448x384_1_0_0_1_n_n none a w
      = mul a w := by
  funext i
  pointwise [mul]

/-- Both programs end with the product. -/
theorem algebraic : Cert.algebraic_Kernel20Ideal_Reference20Ideal (hKernel20Ideal := Kernel20Ideal.Gen.facts)
    (hReference20Ideal := Reference20Ideal.Gen.facts) := by
  intro m ρ m' ρ' _ hargs
  refine ⟨fun c => mul (argA m c) (argW m c), ?_, ?_⟩
  · exact (θ_run _ _ _).mono (fun r h c => ⟨(h c).1.trans (final m c), (h c).2⟩) (Kernel20Ideal.Value.run_blocks m ρ)
  · refine (θ_run _ _ _).mono (fun r h c => ⟨(h c).1.trans ?_, (h c).2⟩) (Reference20Ideal.Value.run m' ρ')
    rw [(hargs c).1, (hargs c).2]
    exact reference_eq _ _

/-- The two printed programs are the same text, so one run serves both. -/
theorem defs₀_eq : @Kernel20.defs₀ Bits _ _ = @Kernel20Ideal.defs₀ Bits _ _ :=
  congrArg Defs.onTc (funext fun l => funext fun x => match l, x with | 0, (_, _) => rfl)

theorem kernel_quiescent : Cert.quiescent_Kernel20 (hKernel20 := Kernel20.Gen.facts) := fun m ρ _ => by
  rw [show @Kernel20.defs Bits _ _ = @Kernel20Ideal.defs Bits _ _ from congrArg (Pipeline.defs _) defs₀_eq]
  exact Kernel20Ideal.Gen.frame (F := Bits) m ρ

/-- The reference leaves its arguments, and it has no counter to move. -/
theorem reference_quiescent : Cert.quiescent_Reference20Ideal (hReference20Ideal := Reference20Ideal.Gen.facts) :=
  fun m ρ _ => (θ_run _ _ _).mono (fun r h => ⟨fun c => (h c).2, sem_eq_zero_of_no_sems (by decide) r.2⟩)
    (Reference20Ideal.Value.run m ρ)

end Cert.Proof.ProjQ

end
-- ==== Proof.Products.ProjDwQ.lean ====
/- The gradient of the input projection's weight behind the query latent: the input transposed against the output's
   gradient, summed over eleven tiles of 768 rows into one block. -/
module

public import proofs.«01_k».proof.Defs
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Products.Common

@[expose] public section

set_option maxRecDepth 16384

noncomputable section

namespace Cert.Proof.ProjDwQ

open Cert.Kernel21Ideal Cert.Kernel21Ideal.Gen Cert.Proof.Products
open Idealize.ShloMosaic Idealize.ShloMosaic.TcCoe Idealize.ShloMosaic.Tactic Idealize.SL.Sem

/-- One step adds a tile's product. -/
theorem pay_apply (acc : Vec Ideal S1024x384 .f32) (x0 : Vec Ideal S768x1024 .bf16) (x1 : Vec Ideal S768x384 .bf16)
    (i : S1024x384.Idx) : k0_pay2 acc x0 x1 i = acc i + ∑ k : Fin 768, x0 (ix2 k (i 0)) * x1 (ix2 k (i 1)) := by
  pointwise [k0_pay2]

theorem zero_apply (i : S1024x384.Idx) : k0_pay1 (F := Ideal) i = 0 := by
  pointwise [k0_pay1]

/-- Where each window's block lies at each point. -/
theorem idx : ∀ t : Fin cfg0.N, win0_0.index t = ![t.val % 11, 0] ∧ win0_1.index t = ![t.val % 11, 0]
    ∧ win0_2.index t = ![0, 0] :=
  (by decide +kernel : ∀ t : Fin grid0.N, _)

variable (m : (ℓ : Loc nD τ sig) → Buf (Elt Ideal) ℓ) (c : Dev nD)

abbrev argA : Mat 8448 1024 := m (c, Proc.tc.devRef main_arg0)
abbrev argG : Mat 8448 384 := m (c, Proc.tc.devRef main_arg2)

/-- What point `n` adds. -/
def part (n : ℕ) (i : S1024x384.Idx) : EReal :=
  ∑ k : Fin 768, argA m c (ix2 (row n k) (i 0)) * argG m c (ix2 (row n k) (i 1))

theorem blk0 (t : Fin cfg0.N) (k : Fin 768) (a : Fin 1024) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 384) :
    iblk m c 1 t (ix2 k b) = argG m c (ix2 (row t k) b) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) b))
  blk_ext [iblk, e, row]

theorem step_apply (t : Fin cfg0.N) (acc : Vec Ideal S1024x384 .f32) (i : S1024x384.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S1024x384.Idx) :
    ∑ s ∈ Finset.range 11, part m c (11 * q + s) i = tMul (argA m c) (argG m c) (ix2 (i 0) (i 1)) := by
  refine Eq.trans (Finset.sum_congr rfl fun s _ => ?_)
    (sum_rows q fun k => argA m c (ix2 k (i 0)) * argG m c (ix2 k (i 1)))
  rfl

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (y 1) : S1024x384.Idx) := by
    blk_ext [e]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 1024) (g : Mat 8448 384) :
    transpose S1024x384 [1, 0] (Host.dotGeneral (F := Ideal) (φ₁ := .f32) (φ₂ := .f32) Reference21Ideal.dot_S8448x384_S8448x1024_S384x1024_0_0_1_1_n_n none g h)
      Reference21Ideal.Gen.transposes_S384x1024_S1024x384_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel21Ideal_Reference21Ideal (hKernel21Ideal := Kernel21Ideal.Gen.facts)
    (hReference21Ideal := Reference21Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel21Ideal.Value.run_blocks m ρ)
  · refine (θ_run _ _ _).mono (fun r h c => ⟨(h c).1.trans ?_, (h c).2⟩) (Reference21Ideal.Value.run m' ρ')
    rw [(hargs c).1, (hargs c).2.2]
    exact reference_eq _ _

/-- The two printed programs are the same text, so one run serves both. -/
theorem defs₀_eq : @Kernel21.defs₀ Bits _ _ = @Kernel21Ideal.defs₀ Bits _ _ :=
  congrArg Defs.onTc (funext fun l => funext fun x => match l, x with | 0, (_, _) => rfl)

theorem kernel_quiescent : Cert.quiescent_Kernel21 (hKernel21 := Kernel21.Gen.facts) := fun m ρ _ => by
  rw [show @Kernel21.defs Bits _ _ = @Kernel21Ideal.defs Bits _ _ from congrArg (Pipeline.defs _) defs₀_eq]
  exact Kernel21Ideal.Gen.frame (F := Bits) m ρ

/-- The reference leaves its arguments, and it has no counter to move. -/
theorem reference_quiescent : Cert.quiescent_Reference21Ideal (hReference21Ideal := Reference21Ideal.Gen.facts) :=
  fun m ρ _ => (θ_run _ _ _).mono (fun r h => ⟨fun c => (h c).2, sem_eq_zero_of_no_sems (by decide) r.2⟩)
    (Reference21Ideal.Value.run m ρ)

end Cert.Proof.ProjDwQ

end
-- ==== Proof.Products.ProjKv.lean ====
/- The input projection's segment behind the key and value latent: the input against 256 columns of the weight, a block of 768 rows at each
   grid point. -/
module

public import proofs.«01_k».proof.Defs
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Products.Common

@[expose] public section

set_option maxRecDepth 16256

noncomputable section

namespace Cert.Proof.ProjKv

open Cert.Kernel22Ideal Cert.Kernel22Ideal.Gen Cert.Proof.Products
open Idealize.ShloMosaic Idealize.ShloMosaic.TcCoe Idealize.ShloMosaic.Tactic Idealize.SL.Sem

theorem pay_apply (x0 : Vec Ideal S768x1024 .bf16) (x1 : Vec Ideal S1024x256 .bf16) (a : Fin 768) (b : Fin 256) :
    k0_pay1 x0 x1 (ix2 a b) = ∑ k : Fin 1024, x0 (ix2 a k) * x1 (ix2 k b) := by
  pointwise [k0_pay1]

/-- Where each window's block lies at each point. -/
theorem idx : ∀ t : Fin cfg0.N, win0_0.index t = ![t.val % 11, 0] ∧ win0_1.index t = ![0, 0]
    ∧ win0_2.index t = ![t.val % 11, 0] :=
  (by decide +kernel : ∀ t : Fin grid0.N, _)

variable (m : (ℓ : Loc nD τ sig) → Buf (Elt Ideal) ℓ) (c : Dev nD) (t : Fin cfg0.N)

abbrev argA : Mat 8448 1024 := m (c, Proc.tc.devRef main_arg0)
abbrev argW : Mat 1024 256 := m (c, Proc.tc.devRef main_arg1)

theorem blk0 (a : Fin 768) (k : Fin 1024) : iblk m c 0 t (ix2 a k) = argA m c (ix2 (row t a) k) := by
  have e := (idx t).1
  have h : V m c main_v0 = truncf (F := Ideal) .bf16 (argA m c) bitsLt_bf16_f32 := by
    dsimp only [V, hostOps0, List.flatten, List.append]
    after_results
  refine Eq.trans ?_ (congrFun h (ix2 (row t a) k))
  blk_ext [iblk, e, row]

theorem blk1 (k : Fin 1024) (b : Fin 256) : iblk m c 1 t (ix2 k b) = argW m c (ix2 k b) := by
  have e := (idx t).2.1
  have h : V m c main_v1 = truncf (F := Ideal) .bf16 (argW m c) bitsLt_bf16_f32 := by
    dsimp only [V, hostOps0, List.flatten, List.append]
    after_results
  refine Eq.trans ?_ (congrFun h (ix2 k b))
  blk_ext [iblk, e]

theorem out_apply (a : Fin 768) (b : Fin 256) :
    out0_2 (iblk m c 0 t) (iblk m c 1 t) (ix2 a b) = mul (argA m c) (argW m c) (ix2 (row t a) b) := by
  unfold out0_2
  rw [View.canon_unit_zero origin, View.ld_unit_zero origin, View.ld_unit_zero origin, pay_apply]
  exact Finset.sum_congr rfl fun k _ => congrArg₂ (· * ·) (blk0 m c t a k) (blk1 m c t k b)

/-- The array the launch leaves. -/
theorem final : (dats m 0 c).arrAt 2 cfg0.N = mul (argA m c) (argW m c) := by
  refine (dats m 0 c).arrAt_eq_of_covers 2 _ (by decide +kernel) fun t hf y => ?_
  have e := (idx t).2.2
  blk_simp
  rw [after0_2]
  have ez : ((win0_2.blk t).view.emb y) = (ix2 (row t (y 0)) (y 1) : S8448x256.Idx) := by
    blk_ext [e, row]
  rw [ez]
  exact (congrArg _ (by blk_ext : y = (ix2 (y 0) (y 1) : S768x256.Idx))).trans (out_apply m c t (y 0) (y 1))

theorem reference_eq (a : Mat 8448 1024) (w : Mat 1024 256) :
    Host.dotGeneral (F := Ideal) (φ₁ := .f32) (φ₂ := .f32) Reference22Ideal.dot_S8448x1024_S1024x256_S8448x256_1_0_0_1_n_n none a w
      = mul a w := by
  funext i
  pointwise [mul]

/-- Both programs end with the product. -/
theorem algebraic : Cert.algebraic_Kernel22Ideal_Reference22Ideal (hKernel22Ideal := Kernel22Ideal.Gen.facts)
    (hReference22Ideal := Reference22Ideal.Gen.facts) := by
  intro m ρ m' ρ' _ hargs
  refine ⟨fun c => mul (argA m c) (argW m c), ?_, ?_⟩
  · exact (θ_run _ _ _).mono (fun r h c => ⟨(h c).1.trans (final m c), (h c).2⟩) (Kernel22Ideal.Value.run_blocks m ρ)
  · refine (θ_run _ _ _).mono (fun r h c => ⟨(h c).1.trans ?_, (h c).2⟩) (Reference22Ideal.Value.run m' ρ')
    rw [(hargs c).1, (hargs c).2]
    exact reference_eq _ _

/-- The two printed programs are the same text, so one run serves both. -/
theorem defs₀_eq : @Kernel22.defs₀ Bits _ _ = @Kernel22Ideal.defs₀ Bits _ _ :=
  congrArg Defs.onTc (funext fun l => funext fun x => match l, x with | 0, (_, _) => rfl)

theorem kernel_quiescent : Cert.quiescent_Kernel22 (hKernel22 := Kernel22.Gen.facts) := fun m ρ _ => by
  rw [show @Kernel22.defs Bits _ _ = @Kernel22Ideal.defs Bits _ _ from congrArg (Pipeline.defs _) defs₀_eq]
  exact Kernel22Ideal.Gen.frame (F := Bits) m ρ

/-- The reference leaves its arguments, and it has no counter to move. -/
theorem reference_quiescent : Cert.quiescent_Reference22Ideal (hReference22Ideal := Reference22Ideal.Gen.facts) :=
  fun m ρ _ => (θ_run _ _ _).mono (fun r h => ⟨fun c => (h c).2, sem_eq_zero_of_no_sems (by decide) r.2⟩)
    (Reference22Ideal.Value.run m ρ)

end Cert.Proof.ProjKv

end
-- ==== Proof.Products.ProjDwKv.lean ====
/- The gradient of the input projection's weight behind the key and value latent: the input transposed against the output's
   gradient, summed over eleven tiles of 768 rows into one block. -/
module

public import proofs.«01_k».proof.Defs
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Products.Common

@[expose] public section

set_option maxRecDepth 16256

noncomputable section

namespace Cert.Proof.ProjDwKv

open Cert.Kernel23Ideal Cert.Kernel23Ideal.Gen Cert.Proof.Products
open Idealize.ShloMosaic Idealize.ShloMosaic.TcCoe Idealize.ShloMosaic.Tactic Idealize.SL.Sem

/-- One step adds a tile's product. -/
theorem pay_apply (acc : Vec Ideal S1024x256 .f32) (x0 : Vec Ideal S768x1024 .bf16) (x1 : Vec Ideal S768x256 .bf16)
    (i : S1024x256.Idx) : k0_pay2 acc x0 x1 i = acc i + ∑ k : Fin 768, x0 (ix2 k (i 0)) * x1 (ix2 k (i 1)) := by
  pointwise [k0_pay2]

theorem zero_apply (i : S1024x256.Idx) : k0_pay1 (F := Ideal) i = 0 := by
  pointwise [k0_pay1]

/-- Where each window's block lies at each point. -/
theorem idx : ∀ t : Fin cfg0.N, win0_0.index t = ![t.val % 11, 0] ∧ win0_1.index t = ![t.val % 11, 0]
    ∧ win0_2.index t = ![0, 0] :=
  (by decide +kernel : ∀ t : Fin grid0.N, _)

variable (m : (ℓ : Loc nD τ sig) → Buf (Elt Ideal) ℓ) (c : Dev nD)

abbrev argA : Mat 8448 1024 := m (c, Proc.tc.devRef main_arg0)
abbrev argG : Mat 8448 256 := m (c, Proc.tc.devRef main_arg2)

/-- What point `n` adds. -/
def part (n : ℕ) (i : S1024x256.Idx) : EReal :=
  ∑ k : Fin 768, argA m c (ix2 (row n k) (i 0)) * argG m c (ix2 (row n k) (i 1))

theorem blk0 (t : Fin cfg0.N) (k : Fin 768) (a : Fin 1024) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 256) :
    iblk m c 1 t (ix2 k b) = argG m c (ix2 (row t k) b) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) b))
  blk_ext [iblk, e, row]

theorem step_apply (t : Fin cfg0.N) (acc : Vec Ideal S1024x256 .f32) (i : S1024x256.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S1024x256.Idx) :
    ∑ s ∈ Finset.range 11, part m c (11 * q + s) i = tMul (argA m c) (argG m c) (ix2 (i 0) (i 1)) := by
  refine Eq.trans (Finset.sum_congr rfl fun s _ => ?_)
    (sum_rows q fun k => argA m c (ix2 k (i 0)) * argG m c (ix2 k (i 1)))
  rfl

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (y 1) : S1024x256.Idx) := by
    blk_ext [e]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 1024) (g : Mat 8448 256) :
    transpose S1024x256 [1, 0] (Host.dotGeneral (F := Ideal) (φ₁ := .f32) (φ₂ := .f32) Reference23Ideal.dot_S8448x256_S8448x1024_S256x1024_0_0_1_1_n_n none g h)
      Reference23Ideal.Gen.transposes_S256x1024_S1024x256_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel23Ideal_Reference23Ideal (hKernel23Ideal := Kernel23Ideal.Gen.facts)
    (hReference23Ideal := Reference23Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel23Ideal.Value.run_blocks m ρ)
  · refine (θ_run _ _ _).mono (fun r h c => ⟨(h c).1.trans ?_, (h c).2⟩) (Reference23Ideal.Value.run m' ρ')
    rw [(hargs c).1, (hargs c).2.2]
    exact reference_eq _ _

/-- The two printed programs are the same text, so one run serves both. -/
theorem defs₀_eq : @Kernel23.defs₀ Bits _ _ = @Kernel23Ideal.defs₀ Bits _ _ :=
  congrArg Defs.onTc (funext fun l => funext fun x => match l, x with | 0, (_, _) => rfl)

theorem kernel_quiescent : Cert.quiescent_Kernel23 (hKernel23 := Kernel23.Gen.facts) := fun m ρ _ => by
  rw [show @Kernel23.defs Bits _ _ = @Kernel23Ideal.defs Bits _ _ from congrArg (Pipeline.defs _) defs₀_eq]
  exact Kernel23Ideal.Gen.frame (F := Bits) m ρ

/-- The reference leaves its arguments, and it has no counter to move. -/
theorem reference_quiescent : Cert.quiescent_Reference23Ideal (hReference23Ideal := Reference23Ideal.Gen.facts) :=
  fun m ρ _ => (θ_run _ _ _).mono (fun r h => ⟨fun c => (h c).2, sem_eq_zero_of_no_sems (by decide) r.2⟩)
    (Reference23Ideal.Value.run m ρ)

end Cert.Proof.ProjDwKv

end
-- ==== Proof.Products.Delta.lean ====
/- The gradient of the heads' outputs in the layout that the attention's gradient takes, and each row's sum of products of a head's
   output with its gradient: a head's 768 rows at each grid point. -/
module

public import proofs.«01_k».proof.Defs
public import proofs.«01_k».proof.Proof.Gen.Kernel24
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Products.Common

@[expose] public section

set_option maxRecDepth 16384

noncomputable section

namespace Cert.Proof.Delta

open Cert.Kernel24Ideal Cert.Kernel24Ideal.Gen Cert.Proof.Products
open Idealize.ShloMosaic Idealize.ShloMosaic.TcCoe Idealize.ShloMosaic.Tactic Idealize.SL.Sem

/-- The column that column `k` of head `h` is, and the row that row `a` of tile `q` is. -/
def col (h : Fin 8) (k : Fin 128) : Fin 1024 := ⟨h * 128 + k, by omega⟩
def tileRow (q : Fin 11) (a : Fin 768) : Fin 8448 := ⟨q * 768 + a, by omega⟩

/-- The heads one after the other. -/
def byHead (g : Mat 8448 1024) : Vec Ideal S8x8448x128 .bf16 := fun i => g (ix2 (i 1) (col (i 0) (i 2)))

/-- A row's sum over the columns of a head. -/
def rowSum (o g : Mat 8448 1024) : Vec Ideal S8x11x1x768 .f32 :=
  fun i => ∑ k : Fin 128, o (ix2 (tileRow (i 1) (i 3)) (col (i 0) k)) * g (ix2 (tileRow (i 1) (i 3)) (col (i 0) k))

theorem pay1_apply (x : Vec Ideal S768x128 .f32) (i : S1x768x128.Idx) : k0_pay1 x i = x (ix2 (i 1) (i 2)) := by
  pointwise [k0_pay1]

theorem pay2_apply (x y : Vec Ideal S768x128 .f32) (i : S1x1x1x768.Idx) :
    k0_pay2 y x i = ∑ k : Fin 128, x (ix2 (i 3) k) * y (ix2 (i 3) k) := by
  pointwise [k0_pay2]

/-- Where each window's block lies at each point. -/
theorem idx : ∀ t : Fin cfg0.N, win0_0.index t = ![t.val / 8 % 11, t.val % 8] ∧ win0_1.index t = ![t.val / 8 % 11, t.val % 8]
    ∧ win0_2.index t = ![t.val % 8, t.val / 8 % 11, 0] ∧ win0_3.index t = ![t.val % 8, t.val / 8 % 11, 0, 0] :=
  (by decide +kernel : ∀ t : Fin grid0.N, _)

variable (m : (ℓ : Loc nD τ sig) → Buf (Elt Ideal) ℓ) (c : Dev nD) (t : Fin cfg0.N)

abbrev argO : Mat 8448 1024 := m (c, Proc.tc.devRef main_arg0)
abbrev argG : Mat 8448 1024 := m (c, Proc.tc.devRef main_arg1)

/-- A point's head and tile. -/
def hOf : Fin 8 := ⟨t.val % 8, by omega⟩
def qOf : Fin 11 := ⟨t.val / 8 % 11, by omega⟩

theorem blk0 (a : Fin 768) (k : Fin 128) : iblk m c 0 t (ix2 a k) = argO m c (ix2 (tileRow (qOf t) a) (col (hOf t) k)) := by
  have e := (idx t).1
  blk_ext [iblk, e, tileRow, col, hOf, qOf]

theorem blk1 (a : Fin 768) (k : Fin 128) : iblk m c 1 t (ix2 a k) = argG m c (ix2 (tileRow (qOf t) a) (col (hOf t) k)) := by
  have e := (idx t).2.1
  blk_ext [iblk, e, tileRow, col, hOf, qOf]

theorem origin3 : (![0, 0, 0] : Fin 3 → ℕ) = fun _ => 0 := funext fun a => by fin_cases a <;> rfl
theorem origin4 : (![0, 0, 0, 0] : Fin 4 → ℕ) = fun _ => 0 := funext fun a => by fin_cases a <;> rfl

/-- The first array that the launch leaves. -/
theorem final2 : (dats m 0 c).arrAt 2 cfg0.N = byHead (argG m c) := by
  refine (dats m 0 c).arrAt_eq_of_covers 2 _ (by decide +kernel) fun t hf y => ?_
  have e := (idx t).2.2.1
  blk_simp
  rw [after0_2]
  have ez : ((win0_2.blk t).view.emb y) = (ix3 (hOf t) (tileRow (qOf t) (y 1)) (y 2) : S8x8448x128.Idx) := by
    blk_ext [e, tileRow, hOf, qOf]
  rw [ez]
  unfold out0_2
  rw [View.canon_unit_zero origin3, View.ld_unit_zero origin, pay1_apply]
  exact blk1 m c t (y 1) (y 2)

/-- The second. -/
theorem final3 : (dats m 0 c).arrAt 3 cfg0.N = rowSum (argO m c) (argG m c) := by
  refine (dats m 0 c).arrAt_eq_of_covers 3 _ (by decide +kernel) fun t hf y => ?_
  have e := (idx t).2.2.2
  blk_simp
  rw [after0_3]
  have ez : ((win0_3.blk t).view.emb y) = (ix4 (hOf t) (qOf t) (y 2) (y 3) : S8x11x1x768.Idx) := by
    blk_ext [e, hOf, qOf]
  rw [ez]
  unfold out0_3
  rw [View.canon_unit_zero origin4, View.ld_unit_zero origin, View.ld_unit_zero origin, pay2_apply]
  exact Fin.sum_fin_congr fun k => congrArg₂ (· * ·) (blk0 m c t (y 3) k) (blk1 m c t (y 3) k)

theorem reference2 (g : Mat 8448 1024) :
    truncf (F := Ideal) .bf16 (transpose S8x8448x128 [1, 0, 2] (shapeCast Reference24Ideal.S8448x8x128 g Reference24Ideal.Gen.shapeCasts_S8448x1024_S8448x8x128)
      Reference24Ideal.Gen.transposes_S8448x8x128_S8x8448x128_1_0_2) bitsLt_bf16_f32 = byHead g := by
  funext i
  pointwise [byHead, col]

theorem reference3 (o g : Mat 8448 1024) :
    shapeCast S8x11x1x768 (transpose Reference24Ideal.S8x8448 [1, 0]
      (Host.reduceAdd (shapeCast Reference24Ideal.S8448x8x128 (mulf (F := Ideal) (φ := .f32) o g) Reference24Ideal.Gen.shapeCasts_S8448x1024_S8448x8x128)
        (constant (F := Ideal) Reference24Ideal.S_ .f32 0x00000000#32) Reference24Ideal.Gen.reducesTo_S8448x8x128_S8448x8_d2 Reference24Ideal.Gen.h_S_)
      Reference24Ideal.Gen.transposes_S8448x8_S8x8448_1_0) Reference24Ideal.Gen.shapeCasts_S8x8448_S8x11x1x768 = rowSum o g := by
  funext i
  pointwise [rowSum, tileRow, col]

/-- Both programs end with the two arrays. -/
theorem algebraic : Cert.algebraic_Kernel24Ideal_Reference24Ideal (hKernel24Ideal := Kernel24Ideal.Gen.facts)
    (hReference24Ideal := Reference24Ideal.Gen.facts) := by
  intro m ρ m' ρ' _ hargs
  refine ⟨fun c => byHead (argG m c), fun c => rowSum (argO m c) (argG m c), ?_, ?_⟩
  · exact (θ_run _ _ _).mono (fun r h c => ⟨(h c).1.trans (final2 m c), (h c).2.1.trans (final3 m c), (h c).2.2⟩) (Kernel24Ideal.Value.run_blocks m ρ)
  · refine (θ_run _ _ _).mono (fun r h c => ⟨(h c).1.trans ?_, (h c).2.1.trans ?_, (h c).2.2⟩) (Reference24Ideal.Value.run m' ρ')
    · rw [(hargs c).2]
      exact reference2 _
    · rw [(hargs c).1, (hargs c).2]
      exact reference3 _ _

/-- The two printed programs are the same text, so one run serves both. -/
theorem defs₀_eq : @Kernel24.defs₀ Bits _ _ = @Kernel24Ideal.defs₀ Bits _ _ :=
  congrArg Defs.onTc (funext fun l => funext fun x => match l, x with | 0, (_, _) => rfl)

theorem kernel_quiescent : Cert.quiescent_Kernel24 (hKernel24 := Kernel24.Gen.facts) := fun m ρ _ => by
  rw [show @Kernel24.defs Bits _ _ = @Kernel24Ideal.defs Bits _ _ from congrArg (Pipeline.defs _) defs₀_eq]
  exact Kernel24Ideal.Gen.frame (F := Bits) m ρ

/-- The reference leaves its arguments, and it has no counter to move. -/
theorem reference_quiescent : Cert.quiescent_Reference24Ideal (hReference24Ideal := Reference24Ideal.Gen.facts) :=
  fun m ρ _ => (θ_run _ _ _).mono (fun r h => ⟨fun c => (h c).2.2, sem_eq_zero_of_no_sems (by decide) r.2⟩)
    (Reference24Ideal.Value.run m ρ)

end Cert.Proof.Delta

end
-- ==== Proof.Products.Rope.lean ====
/- The rotation of a head's 64 rotated columns, which the calls take in 128 columns: tables filled up with zeros, and each column's
   partner 32 columns away. -/
module

public import proofs.«01_k».proof.Proof.Products.Common

@[expose] public section

noncomputable section

namespace Cert.Proof.Products

open Idealize.ShloMosaic

/-- The tables of one position in 128 columns: the cosines twice; the sines, first negated; then zeros. -/
def tabC (c : Fin 32 → EReal) (k : Fin 128) : EReal :=
  if h : k.val < 32 then c ⟨k, h⟩ else if h : k.val - 32 < 32 then c ⟨k - 32, h⟩ else 0
def tabS (s : Fin 32 → EReal) (k : Fin 128) : EReal :=
  if h : k.val < 32 then -s ⟨k, h⟩ else if h : k.val - 32 < 32 then s ⟨k - 32, h⟩ else 0

/-- The rotated columns `x₁ c - x₂ s` and `x₁ s + x₂ c` of the two halves of `x`, then zeros. -/
def rot (x : Fin 64 → EReal) (c s : Fin 32 → EReal) (k : Fin 128) : EReal :=
  if h : k.val < 32 then x ⟨k, by omega⟩ * c ⟨k, h⟩ - x ⟨k + 32, by omega⟩ * s ⟨k, h⟩
  else if h : k.val - 32 < 32 then x ⟨k - 32, by omega⟩ * s ⟨k - 32, h⟩ + x ⟨k, by omega⟩ * c ⟨k - 32, h⟩ else 0

theorem rot_zero (x : Fin 64 → EReal) (c s : Fin 32 → EReal) {k : Fin 128} (h : ¬ k.val < 64) : rot x c s k = 0 := by
  rw [rot, dif_neg (by omega), dif_neg (by omega)]

/-- A column times its cosine plus its partner times its sine is the rotated column, whatever lies behind the 64 columns. -/
theorem rot_eq {X : Fin 128 → EReal} {x : Fin 64 → EReal} (hX : ∀ (k : Fin 128) (h : k.val < 64), X k = x ⟨k, h⟩) (c s : Fin 32 → EReal)
    {k p : Fin 128} (hp : p.val = if k.val < 32 then (k.val + 32) % 128 else (k.val + 96) % 128) :
    X k * tabC c k + X p * tabS s k = rot x c s k := by
  unfold tabC tabS rot
  split_ifs with h1 h2
  · rw [if_pos h1] at hp
    rw [hX k (by omega), hX p (by omega), mul_neg, ← sub_eq_add_neg]
    exact congrArg (fun j => _ - x j * _) (Fin.ext (show p.val = k.val + 32 by omega))
  · rw [if_neg h1] at hp
    rw [hX k (by omega), hX p (by omega), add_comm]
    exact congrArg (fun j => x j * _ + _) (Fin.ext (show p.val = k.val - 32 by omega))
  · rw [mul_zero, mul_zero, add_zero]

/-- A choice by `k < 32` made on words. -/
theorem select_lt (k : Fin 128) (a b : EReal) :
    Scalar.select (IntOp.cmpi .slt (BitVec.ofNat 32 k.val) 32#32) a b = if k.val < 32 then a else b := by
  have h : ∀ k : Fin 128, IntOp.cmpi .slt (BitVec.ofNat 32 k.val) 32#32 = if k.val < 32 then 1#1 else 0#1 := by decide +kernel
  rw [h]
  split_ifs <;> rfl

/-- The partner read out of two turns of the 128 columns: back by 32 for the first 32 columns, on by 32 for the others. -/
theorem turned {X : Fin 128 → EReal} {x : Fin 64 → EReal} (hX : ∀ (k : Fin 128) (h : k.val < 64), X k = x ⟨k, h⟩) {c s : Fin 32 → EReal}
    {k : Fin 128} {C S : EReal} (hC : C = tabC c k) (hS : S = tabS s k) :
    X k * C + Scalar.select (IntOp.cmpi .slt (BitVec.ofNat 32 k.val) 32#32) (X ⟨(k.val + 128 - 96) % 128, by omega⟩)
      (X ⟨(k.val + 128 - 32) % 128, by omega⟩) * S = rot x c s k := by
  rw [hC, hS, select_lt]
  split_ifs with h
  · exact rot_eq hX c s (by rw [if_pos h]; show (k.val + 128 - 96) % 128 = _; omega)
  · exact rot_eq hX c s (by rw [if_neg h]; show (k.val + 128 - 32) % 128 = _; omega)

/-- Eight heads one after the other: in each row 128 columns that stay, the rotated ones, then zeros. -/
def heads (z : Fin 8448 → Fin 8 → Fin 128 → EReal) (x : Fin 8448 → Fin 8 → Fin 64 → EReal) (c s : Mat 8448 32) :
    Vec Ideal ⟨3, ![8, 8448, 256]⟩ .bf16 := fun i =>
  if h : (i 2).val < 128 then z (i 1) (i 0) ⟨(i 2).val, h⟩
  else rot (x (i 1) (i 0)) (fun j => c (ix2 (i 1) j)) (fun j => s (ix2 (i 1) j)) ⟨(i 2).val - 128, by have : (i 2).val < 256 := (i 2).isLt; omega⟩

variable {z : Fin 8448 → Fin 8 → Fin 128 → EReal} {x : Fin 8448 → Fin 8 → Fin 64 → EReal} {c s : Mat 8448 32} (h : Fin 8) (r : Fin 8448) (k : Fin 128)

theorem heads_lo (hk : k.val < 256) : heads z x c s (ix3 h r ⟨k, hk⟩) = z r h k := dif_pos k.isLt

theorem heads_hi (hk : 128 + k.val < 256) : heads z x c s (ix3 h r ⟨128 + k, hk⟩)
    = rot (x r h) (fun j => c (ix2 r j)) (fun j => s (ix2 r j)) k :=
  (dif_neg (show ¬ 128 + k.val < 128 by omega)).trans (congrArg _ (Fin.ext (Nat.add_sub_cancel_left 128 k.val)))

end Cert.Proof.Products

end
-- ==== Proof.Products.UpQRope.lean ====
/- A head's queries: the query latent against the head's 192 columns of the weight, scaled, the last 64 columns rotated by the
   position; filled up to 256 columns with zeros. A head's 768 rows at each grid point. -/
module

public import proofs.«01_k».proof.Defs
public import proofs.«01_k».proof.Proof.Gen.Kernel25
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Products.Rope

@[expose] public section

set_option maxRecDepth 16384

noncomputable section

namespace Cert.Proof.UpQRope

open Cert.Proof.Products
open Idealize.ShloMosaic Idealize.ShloMosaic.TcCoe Idealize.ShloMosaic.Tactic Idealize.SL.Sem

/-- Column `j` of head `h` in row `r`, before the rotation; the factor is the constant of both programs. -/
def q (a : Mat 8448 384) (w : Vec Ideal Kernel25Ideal.S384x8x192 .f32) (r : Fin 8448) (h : Fin 8) (j : Fin 192) : EReal :=
  (∑ k : Fin 384, a (ix2 r k) * w (ix3 k h j)) * Ideal.ofBits .f32 0x3DD53B95#32

/-- The columns that stay and the rotated ones, then zeros. -/
def upQ (z : Fin 8448 → Fin 8 → Fin 192 → EReal) (c s : Mat 8448 32) : Vec Ideal Kernel25Ideal.S8x8448x256 .bf16 :=
  heads (fun r h j => z r h ⟨j, by omega⟩) (fun r h j => z r h ⟨128 + j, by omega⟩) c s

/-! The reference: its rotation of the heads' last columns, and its layout of the result. -/

section

open Cert.Reference25Ideal Cert.Reference25Ideal.Gen

def refRope (x : Vec Ideal S8448x8x64 .f32) (c s : Mat 8448 32) : Vec Ideal S8448x8x64 .f32 :=
  let x1 := extractStridedSlice S8448x8x32 ![0, 0, 0] x slices_S8448x8x64_S8448x8x32_0_0_0
  let x2 := extractStridedSlice S8448x8x32 ![0, 0, 32] x slices_S8448x8x64_S8448x8x32_0_0_32
  let each := fun u : Mat 8448 32 => broadcastInDim S8448x8x32 ![0, 1, 2] bcast_S8448x1x32_S8448x8x32_0_1_2
    (broadcastInDim S8448x1x32 ![0, 2] bcast_S8448x32_S8448x1x32_0_2 u)
  concatenate S8448x8x64 2 [⟨S8448x8x32, subf (F := Ideal) (φ := .f32) (mulf (F := Ideal) (φ := .f32) x1 (each c)) (mulf (F := Ideal) (φ := .f32) x2 (each s))⟩,
    ⟨S8448x8x32, addf (F := Ideal) (φ := .f32) (mulf (F := Ideal) (φ := .f32) x1 (each s)) (mulf (F := Ideal) (φ := .f32) x2 (each c))⟩]
    concatenates_S8448x8x32_S8448x8x32_S8448x8x64_d2

def refOut (z : Vec Ideal S8448x8x192 .f32) (c s : Mat 8448 32) : Vec Ideal S8x8448x256 .bf16 :=
  truncf (F := Ideal) (φ := .f32) .bf16 (transpose S8x8448x256 [1, 0, 2] (concatenate S8448x8x256 2
    [⟨S8448x8x128, extractStridedSlice S8448x8x128 ![0, 0, 0] z slices_S8448x8x192_S8448x8x128_0_0_0⟩,
     ⟨S8448x8x64, refRope (extractStridedSlice S8448x8x64 ![0, 0, 128] z slices_S8448x8x192_S8448x8x64_0_0_128) c s⟩,
     ⟨S8448x8x64, broadcastInDim S8448x8x64 ![] bcast_S_S8448x8x64 (constant (F := Ideal) S_ .f32 0x00000000#32)⟩]
    concatenates_S8448x8x128_S8448x8x64_S8448x8x64_S8448x8x256_d2) transposes_S8448x8x256_S8x8448x256_1_0_2) bitsLt_bf16_f32

theorem refRope_apply (x : Vec Ideal S8448x8x64 .f32) (c s : Mat 8448 32) (i : S8448x8x64.Idx) :
    refRope x c s i = rot (fun j => x (ix3 (i 0) (i 1) j)) (fun j => c (ix2 (i 0) j)) (fun j => s (ix2 (i 0) j))
      ⟨(i 2).val, by have : (i 2).val < 64 := (i 2).isLt; omega⟩ := by
  have hi : (i 2).val < 64 := (i 2).isLt
  pointwise [refRope, rot]
  by_cases h1 : (i 2).val < 32
  · rw [dif_pos h1, dif_pos h1]
    exact congrArg (fun j => _ - x (ix3 (i 0) (i 1) j) * _) (Fin.ext (Nat.add_comm _ _))
  · rw [dif_neg h1, dif_neg h1, dif_pos (show (i 2).val - 32 < 32 by omega)]
    refine congrArg (fun j => _ + x j * _) ?_
    blk_ext

theorem refOut_eq (z : Vec Ideal S8448x8x192 .f32) (c s : Mat 8448 32) :
    refOut z c s = upQ (fun r h j => z (ix3 r h j)) c s := by
  funext i
  pointwise [refOut, upQ, heads, refRope_apply]
  by_cases h1 : (i 2).val < 128
  · rw [dif_pos h1, dif_pos h1]
  · rw [dif_neg h1, dif_neg h1]
    by_cases h2 : (i 2).val - 128 < 64
    · rw [dif_pos h2]
    · rw [dif_neg h2]
      exact (rot_zero _ _ _ h2).symm

theorem refQ (a : Mat 8448 384) (w : Vec Ideal S384x8x192 .f32) (i : S8448x8x192.Idx) :
    mulf (F := Ideal) (φ := .f32) (Host.dotGeneral (F := Ideal) (φ₁ := .f32) (φ₂ := .f32) dot_S8448x384_S384x8x192_S8448x8x192_1_0_0_12_n_n none a w)
      (broadcastInDim S8448x8x192 ![] bcast_S_S8448x8x192 (constant (F := Ideal) S_ .f32 0x3DD53B95#32)) i = q a w (i 0) (i 1) (i 2) := by
  pointwise [q]

theorem reference_eq (a : Mat 8448 384) (w : Vec Ideal S384x8x192 .f32) (c s : Mat 8448 32) :
    refOut (mulf (F := Ideal) (φ := .f32) (Host.dotGeneral (F := Ideal) (φ₁ := .f32) (φ₂ := .f32) dot_S8448x384_S384x8x192_S8448x8x192_1_0_0_12_n_n none a w)
      (broadcastInDim S8448x8x192 ![] bcast_S_S8448x8x192 (constant (F := Ideal) S_ .f32 0x3DD53B95#32))) c s = upQ (q a w) c s :=
  (refOut_eq _ c s).trans (congrArg (upQ · c s) (funext fun r => funext fun h => funext fun j => refQ a w (ix3 r h j)))

end

open Cert.Kernel25Ideal Cert.Kernel25Ideal.Gen

theorem pay1_apply (x : Vec Ideal S768x384 .bf16) (w : Vec Ideal S384x256 .bf16) (i : S768x256.Idx) :
    k0_pay1 x w i = (∑ k : Fin 384, x (ix2 (i 0) k) * w (ix2 k (i 1))) * Ideal.ofBits .f32 0x3DD53B95#32 := by
  pointwise [k0_pay1]

theorem pay2_apply (x : Vec Ideal S768x384 .bf16) (w : Vec Ideal S384x256 .bf16) (i : S1x768x128.Idx) :
    k0_pay2 x w i = k0_pay1 x w (ix2 (i 1) ⟨(i 2).val, by have : (i 2).val < 128 := (i 2).isLt; omega⟩) := by
  pointwise [k0_pay2]

/-- Where each window's block lies at each point. -/
theorem idx : ∀ t : Fin cfg0.N, win0_0.index t = ![t.val / 8 % 11, 0] ∧ win0_1.index t = ![0, t.val % 8]
    ∧ win0_2.index t = ![t.val / 8 % 11, 0] ∧ win0_3.index t = ![t.val / 8 % 11, 0] ∧ win0_4.index t = ![t.val % 8, t.val / 8 % 11, 0] :=
  (by decide +kernel : ∀ t : Fin grid0.N, _)

variable (m : (ℓ : Loc nD τ sig) → Buf (Elt Ideal) ℓ) (c : Dev nD) (t : Fin cfg0.N)

abbrev argA : Mat 8448 384 := m (c, Proc.tc.devRef main_arg0)
abbrev argW : Vec Ideal S384x8x192 .f32 := m (c, Proc.tc.devRef main_arg1)
abbrev argC : Mat 8448 32 := m (c, Proc.tc.devRef main_arg2)
abbrev argS : Mat 8448 32 := m (c, Proc.tc.devRef main_arg3)

/-- A point's head. -/
def hOf : Fin 8 := ⟨t.val % 8, by omega⟩

/-! The tables that the call is handed. -/

theorem V5 (i : Fin 8448) (k : Fin 128) : V m c main_v5 (ix2 i k) = tabC (fun j => argC m c (ix2 i j)) k := by
  have : V m c main_v5 = concatenate S8448x128 1 [⟨S8448x32, argC m c⟩, ⟨S8448x32, argC m c⟩,
      ⟨S8448x64, broadcastInDim S8448x64 ![] bcast_S_S8448x64 (constant (F := Ideal) S_ .f32 0x00000000#32)⟩]
      concatenates_S8448x32_S8448x32_S8448x64_S8448x128_d1 := by
    dsimp only [V, hostOps0, List.flatten, List.append]
    after_results <;> rfl
  rw [this]
  pointwise [tabC]

theorem V7 (i : Fin 8448) (k : Fin 128) : V m c main_v7 (ix2 i k) = tabS (fun j => argS m c (ix2 i j)) k := by
  have : V m c main_v7 = concatenate S8448x128 1 [⟨S8448x32, Host.negf (F := Ideal) (φ := .f32) (argS m c)⟩, ⟨S8448x32, argS m c⟩,
      ⟨S8448x64, broadcastInDim S8448x64 ![] bcast_S_S8448x64 (constant (F := Ideal) S_ .f32 0x00000000#32)⟩]
      concatenates_S8448x32_S8448x32_S8448x64_S8448x128_d1 := by
    dsimp only [V, hostOps0, List.flatten, List.append]
    after_results <;> rfl
  rw [this]
  pointwise [tabS]

/-- The weight's heads side by side: zeros after the 192 columns of each. -/
theorem V3 (i : Fin 384) (s : Fin 8) (k : Fin 256) :
    V m c main_v3 (ix2 i (lane s k)) = if h : k.val < 192 then argW m c (ix3 i s ⟨k, h⟩) else 0 := by
  have : V m c main_v3 = shapeCast S384x2048 (pad S384x8x256 ![0, 0, 0] ![0, 0, 64] ![0, 0, 0] (truncf (F := Ideal) .bf16 (argW m c) bitsLt_bf16_f32)
      (constant (F := Ideal) S_ .bf16 0x0000#16) pads_S384x8x192_S384x8x256_000_000_0640 h_S_) shapeCasts_S384x8x256_S384x2048 := by
    dsimp only [V, hostOps0, List.flatten, List.append]
    after_results <;> rfl
  rw [this]
  pointwise [lane]

theorem blk0 (a : Fin 768) (k : Fin 384) : iblk m c 0 t (ix2 a k) = argA m c (ix2 (row (t / 8) a) k) := by
  have e := (idx t).1
  have h : V m c main_v0 = truncf (F := Ideal) .bf16 (argA m c) bitsLt_bf16_f32 := by
    dsimp only [V, hostOps0, List.flatten, List.append]
    after_results <;> rfl
  refine Eq.trans ?_ (congrFun h (ix2 (row (t / 8) a) k))
  blk_ext [iblk, e, row]

theorem blk1 (i : Fin 384) (k : Fin 256) : iblk m c 1 t (ix2 i k) = V m c main_v3 (ix2 i (lane (hOf t) k)) := by
  have e := (idx t).2.1
  blk_ext [iblk, e, lane, hOf]

theorem blk2 (a : Fin 768) (k : Fin 128) : iblk m c 2 t (ix2 a k) = V m c main_v5 (ix2 (row (t / 8) a) k) := by
  have e := (idx t).2.2.1
  blk_ext [iblk, e, row]

theorem blk3 (a : Fin 768) (k : Fin 128) : iblk m c 3 t (ix2 a k) = V m c main_v7 (ix2 (row (t / 8) a) k) := by
  have e := (idx t).2.2.2.1
  blk_ext [iblk, e, row]

/-- The scaled product at a point is the head's. -/
theorem q_blk (a : Fin 768) (k : Fin 256) (h : k.val < 192) :
    k0_pay1 (iblk m c 0 t) (iblk m c 1 t) (ix2 a k) = q (argA m c) (argW m c) (row (t / 8) a) (hOf t) ⟨k, h⟩ := by
  rw [pay1_apply]
  exact congrArg (· * _) (plain (blk0 m c t a) fun i => (blk1 m c t i k).trans ((V3 m c i _ k).trans (dif_pos h)))

theorem pay3_blk (i : S1x768x128.Idx) : k0_pay3 (iblk m c 0 t) (iblk m c 1 t) (iblk m c 2 t) (iblk m c 3 t) i
    = rot (fun j => q (argA m c) (argW m c) (row (t / 8) (i 1)) (hOf t) ⟨128 + j, by omega⟩)
        (fun j => argC m c (ix2 (row (t / 8) (i 1)) j)) (fun j => argS m c (ix2 (row (t / 8) (i 1)) j)) (i 2) := by
  refine Eq.trans ?_ (turned (X := fun k => k0_pay1 (iblk m c 0 t) (iblk m c 1 t) (ix2 (i 1) ⟨128 + k, by omega⟩))
    (fun k h => q_blk m c t (i 1) _ (show 128 + k.val < 192 by omega)) ((blk2 m c t (i 1) (i 2)).trans (V5 m c _ _))
    ((blk3 m c t (i 1) (i 2)).trans (V7 m c _ _)))
  pointwise [k0_pay3]

theorem origin3 : (![0, 0, 0] : Fin 3 → ℕ) = fun _ => 0 := funext fun a => by fin_cases a <;> rfl

/-- The part of the result that is a point's. -/
def part : Vec Ideal S1x768x256 .bf16 := fun y => upQ (q (argA m c) (argW m c)) (argC m c) (argS m c) (ix3 (hOf t) (row (t / 8) (y 1)) (y 2))

/-- What a point leaves: each of its two stores writes its part of the head's rows. -/
theorem out_apply (y : S1x768x256.Idx) : out0_4 (iblk m c 0 t) (iblk m c 1 t) (iblk m c 2 t) (iblk m c 3 t) y = part m c t y := by
  unfold out0_4
  refine View.canon_apply_of_pieces (part m c t) _ (fun pc hpc => ?_) y (cover0_4 _ _ y)
  rw [View.ld_unit_zero origin, View.ld_unit_zero origin, View.ld_unit_zero origin, View.ld_unit_zero origin] at hpc
  rcases List.mem_cons.mp hpc with rfl | hpc
  · intro x
    have hx : (r0_4.emb x : S1x768x256.Idx) = ix3 (x 0) (x 1) ⟨128 + (x 2).val, by have : (x 2).val < 128 := (x 2).isLt; omega⟩ := by
      blk_ext
    exact ((pay3_blk m c t x).trans (heads_hi (z := fun r h j => q (argA m c) (argW m c) r h ⟨j, by omega⟩)
      (x := fun r h j => q (argA m c) (argW m c) r h ⟨128 + j, by omega⟩) (c := argC m c) (s := argS m c)
      (hOf t) (row (t / 8) (x 1)) (x 2) (by omega)).symm).trans (congrArg (part m c t) hx.symm)
  rcases List.mem_cons.mp hpc with rfl | hpc
  · intro x
    have hx : (r0_2.emb x : S1x768x256.Idx) = ix3 (x 0) (x 1) ⟨(x 2).val, by have : (x 2).val < 128 := (x 2).isLt; omega⟩ := by
      blk_ext
    have h : (x 2).val < 128 := (x 2).isLt
    refine ((pay2_apply _ _ x).trans ((q_blk m c t (x 1) _ (show (x 2).val < 192 by omega)).trans ?_)).trans (congrArg (part m c t) hx.symm)
    exact (heads_lo (z := fun r h j => q (argA m c) (argW m c) r h ⟨j, by omega⟩)
      (x := fun r h j => q (argA m c) (argW m c) r h ⟨128 + j, by omega⟩) (c := argC m c) (s := argS m c) (hOf t) (row (t / 8) (x 1)) (⟨(x 2).val, h⟩ : Fin 128) (show (x 2).val < 256 by omega)).symm
  nomatch hpc

/-- The array the launch leaves. -/
theorem final : (dats m 0 c).arrAt 4 cfg0.N = upQ (q (argA m c) (argW m c)) (argC m c) (argS m c) := by
  refine (dats m 0 c).arrAt_eq_of_covers 4 _ (by decide +kernel) fun t hf y => ?_
  have e := (idx t).2.2.2.2
  blk_simp
  rw [after0_4]
  have ez : ((win0_4.blk t).view.emb y) = (ix3 (hOf t) (row (t / 8) (y 1)) (y 2) : S8x8448x256.Idx) := by
    blk_ext [e, row, hOf]
  rw [ez]
  exact out_apply m c t y

/-- Both programs end with the heads' queries. -/
theorem algebraic : Cert.algebraic_Kernel25Ideal_Reference25Ideal (hKernel25Ideal := Kernel25Ideal.Gen.facts)
    (hReference25Ideal := Reference25Ideal.Gen.facts) := by
  intro m ρ m' ρ' _ hargs
  refine ⟨fun c => upQ (q (argA m c) (argW m c)) (argC m c) (argS m c), ?_, ?_⟩
  · exact (θ_run _ _ _).mono (fun r h c => ⟨(h c).1.trans (final m c), (h c).2⟩) (Kernel25Ideal.Value.run_blocks m ρ)
  · refine (θ_run _ _ _).mono (fun r h c => ⟨(h c).1.trans ?_, (h c).2⟩) (Reference25Ideal.Value.run m' ρ')
    rw [(hargs c).1, (hargs c).2.1, (hargs c).2.2.1, (hargs c).2.2.2]
    exact reference_eq _ _ _ _

/-- The two printed programs are the same text, so one run serves both. -/
theorem defs₀_eq : @Kernel25.defs₀ Bits _ _ = @Kernel25Ideal.defs₀ Bits _ _ :=
  congrArg Defs.onTc (funext fun l => funext fun x => match l, x with | 0, (_, _) => rfl)

theorem kernel_quiescent : Cert.quiescent_Kernel25 (hKernel25 := Kernel25.Gen.facts) := fun m ρ _ => by
  rw [show @Kernel25.defs Bits _ _ = @Kernel25Ideal.defs Bits _ _ from congrArg (Pipeline.defs _) defs₀_eq]
  exact Kernel25Ideal.Gen.frame (F := Bits) m ρ

/-- The reference leaves its arguments, and it has no counter to move. -/
theorem reference_quiescent : Cert.quiescent_Reference25Ideal (hReference25Ideal := Reference25Ideal.Gen.facts) :=
  fun m ρ _ => (θ_run _ _ _).mono (fun r h => ⟨fun c => (h c).2, sem_eq_zero_of_no_sems (by decide) r.2⟩)
    (Reference25Ideal.Value.run m ρ)

end Cert.Proof.UpQRope

end
-- ==== Proof.Products.UpKvRope.lean ====
/- A head's keys and values: the key-value latent against the head's 256 columns of the weight, the first 128 the keys', the others the
   values'; behind a head's keys the 64 columns that all heads share, rotated by the position, and zeros up to 256 columns. A head's
   768 rows at each grid point. -/
module

public import proofs.«01_k».proof.Defs
public import proofs.«01_k».proof.Proof.Gen.Kernel26
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Products.Rope

@[expose] public section

set_option maxRecDepth 16384

noncomputable section

namespace Cert.Proof.UpKvRope

open Cert.Proof.Products
open Idealize.ShloMosaic Idealize.ShloMosaic.TcCoe Idealize.ShloMosaic.Tactic Idealize.SL.Sem

/-- Column `j` of head `h` in row `r` of the product. -/
def kv (a : Mat 8448 256) (w : Vec Ideal Kernel26Ideal.S256x8x256 .f32) (r : Fin 8448) (h : Fin 8) (j : Fin 256) : EReal :=
  ∑ k : Fin 256, a (ix2 r k) * w (ix3 k h j)

/-- The keys, and the values. -/
def keys (z : Fin 8448 → Fin 8 → Fin 256 → EReal) (p : Mat 8448 64) (c s : Mat 8448 32) : Vec Ideal Kernel26Ideal.S8x8448x256 .bf16 :=
  heads (fun r h j => z r h ⟨j, by omega⟩) (fun r _ j => p (ix2 r j)) c s
def values (z : Fin 8448 → Fin 8 → Fin 256 → EReal) : Vec Ideal Kernel26Ideal.S8x8448x128 .bf16 :=
  fun i => z (i 1) (i 0) ⟨128 + (i 2).val, by have : (i 2).val < 128 := (i 2).isLt; omega⟩

/-! The reference: its rotation of the shared columns, and its layout of the keys and of the values. -/

section

open Cert.Reference26Ideal Cert.Reference26Ideal.Gen

def refRope (x : Mat 8448 64) (c s : Mat 8448 32) : Mat 8448 64 :=
  let x1 := extractStridedSlice S8448x32 ![0, 0] x slices_S8448x64_S8448x32_0_0
  let x2 := extractStridedSlice S8448x32 ![0, 32] x slices_S8448x64_S8448x32_0_32
  concatenate S8448x64 1 [⟨S8448x32, subf (F := Ideal) (φ := .f32) (mulf (F := Ideal) (φ := .f32) x1 c) (mulf (F := Ideal) (φ := .f32) x2 s)⟩,
    ⟨S8448x32, addf (F := Ideal) (φ := .f32) (mulf (F := Ideal) (φ := .f32) x1 s) (mulf (F := Ideal) (φ := .f32) x2 c)⟩]
    concatenates_S8448x32_S8448x32_S8448x64_d1

def refKeys (z : Vec Ideal S8448x8x256 .f32) (p : Mat 8448 64) (c s : Mat 8448 32) : Vec Ideal S8x8448x256 .bf16 :=
  truncf (F := Ideal) (φ := .f32) .bf16 (transpose S8x8448x256 [1, 0, 2] (concatenate S8448x8x256 2
    [⟨S8448x8x128, extractStridedSlice S8448x8x128 ![0, 0, 0] z slices_S8448x8x256_S8448x8x128_0_0_0⟩,
     ⟨S8448x8x64, broadcastInDim S8448x8x64 ![0, 1, 2] bcast_S8448x1x64_S8448x8x64_0_1_2
       (broadcastInDim S8448x1x64 ![0, 2] bcast_S8448x64_S8448x1x64_0_2 (refRope p c s))⟩,
     ⟨S8448x8x64, broadcastInDim S8448x8x64 ![] bcast_S_S8448x8x64 (constant (F := Ideal) S_ .f32 0x00000000#32)⟩]
    concatenates_S8448x8x128_S8448x8x64_S8448x8x64_S8448x8x256_d2) transposes_S8448x8x256_S8x8448x256_1_0_2) bitsLt_bf16_f32

theorem refRope_apply (x : Mat 8448 64) (c s : Mat 8448 32) (i : S8448x64.Idx) :
    refRope x c s i = rot (fun j => x (ix2 (i 0) j)) (fun j => c (ix2 (i 0) j)) (fun j => s (ix2 (i 0) j))
      ⟨(i 1).val, by have : (i 1).val < 64 := (i 1).isLt; omega⟩ := by
  have hi : (i 1).val < 64 := (i 1).isLt
  pointwise [refRope, rot]
  by_cases h1 : (i 1).val < 32
  · rw [dif_pos h1, dif_pos h1]
    exact congrArg (fun j => _ - x (ix2 (i 0) j) * _) (Fin.ext (Nat.add_comm _ _))
  · rw [dif_neg h1, dif_neg h1, dif_pos (show (i 1).val - 32 < 32 by omega)]
    refine congrArg (fun j => _ + x j * _) ?_
    blk_ext

theorem refKeys_eq (z : Vec Ideal S8448x8x256 .f32) (p : Mat 8448 64) (c s : Mat 8448 32) :
    refKeys z p c s = keys (fun r h j => z (ix3 r h j)) p c s := by
  funext i
  pointwise [refKeys, keys, heads, refRope_apply]
  by_cases h1 : (i 2).val < 128
  · rw [dif_pos h1, dif_pos h1]
  · rw [dif_neg h1, dif_neg h1]
    by_cases h2 : (i 2).val - 128 < 64
    · rw [dif_pos h2]
    · rw [dif_neg h2]
      exact (rot_zero _ _ _ h2).symm

theorem refKv (a : Mat 8448 256) (w : Vec Ideal S256x8x256 .f32) (i : S8448x8x256.Idx) :
    Host.dotGeneral (F := Ideal) (φ₁ := .f32) (φ₂ := .f32) dot_S8448x256_S256x8x256_S8448x8x256_1_0_0_12_n_n none a w i = kv a w (i 0) (i 1) (i 2) := by
  pointwise [kv]

theorem reference_keys (a : Mat 8448 256) (w : Vec Ideal S256x8x256 .f32) (p : Mat 8448 64) (c s : Mat 8448 32) :
    refKeys (Host.dotGeneral (F := Ideal) (φ₁ := .f32) (φ₂ := .f32) dot_S8448x256_S256x8x256_S8448x8x256_1_0_0_12_n_n none a w) p c s
      = keys (kv a w) p c s :=
  (refKeys_eq _ p c s).trans (congrArg (keys · p c s) (funext fun r => funext fun h => funext fun j => refKv a w (ix3 r h j)))

theorem reference_values (a : Mat 8448 256) (w : Vec Ideal S256x8x256 .f32) :
    truncf (F := Ideal) (φ := .f32) .bf16 (transpose S8x8448x128 [1, 0, 2] (extractStridedSlice S8448x8x128 ![0, 0, 128]
      (Host.dotGeneral (F := Ideal) (φ₁ := .f32) (φ₂ := .f32) dot_S8448x256_S256x8x256_S8448x8x256_1_0_0_12_n_n none a w)
      slices_S8448x8x256_S8448x8x128_0_0_128) transposes_S8448x8x128_S8x8448x128_1_0_2) bitsLt_bf16_f32 = values (kv a w) := by
  funext i
  pointwise [values, kv]

end

open Cert.Kernel26Ideal Cert.Kernel26Ideal.Gen

theorem pay2_apply (x : Vec Ideal S768x256 .bf16) (w : Vec Ideal S256x256 .bf16) (i : S768x256.Idx) :
    k0_pay2 x w i = ∑ k : Fin 256, x (ix2 (i 0) k) * w (ix2 k (i 1)) := by
  pointwise [k0_pay2]

theorem pay3_apply (x : Vec Ideal S768x256 .bf16) (w : Vec Ideal S256x256 .bf16) (i : S1x768x128.Idx) :
    k0_pay3 x w i = k0_pay2 x w (ix2 (i 1) ⟨(i 2).val, by have : (i 2).val < 128 := (i 2).isLt; omega⟩) := by
  pointwise [k0_pay3]

theorem pay1_apply (x : Vec Ideal S768x256 .bf16) (w : Vec Ideal S256x256 .bf16) (i : S1x768x128.Idx) :
    k0_pay1 (k0_pay5 x w) i = k0_pay2 x w (ix2 (i 1) ⟨128 + (i 2).val, by have : (i 2).val < 128 := (i 2).isLt; omega⟩) := by
  pointwise [k0_pay1, k0_pay5]

/-- Where each window's block lies at each point. -/
theorem idx : ∀ t : Fin cfg0.N, win0_0.index t = ![t.val / 8 % 11, 0] ∧ win0_1.index t = ![0, t.val % 8]
    ∧ win0_2.index t = ![t.val / 8 % 11, 0] ∧ win0_3.index t = ![t.val / 8 % 11, 0] ∧ win0_4.index t = ![t.val / 8 % 11, 0]
    ∧ win0_5.index t = ![t.val % 8, t.val / 8 % 11, 0] ∧ win0_6.index t = ![t.val % 8, t.val / 8 % 11, 0] :=
  (by decide +kernel : ∀ t : Fin grid0.N, _)

variable (m : (ℓ : Loc nD τ sig) → Buf (Elt Ideal) ℓ) (c : Dev nD) (t : Fin cfg0.N)

abbrev argA : Mat 8448 256 := m (c, Proc.tc.devRef main_arg0)
abbrev argW : Vec Ideal S256x8x256 .f32 := m (c, Proc.tc.devRef main_arg1)
abbrev argP : Mat 8448 64 := m (c, Proc.tc.devRef main_arg2)
abbrev argC : Mat 8448 32 := m (c, Proc.tc.devRef main_arg3)
abbrev argS : Mat 8448 32 := m (c, Proc.tc.devRef main_arg4)

/-- A point's head. -/
def hOf : Fin 8 := ⟨t.val % 8, by omega⟩

/-! What the call is handed: the tables, the shared columns filled up with zeros, and the weight's heads side by side. -/

theorem V5 (i : Fin 8448) (k : Fin 128) : V m c main_v5 (ix2 i k) = tabC (fun j => argC m c (ix2 i j)) k := by
  have : V m c main_v5 = concatenate S8448x128 1 [⟨S8448x32, argC m c⟩, ⟨S8448x32, argC m c⟩,
      ⟨S8448x64, broadcastInDim S8448x64 ![] bcast_S_S8448x64 (constant (F := Ideal) S_ .f32 0x00000000#32)⟩]
      concatenates_S8448x32_S8448x32_S8448x64_S8448x128_d1 := by
    dsimp only [V, hostOps0, List.flatten, List.append]
    after_results <;> rfl
  rw [this]
  pointwise [tabC]

theorem V7 (i : Fin 8448) (k : Fin 128) : V m c main_v7 (ix2 i k) = tabS (fun j => argS m c (ix2 i j)) k := by
  have : V m c main_v7 = concatenate S8448x128 1 [⟨S8448x32, Host.negf (F := Ideal) (φ := .f32) (argS m c)⟩, ⟨S8448x32, argS m c⟩,
      ⟨S8448x64, broadcastInDim S8448x64 ![] bcast_S_S8448x64 (constant (F := Ideal) S_ .f32 0x00000000#32)⟩]
      concatenates_S8448x32_S8448x32_S8448x64_S8448x128_d1 := by
    dsimp only [V, hostOps0, List.flatten, List.append]
    after_results <;> rfl
  rw [this]
  pointwise [tabS]

theorem V0 (i : Fin 8448) (k : Fin 128) (h : k.val < 64) : V m c main_v0 (ix2 i k) = argP m c (ix2 i ⟨k, h⟩) := by
  have : V m c main_v0 = pad S8448x128 ![0, 0] ![0, 64] ![0, 0] (argP m c) (constant (F := Ideal) S_ .f32 0x00000000#32)
      pads_S8448x64_S8448x128_000_0640 h_S_ := by
    dsimp only [V, hostOps0, List.flatten, List.append]
    after_results <;> rfl
  rw [this]
  pointwise []
  exact dif_pos h

theorem V3 (i : Fin 256) (s : Fin 8) (k : Fin 256) : V m c main_v3 (ix2 i (lane s k)) = argW m c (ix3 i s k) := by
  have : V m c main_v3 = shapeCast S256x2048 (truncf (F := Ideal) .bf16 (argW m c) bitsLt_bf16_f32) shapeCasts_S256x8x256_S256x2048 := by
    dsimp only [V, hostOps0, List.flatten, List.append]
    after_results <;> rfl
  rw [this]
  pointwise [lane]

theorem blk0 (a : Fin 768) (k : Fin 256) : iblk m c 0 t (ix2 a k) = argA m c (ix2 (row (t / 8) a) k) := by
  have e := (idx t).1
  have h : V m c main_v1 = truncf (F := Ideal) .bf16 (argA m c) bitsLt_bf16_f32 := by
    dsimp only [V, hostOps0, List.flatten, List.append]
    after_results <;> rfl
  refine Eq.trans ?_ (congrFun h (ix2 (row (t / 8) a) k))
  blk_ext [iblk, e, row]

theorem blk1 (i k : Fin 256) : iblk m c 1 t (ix2 i k) = V m c main_v3 (ix2 i (lane (hOf t) k)) := by
  have e := (idx t).2.1
  blk_ext [iblk, e, lane, hOf]

theorem blk2 (a : Fin 768) (k : Fin 128) : iblk m c 2 t (ix2 a k) = V m c main_v0 (ix2 (row (t / 8) a) k) := by
  have e := (idx t).2.2.1
  blk_ext [iblk, e, row]

theorem blk3 (a : Fin 768) (k : Fin 128) : iblk m c 3 t (ix2 a k) = V m c main_v5 (ix2 (row (t / 8) a) k) := by
  have e := (idx t).2.2.2.1
  blk_ext [iblk, e, row]

theorem blk4 (a : Fin 768) (k : Fin 128) : iblk m c 4 t (ix2 a k) = V m c main_v7 (ix2 (row (t / 8) a) k) := by
  have e := (idx t).2.2.2.2.1
  blk_ext [iblk, e, row]

/-- The product at a point is the head's. -/
theorem kv_blk (a : Fin 768) (k : Fin 256) :
    k0_pay2 (iblk m c 0 t) (iblk m c 1 t) (ix2 a k) = kv (argA m c) (argW m c) (row (t / 8) a) (hOf t) k := by
  rw [pay2_apply]
  exact plain (blk0 m c t a) fun i => (blk1 m c t i k).trans (V3 m c i _ k)

theorem pay4_blk (i : S1x768x128.Idx) : k0_pay4 (iblk m c 2 t) (iblk m c 3 t) (iblk m c 4 t) i
    = rot (fun j => argP m c (ix2 (row (t / 8) (i 1)) j)) (fun j => argC m c (ix2 (row (t / 8) (i 1)) j))
        (fun j => argS m c (ix2 (row (t / 8) (i 1)) j)) (i 2) := by
  refine Eq.trans ?_ (turned (X := fun k => iblk m c 2 t (ix2 (i 1) k))
    (fun k h => (blk2 m c t (i 1) k).trans (V0 m c _ k h)) ((blk3 m c t (i 1) (i 2)).trans (V5 m c _ _))
    ((blk4 m c t (i 1) (i 2)).trans (V7 m c _ _)))
  pointwise [k0_pay4]

theorem origin3 : (![0, 0, 0] : Fin 3 → ℕ) = fun _ => 0 := funext fun a => by fin_cases a <;> rfl

/-- The part of the keys that is a point's. -/
def part : Vec Ideal S1x768x256 .bf16 := fun y => keys (kv (argA m c) (argW m c)) (argP m c) (argC m c) (argS m c) (ix3 (hOf t) (row (t / 8) (y 1)) (y 2))

/-- What a point leaves of the keys: each of its two stores writes its part of the head's rows. -/
theorem out_apply (y : S1x768x256.Idx) :
    out0_5 (iblk m c 0 t) (iblk m c 1 t) (iblk m c 2 t) (iblk m c 3 t) (iblk m c 4 t) y = part m c t y := by
  unfold out0_5
  refine View.canon_apply_of_pieces (part m c t) _ (fun pc hpc => ?_) y (cover0_5 _ _ y)
  rw [View.ld_unit_zero origin, View.ld_unit_zero origin, View.ld_unit_zero origin, View.ld_unit_zero origin, View.ld_unit_zero origin] at hpc
  rcases List.mem_cons.mp hpc with rfl | hpc
  · intro x
    have hx : (r0_4.emb x : S1x768x256.Idx) = ix3 (x 0) (x 1) ⟨128 + (x 2).val, by have : (x 2).val < 128 := (x 2).isLt; omega⟩ := by
      blk_ext
    exact ((pay4_blk m c t x).trans (heads_hi (z := fun r h j => kv (argA m c) (argW m c) r h ⟨j, by omega⟩)
      (x := fun r _ j => argP m c (ix2 r j)) (c := argC m c) (s := argS m c)
      (hOf t) (row (t / 8) (x 1)) (x 2) (by omega)).symm).trans (congrArg (part m c t) hx.symm)
  rcases List.mem_cons.mp hpc with rfl | hpc
  · intro x
    have hx : (r0_2.emb x : S1x768x256.Idx) = ix3 (x 0) (x 1) ⟨(x 2).val, by have : (x 2).val < 128 := (x 2).isLt; omega⟩ := by
      blk_ext
    have h : (x 2).val < 128 := (x 2).isLt
    refine ((pay3_apply _ _ x).trans ((kv_blk m c t (x 1) _).trans ?_)).trans (congrArg (part m c t) hx.symm)
    exact (heads_lo (z := fun r h j => kv (argA m c) (argW m c) r h ⟨j, by omega⟩)
      (x := fun r _ j => argP m c (ix2 r j)) (c := argC m c) (s := argS m c) (hOf t) (row (t / 8) (x 1)) (⟨(x 2).val, h⟩ : Fin 128) (show (x 2).val < 256 by omega)).symm
  nomatch hpc

/-- The array of keys that the launch leaves. -/
theorem final5 : (dats m 0 c).arrAt 5 cfg0.N = keys (kv (argA m c) (argW m c)) (argP m c) (argC m c) (argS m c) := by
  refine (dats m 0 c).arrAt_eq_of_covers 5 _ (by decide +kernel) fun t hf y => ?_
  have e := (idx t).2.2.2.2.2.1
  blk_simp
  rw [after0_5]
  have ez : ((win0_5.blk t).view.emb y) = (ix3 (hOf t) (row (t / 8) (y 1)) (y 2) : S8x8448x256.Idx) := by
    blk_ext [e, row, hOf]
  rw [ez]
  exact out_apply m c t y

/-- The array of values. -/
theorem final6 : (dats m 0 c).arrAt 6 cfg0.N = values (kv (argA m c) (argW m c)) := by
  refine (dats m 0 c).arrAt_eq_of_covers 6 _ (by decide +kernel) fun t hf y => ?_
  have e := (idx t).2.2.2.2.2.2
  blk_simp
  rw [after0_6]
  have ez : ((win0_6.blk t).view.emb y) = (ix3 (hOf t) (row (t / 8) (y 1)) (y 2) : S8x8448x128.Idx) := by
    blk_ext [e, row, hOf]
  rw [ez]
  unfold out0_6
  rw [View.canon_unit_zero origin3, View.ld_unit_zero origin, View.ld_unit_zero origin, pay1_apply]
  exact kv_blk m c t (y 1) _

/-- Both programs end with the keys and the values. -/
theorem algebraic : Cert.algebraic_Kernel26Ideal_Reference26Ideal (hKernel26Ideal := Kernel26Ideal.Gen.facts)
    (hReference26Ideal := Reference26Ideal.Gen.facts) := by
  intro m ρ m' ρ' _ hargs
  refine ⟨fun c => keys (kv (argA m c) (argW m c)) (argP m c) (argC m c) (argS m c), fun c => values (kv (argA m c) (argW m c)), ?_, ?_⟩
  · exact (θ_run _ _ _).mono (fun r h c => ⟨(h c).1.trans (final5 m c), (h c).2.1.trans (final6 m c), (h c).2.2⟩) (Kernel26Ideal.Value.run_blocks m ρ)
  · refine (θ_run _ _ _).mono (fun r h c => ⟨(h c).1.trans ?_, (h c).2.1.trans ?_, (h c).2.2⟩) (Reference26Ideal.Value.run m' ρ')
    · rw [(hargs c).1, (hargs c).2.1, (hargs c).2.2.1, (hargs c).2.2.2.1, (hargs c).2.2.2.2]
      exact reference_keys _ _ _ _ _
    · rw [(hargs c).1, (hargs c).2.1]
      exact reference_values _ _

/-- The two printed programs are the same text, so one run serves both. -/
theorem defs₀_eq : @Kernel26.defs₀ Bits _ _ = @Kernel26Ideal.defs₀ Bits _ _ :=
  congrArg Defs.onTc (funext fun l => funext fun x => match l, x with | 0, (_, _) => rfl)

theorem kernel_quiescent : Cert.quiescent_Kernel26 (hKernel26 := Kernel26.Gen.facts) := fun m ρ _ => by
  rw [show @Kernel26.defs Bits _ _ = @Kernel26Ideal.defs Bits _ _ from congrArg (Pipeline.defs _) defs₀_eq]
  exact Kernel26Ideal.Gen.frame (F := Bits) m ρ

/-- The reference leaves its arguments, and it has no counter to move. -/
theorem reference_quiescent : Cert.quiescent_Reference26Ideal (hReference26Ideal := Reference26Ideal.Gen.facts) :=
  fun m ρ _ => (θ_run _ _ _).mono (fun r h => ⟨fun c => (h c).2.2, sem_eq_zero_of_no_sems (by decide) r.2⟩)
    (Reference26Ideal.Value.run m ρ)

end Cert.Proof.UpKvRope

end
-- ==== Proof.Products.Norm.lean ====
/- The root-mean-square norm of rows of 1024 columns, and the call that takes it of a tile of 384 rows at each grid point. -/
module

public import proofs.«01_k».proof.Defs
public import proofs.«01_k».proof.Proof.Gen.Kernel27
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Products.Common

@[expose] public section

set_option maxRecDepth 16384

noncomputable section

namespace Cert.Proof.Norm

open Cert.Proof.Products Idealize.ShloMosaic Idealize.ShloMosaic.TcCoe Idealize.ShloMosaic.Tactic Idealize.SL.Sem

/-- A row over the root of its mean square plus a small constant, column by column times the gain. -/
def rms (x g : Fin 1024 → EReal) (j : Fin 1024) : EReal :=
  x j * Ideal.rsqrt (Ideal.div (∑ k, x k * x k) (Ideal.ofBits FTy.f32 0x44800000#32) + Ideal.ofBits FTy.f32 0x358637BD#32) * g j

/-- The array row that row `a` of the `n`-th tile is; the 22 tiles repeat. -/
def line (n : ℕ) (a : Fin 384) : Fin 8448 := ⟨384 * (n % 22) + a, by omega⟩

section Reference

open Cert.Reference27Ideal Cert.Reference27Ideal.Gen

/-- The norm as the reference writes it, and as a formula. -/
def whole (x : Mat 8448 1024) (g : Vec Ideal S1024 .f32) : Mat 8448 1024 :=
  mulf (F := Ideal) (φ := .f32) (mulf x (broadcastInDim S8448x1024 ![0, 1] bcast_S8448x1_S8448x1024_0_1 (Host.rsqrt (addf (Host.divf
    (broadcastInDim S8448x1 ![0] bcast_S8448_S8448x1_0
      (Host.reduceAdd (mulf x x) (constant S_ .f32 0x00000000#32) reducesTo_S8448x1024_S8448_d1 h_S_))
    (broadcastInDim S8448x1 ![] bcast_S_S8448x1 (constant S_ .f32 0x44800000#32)))
    (broadcastInDim S8448x1 ![] bcast_S_S8448x1 (constant S_ .f32 0x358637BD#32))))))
    (broadcastInDim S8448x1024 ![0, 1] bcast_S1x1024_S8448x1024_0_1 (broadcastInDim S1x1024 ![1] bcast_S1024_S1x1024_1 g))

theorem whole_apply (x : Mat 8448 1024) (g : Vec Ideal S1024 .f32) (i : Fin 8448) (j : Fin 1024) :
    whole x g (ix2 i j) = rms (fun k => x (ix2 i k)) (fun k => g (ix1 k)) j := by
  pointwise [whole, rms]

end Reference

open Cert.Kernel27Ideal Cert.Kernel27Ideal.Gen

theorem pay_apply (x0 : Vec Ideal S384x1024 .f32) (x1 : Vec Ideal S1x1024 .f32) (a : Fin 384) (b : Fin 1024) :
    k0_pay1 x0 x1 (ix2 a b) = rms (fun k => x0 (ix2 a k)) (fun k => x1 (ix2 0 k)) b := by
  pointwise [k0_pay1, rms]

/-- Where each window's block lies at each point. -/
theorem idx : ∀ t : Fin cfg0.N, win0_0.index t = ![t.val % 22, 0] ∧ win0_1.index t = ![0, 0]
    ∧ win0_2.index t = ![t.val % 22, 0] :=
  (by decide +kernel : ∀ t : Fin grid0.N, _)

variable (m : (ℓ : Loc nD τ sig) → Buf (Elt Ideal) ℓ) (c : Dev nD) (t : Fin cfg0.N)

abbrev argX : Mat 8448 1024 := m (c, Proc.tc.devRef main_arg0)
abbrev argG : Vec Ideal S1024 .f32 := m (c, Proc.tc.devRef main_arg1)

/-- The norm of every row, in the result's type. -/
def out : Vec Ideal S8448x1024 .bf16 := truncf (F := Ideal) .bf16 (whole (argX m c) (argG m c)) bitsLt_bf16_f32

theorem blk0 (a : Fin 384) (k : Fin 1024) : iblk m c 0 t (ix2 a k) = argX m c (ix2 (line t a) k) := by
  have e := (idx t).1
  have h : V m c main_arg0 = argX m c := by
    dsimp only [V, hostOps0, List.flatten, List.append]
    after_results
  refine Eq.trans ?_ (congrFun h (ix2 (line t a) k))
  blk_ext [iblk, e, line]

theorem blk1 (k : Fin 1024) : iblk m c 1 t (ix2 (0 : Fin 1) k) = argG m c (ix1 k) := by
  have e := (idx t).2.1
  have h : V m c main_v0 = shapeCast S1x1024 (argG m c) shapeCasts_S1024_S1x1024 := by
    dsimp only [V, hostOps0, List.flatten, List.append]
    after_results <;> rfl
  refine Eq.trans (b := V m c main_v0 (ix2 (0 : Fin 1) k)) ?_ ?_
  · blk_ext [iblk, e]
  · rw [h]
    pointwise []

theorem out_apply (a : Fin 384) (b : Fin 1024) :
    out0_2 (iblk m c 0 t) (iblk m c 1 t) (ix2 a b) = out m c (ix2 (line t a) b) := by
  unfold out0_2
  rw [View.canon_unit_zero origin, View.ld_unit_zero origin, View.ld_unit_zero origin, pay_apply]
  refine Eq.trans ?_ (whole_apply _ _ _ _).symm
  exact congrArg₂ (rms · · b) (funext fun k => blk0 m c t a k) (funext fun k => blk1 m c t k)

/-- The array the launch leaves. -/
theorem final : (dats m 0 c).arrAt 2 cfg0.N = out m c := by
  refine (dats m 0 c).arrAt_eq_of_covers 2 _ (by decide +kernel) fun t hf y => ?_
  have e := (idx t).2.2
  blk_simp
  rw [after0_2]
  have ez : ((win0_2.blk t).view.emb y) = (ix2 (line t (y 0)) (y 1) : S8448x1024.Idx) := by
    blk_ext [e, line]
  rw [ez]
  exact (congrArg _ (by blk_ext : y = (ix2 (y 0) (y 1) : S384x1024.Idx))).trans (out_apply m c t (y 0) (y 1))

/-- Both programs end with the norm of every row. -/
theorem algebraic : Cert.algebraic_Kernel27Ideal_Reference27Ideal (hKernel27Ideal := Kernel27Ideal.Gen.facts)
    (hReference27Ideal := Reference27Ideal.Gen.facts) := by
  intro m ρ m' ρ' _ hargs
  refine ⟨fun c => out m c, ?_, ?_⟩
  · exact (θ_run _ _ _).mono (fun r h c => ⟨(h c).1.trans (final m c), (h c).2⟩) (Kernel27Ideal.Value.run_blocks m ρ)
  · refine (θ_run _ _ _).mono (fun r h c => ⟨(h c).1.trans ?_, (h c).2⟩) (Reference27Ideal.Value.run m' ρ')
    rw [(hargs c).1, (hargs c).2]
    rfl

/-- The two printed programs are the same text, so one run serves both. -/
theorem defs₀_eq : @Kernel27.defs₀ Bits _ _ = @Kernel27Ideal.defs₀ Bits _ _ :=
  congrArg Defs.onTc (funext fun l => funext fun x => match l, x with | 0, (_, _) => rfl)

theorem kernel_quiescent : Cert.quiescent_Kernel27 (hKernel27 := Kernel27.Gen.facts) := fun m ρ _ => by
  rw [show @Kernel27.defs Bits _ _ = @Kernel27Ideal.defs Bits _ _ from congrArg (Pipeline.defs _) defs₀_eq]
  exact Kernel27Ideal.Gen.frame (F := Bits) m ρ

/-- The reference leaves its arguments, and it has no counter to move. -/
theorem reference_quiescent : Cert.quiescent_Reference27Ideal (hReference27Ideal := Reference27Ideal.Gen.facts) :=
  fun m ρ _ => (θ_run _ _ _).mono (fun r h => ⟨fun c => (h c).2, sem_eq_zero_of_no_sems (by decide) r.2⟩)
    (Reference27Ideal.Value.run m ρ)

end Cert.Proof.Norm

end
-- ==== Proof.Products.ResidNorm.lean ====
/- The residual: the layer's input plus the norm of its result's rows, and the norm of the sum's rows for the next layer; a tile of 384
   rows at each grid point. -/
module

public import proofs.«01_k».proof.Defs
public import proofs.«01_k».proof.Proof.Gen.Kernel28
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Products.Norm

@[expose] public section

set_option maxRecDepth 16384

noncomputable section

namespace Cert.Proof.ResidNorm

open Cert.Kernel28Ideal Cert.Kernel28Ideal.Gen Cert.Proof.Products
open Cert.Proof.Norm (rms line whole whole_apply)
open Idealize.ShloMosaic Idealize.ShloMosaic.TcCoe Idealize.ShloMosaic.Tactic Idealize.SL.Sem

theorem pay1_apply (x h : Vec Ideal S384x1024 .f32) (g : Vec Ideal S1x1024 .f32) (a : Fin 384) (b : Fin 1024) :
    k0_pay1 x h g (ix2 a b) = h (ix2 a b) + rms (fun k => x (ix2 a k)) (fun k => g (ix2 0 k)) b := by
  pointwise [k0_pay1, rms]

theorem pay2_apply (x h : Vec Ideal S384x1024 .f32) (g g' : Vec Ideal S1x1024 .f32) (a : Fin 384) (b : Fin 1024) :
    k0_pay2 x h g g' (ix2 a b) = rms (fun k => k0_pay1 x h g (ix2 a k)) (fun k => g' (ix2 0 k)) b := by
  pointwise [k0_pay2, rms]

/-- Where each window's block lies at each point. -/
theorem idx : ∀ t : Fin cfg0.N, win0_0.index t = ![t.val % 22, 0] ∧ win0_1.index t = ![t.val % 22, 0]
    ∧ win0_2.index t = ![0, 0] ∧ win0_3.index t = ![0, 0] ∧ win0_4.index t = ![t.val % 22, 0] ∧ win0_5.index t = ![t.val % 22, 0] :=
  (by decide +kernel : ∀ t : Fin grid0.N, _)

variable (m : (ℓ : Loc nD τ sig) → Buf (Elt Ideal) ℓ) (c : Dev nD) (t : Fin cfg0.N)

abbrev argH : Mat 8448 1024 := m (c, Proc.tc.devRef main_arg0)
abbrev argX : Mat 8448 1024 := m (c, Proc.tc.devRef main_arg1)
abbrev argG : Vec Ideal S1024 .f32 := m (c, Proc.tc.devRef main_arg2)
abbrev argG' : Vec Ideal S1024 .f32 := m (c, Proc.tc.devRef main_arg3)

/-- The sum, and its norm in the second result's type. -/
def total : Mat 8448 1024 := addf (F := Ideal) (φ := .f32) (argH m c) (whole (argX m c) (argG m c))
def next : Vec Ideal S8448x1024 .bf16 := truncf (F := Ideal) .bf16 (whole (total m c) (argG' m c)) bitsLt_bf16_f32

theorem total_apply (i : Fin 8448) (j : Fin 1024) :
    total m c (ix2 i j) = argH m c (ix2 i j) + rms (fun k => argX m c (ix2 i k)) (fun k => argG m c (ix1 k)) j :=
  congrArg (argH m c (ix2 i j) + ·) (whole_apply _ _ _ _)

theorem blkH (a : Fin 384) (k : Fin 1024) : iblk m c 0 t (ix2 a k) = argH m c (ix2 (line t a) k) := by
  have e := (idx t).1
  have h : V m c main_arg0 = argH m c := by
    dsimp only [V, hostOps0, List.flatten, List.append]
    after_results
  refine Eq.trans ?_ (congrFun h (ix2 (line t a) k))
  blk_ext [iblk, e, line]

theorem blkX (a : Fin 384) (k : Fin 1024) : iblk m c 1 t (ix2 a k) = argX m c (ix2 (line t a) k) := by
  have e := (idx t).2.1
  have h : V m c main_arg1 = argX m c := by
    dsimp only [V, hostOps0, List.flatten, List.append]
    after_results
  refine Eq.trans ?_ (congrFun h (ix2 (line t a) k))
  blk_ext [iblk, e, line]

theorem blkG (k : Fin 1024) : iblk m c 2 t (ix2 (0 : Fin 1) k) = argG m c (ix1 k) := by
  have e := (idx t).2.2.1
  have h : V m c main_v0 = shapeCast S1x1024 (argG m c) shapeCasts_S1024_S1x1024 := by
    dsimp only [V, hostOps0, List.flatten, List.append]
    after_results <;> rfl
  refine Eq.trans (b := V m c main_v0 (ix2 (0 : Fin 1) k)) ?_ ?_
  · blk_ext [iblk, e]
  · rw [h]
    pointwise []

theorem blkG' (k : Fin 1024) : iblk m c 3 t (ix2 (0 : Fin 1) k) = argG' m c (ix1 k) := by
  have e := (idx t).2.2.2.1
  have h : V m c main_v1 = shapeCast S1x1024 (argG' m c) shapeCasts_S1024_S1x1024 := by
    dsimp only [V, hostOps0, List.flatten, List.append]
    after_results <;> rfl
  refine Eq.trans (b := V m c main_v1 (ix2 (0 : Fin 1) k)) ?_ ?_
  · blk_ext [iblk, e]
  · rw [h]
    pointwise []

/-- A row of the sum, as a point computes it. -/
theorem sum_blk (a : Fin 384) (b : Fin 1024) :
    k0_pay1 (iblk m c 1 t) (iblk m c 0 t) (iblk m c 2 t) (ix2 a b) = total m c (ix2 (line t a) b) := by
  rw [pay1_apply, total_apply]
  exact congrArg₂ (· + ·) (blkH m c t a b) (congrArg₂ (rms · · b) (funext fun k => blkX m c t a k) (funext fun k => blkG m c t k))

theorem out4_apply (a : Fin 384) (b : Fin 1024) :
    out0_4 (iblk m c 0 t) (iblk m c 1 t) (iblk m c 2 t) (iblk m c 3 t) (ix2 a b) = total m c (ix2 (line t a) b) := by
  unfold out0_4
  rw [View.canon_unit_zero origin, View.ld_unit_zero origin, View.ld_unit_zero origin, View.ld_unit_zero origin]
  exact sum_blk m c t a b

theorem out5_apply (a : Fin 384) (b : Fin 1024) :
    out0_5 (iblk m c 0 t) (iblk m c 1 t) (iblk m c 2 t) (iblk m c 3 t) (ix2 a b) = next m c (ix2 (line t a) b) := by
  unfold out0_5
  rw [View.canon_unit_zero origin, View.ld_unit_zero origin, View.ld_unit_zero origin, View.ld_unit_zero origin,
    View.ld_unit_zero origin, pay2_apply]
  refine Eq.trans ?_ (whole_apply _ _ _ _).symm
  exact congrArg₂ (rms · · b) (funext fun k => sum_blk m c t a k) (funext fun k => blkG' m c t k)

/-- The arrays the launch leaves. -/
theorem final4 : (dats m 0 c).arrAt 4 cfg0.N = total m c := by
  refine (dats m 0 c).arrAt_eq_of_covers 4 _ (by decide +kernel) fun t hf y => ?_
  have e := (idx t).2.2.2.2.1
  blk_simp
  rw [after0_4]
  have ez : ((win0_4.blk t).view.emb y) = (ix2 (line t (y 0)) (y 1) : S8448x1024.Idx) := by
    blk_ext [e, line]
  rw [ez]
  exact (congrArg _ (by blk_ext : y = (ix2 (y 0) (y 1) : S384x1024.Idx))).trans (out4_apply m c t (y 0) (y 1))

theorem final5 : (dats m 0 c).arrAt 5 cfg0.N = next m c := by
  refine (dats m 0 c).arrAt_eq_of_covers 5 _ (by decide +kernel) fun t hf y => ?_
  have e := (idx t).2.2.2.2.2
  blk_simp
  rw [after0_5]
  have ez : ((win0_5.blk t).view.emb y) = (ix2 (line t (y 0)) (y 1) : S8448x1024.Idx) := by
    blk_ext [e, line]
  rw [ez]
  exact (congrArg _ (by blk_ext : y = (ix2 (y 0) (y 1) : S384x1024.Idx))).trans (out5_apply m c t (y 0) (y 1))

/-- Both programs end with the sum and its norm. -/
theorem algebraic : Cert.algebraic_Kernel28Ideal_Reference28Ideal (hKernel28Ideal := Kernel28Ideal.Gen.facts)
    (hReference28Ideal := Reference28Ideal.Gen.facts) := by
  intro m ρ m' ρ' _ hargs
  refine ⟨fun c => total m c, fun c => next m c, ?_, ?_⟩
  · exact (θ_run _ _ _).mono (fun r h c => ⟨(h c).1.trans (final4 m c), (h c).2.1.trans (final5 m c), (h c).2.2⟩)
      (Kernel28Ideal.Value.run_blocks m ρ)
  · refine (θ_run _ _ _).mono (fun r h c => ⟨(h c).1.trans ?_, (h c).2.1.trans ?_, (h c).2.2⟩) (Reference28Ideal.Value.run m' ρ')
    · rw [(hargs c).1, (hargs c).2.1, (hargs c).2.2.1]
      rfl
    · rw [(hargs c).1, (hargs c).2.1, (hargs c).2.2.1, (hargs c).2.2.2]
      rfl

/-- The two printed programs are the same text, so one run serves both. -/
theorem defs₀_eq : @Kernel28.defs₀ Bits _ _ = @Kernel28Ideal.defs₀ Bits _ _ :=
  congrArg Defs.onTc (funext fun l => funext fun x => match l, x with | 0, (_, _) => rfl)

theorem kernel_quiescent : Cert.quiescent_Kernel28 (hKernel28 := Kernel28.Gen.facts) := fun m ρ _ => by
  rw [show @Kernel28.defs Bits _ _ = @Kernel28Ideal.defs Bits _ _ from congrArg (Pipeline.defs _) defs₀_eq]
  exact Kernel28Ideal.Gen.frame (F := Bits) m ρ

/-- The reference leaves its arguments, and it has no counter to move. -/
theorem reference_quiescent : Cert.quiescent_Reference28Ideal (hReference28Ideal := Reference28Ideal.Gen.facts) :=
  fun m ρ _ => (θ_run _ _ _).mono (fun r h => ⟨fun c => (h c).2.2, sem_eq_zero_of_no_sems (by decide) r.2⟩)
    (Reference28Ideal.Value.run m ρ)

end Cert.Proof.ResidNorm

end
-- ==== Proof.Products.UpDw.lean ====
/- The gradient of one half of the MLP's first weight: the input transposed against the half's gradient, summed over eleven
   tiles of 768 rows into a block of 1408 columns. -/
module

public import proofs.«01_k».proof.Defs
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Products.Common

@[expose] public section

set_option maxRecDepth 16384

noncomputable section

namespace Cert.Proof.UpDw

open Cert.Kernel3Ideal Cert.Kernel3Ideal.Gen Cert.Proof.Products
open Idealize.ShloMosaic Idealize.ShloMosaic.TcCoe Idealize.ShloMosaic.Tactic Idealize.SL.Sem

/-- One step adds a tile's product. -/
theorem pay_apply (acc : Vec Ideal S1024x1408 .f32) (x0 : Vec Ideal S768x1024 .bf16) (x1 : Vec Ideal S768x1408 .bf16)
    (i : S1024x1408.Idx) : k0_pay2 acc x0 x1 i = acc i + ∑ k : Fin 768, x0 (ix2 k (i 0)) * x1 (ix2 k (i 1)) := by
  pointwise [k0_pay2]

theorem zero_apply (i : S1024x1408.Idx) : k0_pay1 (F := Ideal) i = 0 := by
  pointwise [k0_pay1]

/-- Where each window's block lies at each point. -/
theorem idx : ∀ t : Fin cfg0.N, win0_0.index t = ![t.val % 11, 0] ∧ win0_1.index t = ![t.val % 11, t.val / 11 % 2]
    ∧ win0_2.index t = ![0, t.val / 11 % 2] :=
  (by decide +kernel : ∀ t : Fin grid0.N, _)

variable (m : (ℓ : Loc nD τ sig) → Buf (Elt Ideal) ℓ) (c : Dev nD)

abbrev argA : Mat 8448 1024 := m (c, Proc.tc.devRef main_arg0)
abbrev argG : Mat 8448 2816 := m (c, Proc.tc.devRef main_arg2)

/-- The product's column that column `b` of the block is. -/
def col (n : ℕ) (b : Fin 1408) : Fin 2816 := ⟨1408 * (n / 11 % 2) + b, by omega⟩

/-- What point `n` adds. -/
def part (n : ℕ) (i : S1024x1408.Idx) : EReal :=
  ∑ k : Fin 768, argA m c (ix2 (row n k) (i 0)) * argG m c (ix2 (row n k) (col n (i 1)))

theorem blk0 (t : Fin cfg0.N) (k : Fin 768) (a : Fin 1024) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 1408) :
    iblk m c 1 t (ix2 k b) = argG m c (ix2 (row t k) (col t b)) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) (col t b)))
  blk_ext [iblk, e, row, col]

theorem step_apply (t : Fin cfg0.N) (acc : Vec Ideal S1024x1408 .f32) (i : S1024x1408.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S1024x1408.Idx) :
    ∑ s ∈ Finset.range 11, part m c (11 * q + s) i = tMul (argA m c) (argG m c) (ix2 (i 0) (col (11 * q) (i 1))) := by
  refine Eq.trans (Finset.sum_congr rfl fun s hs => ?_)
    (sum_rows q fun k => argA m c (ix2 k (i 0)) * argG m c (ix2 k (col (11 * q) (i 1))))
  have hc : col (11 * q + s) (i 1) = col (11 * q) (i 1) :=
    Fin.ext (by simp only [col]; have := Finset.mem_range.mp hs; omega)
  simp only [part, hc]

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (col (11 * (t.val / 11)) (y 1)) : S1024x2816.Idx) := by
    blk_ext [e, col]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 1024) (g : Mat 8448 2816) :
    transpose S1024x2816 [1, 0] (Host.dotGeneral (F := Ideal) (φ₁ := .f32) (φ₂ := .f32) Reference3Ideal.dot_S8448x2816_S8448x1024_S2816x1024_0_0_1_1_n_n none g h)
      Reference3Ideal.Gen.transposes_S2816x1024_S1024x2816_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel3Ideal_Reference3Ideal (hKernel3Ideal := Kernel3Ideal.Gen.facts)
    (hReference3Ideal := Reference3Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel3Ideal.Value.run_blocks m ρ)
  · refine (θ_run _ _ _).mono (fun r h c => ⟨(h c).1.trans ?_, (h c).2⟩) (Reference3Ideal.Value.run m' ρ')
    rw [(hargs c).1, (hargs c).2.2]
    exact reference_eq _ _

/-- The two printed programs are the same text, so one run serves both. -/
theorem defs₀_eq : @Kernel3.defs₀ Bits _ _ = @Kernel3Ideal.defs₀ Bits _ _ :=
  congrArg Defs.onTc (funext fun l => funext fun x => match l, x with | 0, (_, _) => rfl)

theorem kernel_quiescent : Cert.quiescent_Kernel3 (hKernel3 := Kernel3.Gen.facts) := fun m ρ _ => by
  rw [show @Kernel3.defs Bits _ _ = @Kernel3Ideal.defs Bits _ _ from congrArg (Pipeline.defs _) defs₀_eq]
  exact Kernel3Ideal.Gen.frame (F := Bits) m ρ

/-- The reference leaves its arguments, and it has no counter to move. -/
theorem reference_quiescent : Cert.quiescent_Reference3Ideal (hReference3Ideal := Reference3Ideal.Gen.facts) :=
  fun m ρ _ => (θ_run _ _ _).mono (fun r h => ⟨fun c => (h c).2, sem_eq_zero_of_no_sems (by decide) r.2⟩)
    (Reference3Ideal.Value.run m ρ)

end Cert.Proof.UpDw

end
-- ==== Proof.Products.Out.lean ====
/- The mixed output: the two mixers' outputs against the two halves of the weight, a block of 768 × 512 at each grid point. -/
module

public import proofs.«01_k».proof.Defs
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Products.Common

@[expose] public section

set_option maxRecDepth 16384

noncomputable section

namespace Cert.Proof.Out

open Cert.Kernel10Ideal Cert.Kernel10Ideal.Gen Cert.Proof.Products
open Idealize.ShloMosaic Idealize.ShloMosaic.TcCoe Idealize.ShloMosaic.Tactic Idealize.SL.Sem

/-- A block's product, in its two halves. -/
theorem pay_apply (x0 x2 : Vec Ideal S768x1024 .bf16) (x1 x3 : Vec Ideal S1024x512 .bf16) (a : Fin 768) (b : Fin 512) :
    k0_pay1 x0 x1 x2 x3 (ix2 a b)
      = (∑ k : Fin 1024, x0 (ix2 a k) * x1 (ix2 k b)) + ∑ k : Fin 1024, x2 (ix2 a k) * x3 (ix2 k b) := by
  pointwise [k0_pay1]

/-- Where each window's block lies at each point. -/
theorem idx : ∀ t : Fin cfg0.N, win0_0.index t = ![t.val / 2 % 11, 0] ∧ win0_1.index t = ![0, t.val % 2]
    ∧ win0_2.index t = ![t.val / 2 % 11, 0] ∧ win0_3.index t = ![0, t.val % 2] ∧ win0_4.index t = ![t.val / 2 % 11, t.val % 2] :=
  (by decide +kernel : ∀ t : Fin grid0.N, _)

variable (m : (ℓ : Loc nD τ sig) → Buf (Elt Ideal) ℓ) (c : Dev nD) (t : Fin cfg0.N)

abbrev argA : Mat 8448 1024 := m (c, Proc.tc.devRef main_arg0)
abbrev argS : Mat 8448 1024 := m (c, Proc.tc.devRef main_arg1)
abbrev argW : Mat 2048 1024 := m (c, Proc.tc.devRef main_arg2)

/-- The product's column that column `b` of the block is. -/
def col (b : Fin 512) : Fin 1024 := ⟨512 * (t.val % 2) + b, by omega⟩

theorem blk0 (a : Fin 768) (k : Fin 1024) : iblk m c 0 t (ix2 a k) = argA m c (ix2 (row (t / 2) a) k) := by
  have e := (idx t).1
  have h : V m c main_v1 = truncf (F := Ideal) .bf16 (argA m c) bitsLt_bf16_f32 := by
    dsimp only [V, hostOps0, List.flatten, List.append]
    after_results
  refine Eq.trans ?_ (congrFun h (ix2 (row (t / 2) a) k))
  blk_ext [iblk, e, row]

theorem blk2 (a : Fin 768) (k : Fin 1024) : iblk m c 2 t (ix2 a k) = argS m c (ix2 (row (t / 2) a) k) := by
  have e := (idx t).2.2.1
  have h : V m c main_v3 = truncf (F := Ideal) .bf16 (argS m c) bitsLt_bf16_f32 := by
    dsimp only [V, hostOps0, List.flatten, List.append]
    after_results
  refine Eq.trans ?_ (congrFun h (ix2 (row (t / 2) a) k))
  blk_ext [iblk, e, row]

theorem V2 (k : Fin 1024) (j : Fin 1024) : V m c main_v2 (ix2 k j) = argW m c (ix2 ⟨k, by omega⟩ j) := by
  have : V m c main_v2 = extractStridedSlice S1024x1024 ![0, 0] (truncf (F := Ideal) .bf16 (argW m c) bitsLt_bf16_f32)
      slices_S2048x1024_S1024x1024_0_0 := by
    dsimp only [V, hostOps0, List.flatten, List.append]
    after_results
  rw [this]
  pointwise []

theorem V4 (k : Fin 1024) (j : Fin 1024) : V m c main_v4 (ix2 k j) = argW m c (ix2 ⟨1024 + k, by omega⟩ j) := by
  have : V m c main_v4 = extractStridedSlice S1024x1024 ![1024, 0] (truncf (F := Ideal) .bf16 (argW m c) bitsLt_bf16_f32)
      slices_S2048x1024_S1024x1024_1024_0 := by
    dsimp only [V, hostOps0, List.flatten, List.append]
    after_results
  rw [this]
  pointwise []

theorem blk1 (k : Fin 1024) (b : Fin 512) : iblk m c 1 t (ix2 k b) = argW m c (ix2 ⟨k, by omega⟩ (col t b)) := by
  have e := (idx t).2.1
  refine Eq.trans ?_ (V2 m c k (col t b))
  blk_ext [iblk, e, col]

theorem blk3 (k : Fin 1024) (b : Fin 512) : iblk m c 3 t (ix2 k b) = argW m c (ix2 ⟨1024 + k, by omega⟩ (col t b)) := by
  have e := (idx t).2.2.2.1
  refine Eq.trans ?_ (V4 m c k (col t b))
  blk_ext [iblk, e, col]

/-- The two mixers' outputs side by side, times the weight. -/
def mixed (a s : Mat 8448 1024) (w : Mat 2048 1024) : Mat 8448 1024 := fun i =>
  (∑ k : Fin 1024, a (ix2 (i 0) k) * w (ix2 ⟨k, by omega⟩ (i 1)))
    + ∑ k : Fin 1024, s (ix2 (i 0) k) * w (ix2 ⟨1024 + k, by omega⟩ (i 1))

theorem out_apply (a : Fin 768) (b : Fin 512) :
    out0_4 (iblk m c 0 t) (iblk m c 1 t) (iblk m c 2 t) (iblk m c 3 t) (ix2 a b)
      = mixed (argA m c) (argS m c) (argW m c) (ix2 (row (t / 2) a) (col t b)) := by
  unfold out0_4
  rw [View.canon_unit_zero origin]
  simp only [View.ld_unit_zero (S := S768x1024) origin, View.ld_unit_zero (S := S1024x512) origin]
  rw [pay_apply]
  exact congrArg₂ (· + ·) (Finset.sum_congr rfl fun k _ => congrArg₂ (· * ·) (blk0 m c t a k) (blk1 m c t k b))
    (Finset.sum_congr rfl fun k _ => congrArg₂ (· * ·) (blk2 m c t a k) (blk3 m c t k b))

/-- The array the launch leaves. -/
theorem final : (dats m 0 c).arrAt 4 cfg0.N = mixed (argA m c) (argS m c) (argW m c) := by
  refine (dats m 0 c).arrAt_eq_of_covers 4 _ (by decide +kernel) fun t hf y => ?_
  have e := (idx t).2.2.2.2
  blk_simp
  rw [after0_4]
  have ez : ((win0_4.blk t).view.emb y) = (ix2 (row (t / 2) (y 0)) (col t (y 1)) : S8448x1024.Idx) := by
    blk_ext [e, row, col]
  rw [ez]
  exact (congrArg _ (by blk_ext : y = (ix2 (y 0) (y 1) : S768x512.Idx))).trans (out_apply m c t (y 0) (y 1))

/-- The reference's one sum over 2048 features, split where the two outputs meet. -/
theorem reference_eq (a s : Mat 8448 1024) (w : Mat 2048 1024) :
    Host.dotGeneral (F := Ideal) (φ₁ := .f32) (φ₂ := .f32) Reference10Ideal.dot_S8448x2048_S2048x1024_S8448x1024_1_0_0_1_n_n none
      (concatenate Reference10Ideal.S8448x2048 1 [⟨S8448x1024, a⟩, ⟨S8448x1024, s⟩]
        Reference10Ideal.Gen.concatenates_S8448x1024_S8448x1024_S8448x2048_d1) w = mixed a s w := by
  funext i
  have h : ∀ x : Mat 8448 2048, Host.dotGeneral (F := Ideal) (φ₁ := .f32) (φ₂ := .f32)
      Reference10Ideal.dot_S8448x2048_S2048x1024_S8448x1024_1_0_0_1_n_n none x w i = mul x w i := fun x => by pointwise [mul]
  rw [h]
  refine (Fin.sum_univ_add (a := 1024) (b := 1024) fun k => _).trans ?_
  refine congrArg₂ (· + ·) (Finset.sum_congr rfl fun k _ => congrArg (· * _) ?_)
    (Finset.sum_congr rfl fun k _ => congrArg (· * _) ?_)
  · pointwise []
    rw [dif_pos (show (Fin.castAdd 1024 k).val < 1024 from k.isLt)]
    rfl
  · pointwise []
    rw [dif_neg (show ¬(Fin.natAdd 1024 k).val < 1024 by simp)]
    exact congrArg s (congrArg (ix2 (i 0)) (Fin.ext (by simp)))

/-- Both programs end with the product. -/
theorem algebraic : Cert.algebraic_Kernel10Ideal_Reference10Ideal (hKernel10Ideal := Kernel10Ideal.Gen.facts)
    (hReference10Ideal := Reference10Ideal.Gen.facts) := by
  intro m ρ m' ρ' _ hargs
  refine ⟨fun c => mixed (argA m c) (argS m c) (argW m c), ?_, ?_⟩
  · exact (θ_run _ _ _).mono (fun r h c => ⟨(h c).1.trans (final m c), (h c).2⟩) (Kernel10Ideal.Value.run_blocks m ρ)
  · refine (θ_run _ _ _).mono (fun r h c => ⟨(h c).1.trans ?_, (h c).2⟩) (Reference10Ideal.Value.run m' ρ')
    rw [(hargs c).1, (hargs c).2.1, (hargs c).2.2]
    exact reference_eq _ _ _

/-- The two printed programs are the same text, so one run serves both. -/
theorem defs₀_eq : @Kernel10.defs₀ Bits _ _ = @Kernel10Ideal.defs₀ Bits _ _ :=
  congrArg Defs.onTc (funext fun l => funext fun x => match l, x with | 0, (_, _) => rfl)

theorem kernel_quiescent : Cert.quiescent_Kernel10 (hKernel10 := Kernel10.Gen.facts) := fun m ρ _ => by
  rw [show @Kernel10.defs Bits _ _ = @Kernel10Ideal.defs Bits _ _ from congrArg (Pipeline.defs _) defs₀_eq]
  exact Kernel10Ideal.Gen.frame (F := Bits) m ρ

/-- The reference leaves its arguments, and it has no counter to move. -/
theorem reference_quiescent : Cert.quiescent_Reference10Ideal (hReference10Ideal := Reference10Ideal.Gen.facts) :=
  fun m ρ _ => (θ_run _ _ _).mono (fun r h => ⟨fun c => (h c).2, sem_eq_zero_of_no_sems (by decide) r.2⟩)
    (Reference10Ideal.Value.run m ρ)

end Cert.Proof.Out

end
-- ==== Proof.Products.Down.lean ====
/- The MLP's second product: the gated activation against the weight, a block of 768 × 512 at each grid point. -/
module

public import proofs.«01_k».proof.Defs
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Products.Common

@[expose] public section

set_option maxRecDepth 16384

noncomputable section

namespace Cert.Proof.Down

open Cert.Kernel9Ideal Cert.Kernel9Ideal.Gen Cert.Proof.Products
open Idealize.ShloMosaic Idealize.ShloMosaic.TcCoe Idealize.ShloMosaic.Tactic Idealize.SL.Sem

theorem pay_apply (x0 : Vec Ideal S768x2816 .bf16) (x1 : Vec Ideal S2816x512 .bf16) (a : Fin 768) (b : Fin 512) :
    k0_pay1 x0 x1 (ix2 a b) = ∑ k : Fin 2816, x0 (ix2 a k) * x1 (ix2 k b) := by
  pointwise [k0_pay1]

/-- Where each window's block lies at each point. -/
theorem idx : ∀ t : Fin cfg0.N, win0_0.index t = ![t.val / 2 % 11, 0] ∧ win0_1.index t = ![0, t.val % 2]
    ∧ win0_2.index t = ![t.val / 2 % 11, t.val % 2] :=
  (by decide +kernel : ∀ t : Fin grid0.N, _)

variable (m : (ℓ : Loc nD τ sig) → Buf (Elt Ideal) ℓ) (c : Dev nD) (t : Fin cfg0.N)

abbrev argA : Mat 8448 2816 := m (c, Proc.tc.devRef main_arg0)
abbrev argW : Mat 2816 1024 := m (c, Proc.tc.devRef main_arg1)

/-- The product's column that column `b` of the block is. -/
def col (b : Fin 512) : Fin 1024 := ⟨512 * (t.val % 2) + b, by omega⟩

theorem blk0 (a : Fin 768) (k : Fin 2816) : iblk m c 0 t (ix2 a k) = argA m c (ix2 (row (t / 2) a) k) := by
  have e := (idx t).1
  have h : V m c main_v0 = truncf (F := Ideal) .bf16 (argA m c) bitsLt_bf16_f32 := by
    dsimp only [V, hostOps0, List.flatten, List.append]
    after_results
  refine Eq.trans ?_ (congrFun h (ix2 (row (t / 2) a) k))
  blk_ext [iblk, e, row]

theorem blk1 (k : Fin 2816) (b : Fin 512) : iblk m c 1 t (ix2 k b) = argW m c (ix2 k (col t b)) := by
  have e := (idx t).2.1
  have h : V m c main_v1 = truncf (F := Ideal) .bf16 (argW m c) bitsLt_bf16_f32 := by
    dsimp only [V, hostOps0, List.flatten, List.append]
    after_results
  refine Eq.trans ?_ (congrFun h (ix2 k (col t b)))
  blk_ext [iblk, e, col]

theorem out_apply (a : Fin 768) (b : Fin 512) :
    out0_2 (iblk m c 0 t) (iblk m c 1 t) (ix2 a b) = mul (argA m c) (argW m c) (ix2 (row (t / 2) a) (col t b)) := by
  unfold out0_2
  rw [View.canon_unit_zero origin, View.ld_unit_zero origin, View.ld_unit_zero origin, pay_apply]
  exact Finset.sum_congr rfl fun k _ => congrArg₂ (· * ·) (blk0 m c t a k) (blk1 m c t k b)

/-- The array the launch leaves. -/
theorem final : (dats m 0 c).arrAt 2 cfg0.N = mul (argA m c) (argW m c) := by
  refine (dats m 0 c).arrAt_eq_of_covers 2 _ (by decide +kernel) fun t hf y => ?_
  have e := (idx t).2.2
  blk_simp
  rw [after0_2]
  have ez : ((win0_2.blk t).view.emb y) = (ix2 (row (t / 2) (y 0)) (col t (y 1)) : S8448x1024.Idx) := by
    blk_ext [e, row, col]
  rw [ez]
  exact (congrArg _ (by blk_ext : y = (ix2 (y 0) (y 1) : S768x512.Idx))).trans (out_apply m c t (y 0) (y 1))

theorem reference_eq (a : Mat 8448 2816) (w : Mat 2816 1024) :
    Host.dotGeneral (F := Ideal) (φ₁ := .f32) (φ₂ := .f32) Reference9Ideal.dot_S8448x2816_S2816x1024_S8448x1024_1_0_0_1_n_n none a w
      = mul a w := by
  funext i
  pointwise [mul]

/-- Both programs end with the product. -/
theorem algebraic : Cert.algebraic_Kernel9Ideal_Reference9Ideal (hKernel9Ideal := Kernel9Ideal.Gen.facts)
    (hReference9Ideal := Reference9Ideal.Gen.facts) := by
  intro m ρ m' ρ' _ hargs
  refine ⟨fun c => mul (argA m c) (argW m c), ?_, ?_⟩
  · exact (θ_run _ _ _).mono (fun r h c => ⟨(h c).1.trans (final m c), (h c).2⟩) (Kernel9Ideal.Value.run_blocks m ρ)
  · refine (θ_run _ _ _).mono (fun r h c => ⟨(h c).1.trans ?_, (h c).2⟩) (Reference9Ideal.Value.run m' ρ')
    rw [(hargs c).1, (hargs c).2]
    exact reference_eq _ _

/-- The two printed programs are the same text, so one run serves both. -/
theorem defs₀_eq : @Kernel9.defs₀ Bits _ _ = @Kernel9Ideal.defs₀ Bits _ _ :=
  congrArg Defs.onTc (funext fun l => funext fun x => match l, x with | 0, (_, _) => rfl)

theorem kernel_quiescent : Cert.quiescent_Kernel9 (hKernel9 := Kernel9.Gen.facts) := fun m ρ _ => by
  rw [show @Kernel9.defs Bits _ _ = @Kernel9Ideal.defs Bits _ _ from congrArg (Pipeline.defs _) defs₀_eq]
  exact Kernel9Ideal.Gen.frame (F := Bits) m ρ

/-- The reference leaves its arguments, and it has no counter to move. -/
theorem reference_quiescent : Cert.quiescent_Reference9Ideal (hReference9Ideal := Reference9Ideal.Gen.facts) :=
  fun m ρ _ => (θ_run _ _ _).mono (fun r h => ⟨fun c => (h c).2, sem_eq_zero_of_no_sems (by decide) r.2⟩)
    (Reference9Ideal.Value.run m ρ)

end Cert.Proof.Down

end
-- ==== Proof.Products.Up.lean ====
/- The MLP's first product: the input against the weight, a block of 768 × 512 at each grid point. -/
module

public import proofs.«01_k».proof.Defs
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Products.Common

@[expose] public section

set_option maxRecDepth 16384

noncomputable section

namespace Cert.Proof.Up

open Cert.Kernel8Ideal Cert.Kernel8Ideal.Gen Cert.Proof.Products
open Idealize.ShloMosaic Idealize.ShloMosaic.TcCoe Idealize.ShloMosaic.Tactic Idealize.SL.Sem

theorem pay_apply (x0 : Vec Ideal S768x1024 .bf16) (x1 : Vec Ideal S1024x512 .bf16) (a : Fin 768) (b : Fin 512) :
    k0_pay1 x0 x1 (ix2 a b) = ∑ k : Fin 1024, x0 (ix2 a k) * x1 (ix2 k b) := by
  pointwise [k0_pay1]

/-- Where each window's block lies at each point. -/
theorem idx : ∀ t : Fin cfg0.N, win0_0.index t = ![t.val / 11 % 11, 0] ∧ win0_1.index t = ![0, t.val % 11]
    ∧ win0_2.index t = ![t.val / 11 % 11, t.val % 11] :=
  (by decide +kernel : ∀ t : Fin grid0.N, _)

variable (m : (ℓ : Loc nD τ sig) → Buf (Elt Ideal) ℓ) (c : Dev nD) (t : Fin cfg0.N)

abbrev argA : Mat 8448 1024 := m (c, Proc.tc.devRef main_arg0)
abbrev argW : Mat 1024 5632 := m (c, Proc.tc.devRef main_arg1)

/-- The product's column that column `b` of the block is. -/
def col (b : Fin 512) : Fin 5632 := ⟨512 * (t.val % 11) + b, by omega⟩

theorem blk0 (a : Fin 768) (k : Fin 1024) : iblk m c 0 t (ix2 a k) = argA m c (ix2 (row (t / 11) a) k) := by
  have e := (idx t).1
  have h : V m c main_v0 = truncf (F := Ideal) .bf16 (argA m c) bitsLt_bf16_f32 := by
    dsimp only [V, hostOps0, List.flatten, List.append]
    after_results
  refine Eq.trans ?_ (congrFun h (ix2 (row (t / 11) a) k))
  blk_ext [iblk, e, row]

theorem blk1 (k : Fin 1024) (b : Fin 512) : iblk m c 1 t (ix2 k b) = argW m c (ix2 k (col t b)) := by
  have e := (idx t).2.1
  have h : V m c main_v1 = truncf (F := Ideal) .bf16 (argW m c) bitsLt_bf16_f32 := by
    dsimp only [V, hostOps0, List.flatten, List.append]
    after_results
  refine Eq.trans ?_ (congrFun h (ix2 k (col t b)))
  blk_ext [iblk, e, col]

theorem out_apply (a : Fin 768) (b : Fin 512) :
    out0_2 (iblk m c 0 t) (iblk m c 1 t) (ix2 a b) = mul (argA m c) (argW m c) (ix2 (row (t / 11) a) (col t b)) := by
  unfold out0_2
  rw [View.canon_unit_zero origin, View.ld_unit_zero origin, View.ld_unit_zero origin, pay_apply]
  exact Finset.sum_congr rfl fun k _ => congrArg₂ (· * ·) (blk0 m c t a k) (blk1 m c t k b)

/-- The array the launch leaves. -/
theorem final : (dats m 0 c).arrAt 2 cfg0.N = mul (argA m c) (argW m c) := by
  refine (dats m 0 c).arrAt_eq_of_covers 2 _ (by decide +kernel) fun t hf y => ?_
  have e := (idx t).2.2
  blk_simp
  rw [after0_2]
  have ez : ((win0_2.blk t).view.emb y) = (ix2 (row (t / 11) (y 0)) (col t (y 1)) : S8448x5632.Idx) := by
    blk_ext [e, row, col]
  rw [ez]
  exact (congrArg _ (by blk_ext : y = (ix2 (y 0) (y 1) : S768x512.Idx))).trans (out_apply m c t (y 0) (y 1))

theorem reference_eq (a : Mat 8448 1024) (w : Mat 1024 5632) :
    Host.dotGeneral (F := Ideal) (φ₁ := .f32) (φ₂ := .f32) Reference8Ideal.dot_S8448x1024_S1024x5632_S8448x5632_1_0_0_1_n_n none a w
      = mul a w := by
  funext i
  pointwise [mul]

/-- Both programs end with the product. -/
theorem algebraic : Cert.algebraic_Kernel8Ideal_Reference8Ideal (hKernel8Ideal := Kernel8Ideal.Gen.facts)
    (hReference8Ideal := Reference8Ideal.Gen.facts) := by
  intro m ρ m' ρ' _ hargs
  refine ⟨fun c => mul (argA m c) (argW m c), ?_, ?_⟩
  · exact (θ_run _ _ _).mono (fun r h c => ⟨(h c).1.trans (final m c), (h c).2⟩) (Kernel8Ideal.Value.run_blocks m ρ)
  · refine (θ_run _ _ _).mono (fun r h c => ⟨(h c).1.trans ?_, (h c).2⟩) (Reference8Ideal.Value.run m' ρ')
    rw [(hargs c).1, (hargs c).2]
    exact reference_eq _ _

/-- The two printed programs are the same text, so one run serves both. -/
theorem defs₀_eq : @Kernel8.defs₀ Bits _ _ = @Kernel8Ideal.defs₀ Bits _ _ :=
  congrArg Defs.onTc (funext fun l => funext fun x => match l, x with | 0, (_, _) => rfl)

theorem kernel_quiescent : Cert.quiescent_Kernel8 (hKernel8 := Kernel8.Gen.facts) := fun m ρ _ => by
  rw [show @Kernel8.defs Bits _ _ = @Kernel8Ideal.defs Bits _ _ from congrArg (Pipeline.defs _) defs₀_eq]
  exact Kernel8Ideal.Gen.frame (F := Bits) m ρ

/-- The reference leaves its arguments, and it has no counter to move. -/
theorem reference_quiescent : Cert.quiescent_Reference8Ideal (hReference8Ideal := Reference8Ideal.Gen.facts) :=
  fun m ρ _ => (θ_run _ _ _).mono (fun r h => ⟨fun c => (h c).2, sem_eq_zero_of_no_sems (by decide) r.2⟩)
    (Reference8Ideal.Value.run m ρ)

end Cert.Proof.Up

end
-- ==== Proof.Products.OutDw.lean ====
/- The gradient of one half of the mixed output's weight: that mixer's output transposed against the gradient, summed over eleven
   tiles of 768 rows into the one block. -/
module

public import proofs.«01_k».proof.Defs
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Products.Common

@[expose] public section

set_option maxRecDepth 16384

noncomputable section

namespace Cert.Proof.OutDw

open Cert.Kernel7Ideal Cert.Kernel7Ideal.Gen Cert.Proof.Products
open Idealize.ShloMosaic Idealize.ShloMosaic.TcCoe Idealize.ShloMosaic.Tactic Idealize.SL.Sem

/-- One step adds a tile's product. -/
theorem pay_apply (acc : Vec Ideal S1024x1024 .f32) (x0 : Vec Ideal S768x1024 .bf16) (x1 : Vec Ideal S768x1024 .bf16)
    (i : S1024x1024.Idx) : k0_pay2 acc x0 x1 i = acc i + ∑ k : Fin 768, x0 (ix2 k (i 0)) * x1 (ix2 k (i 1)) := by
  pointwise [k0_pay2]

theorem zero_apply (i : S1024x1024.Idx) : k0_pay1 (F := Ideal) i = 0 := by
  pointwise [k0_pay1]

/-- Where each window's block lies at each point. -/
theorem idx : ∀ t : Fin cfg0.N, win0_0.index t = ![t.val % 11, 0] ∧ win0_1.index t = ![t.val % 11, 0]
    ∧ win0_2.index t = ![0, 0] :=
  (by decide +kernel : ∀ t : Fin grid0.N, _)

variable (m : (ℓ : Loc nD τ sig) → Buf (Elt Ideal) ℓ) (c : Dev nD)

abbrev argA : Mat 8448 1024 := m (c, Proc.tc.devRef main_arg0)
abbrev argG : Mat 8448 1024 := m (c, Proc.tc.devRef main_arg2)

/-- What point `n` adds. -/
def part (n : ℕ) (i : S1024x1024.Idx) : EReal :=
  ∑ k : Fin 768, argA m c (ix2 (row n k) (i 0)) * argG m c (ix2 (row n k) (i 1))

theorem blk0 (t : Fin cfg0.N) (k : Fin 768) (a : Fin 1024) : iblk m c 0 t (ix2 k a) = argA m c (ix2 (row t k) a) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) a))
  blk_ext [iblk, e, row]

theorem blk1 (t : Fin cfg0.N) (k : Fin 768) (b : Fin 1024) :
    iblk m c 1 t (ix2 k b) = argG m c (ix2 (row t k) b) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) b))
  blk_ext [iblk, e, row]

theorem step_apply (t : Fin cfg0.N) (acc : Vec Ideal S1024x1024 .f32) (i : S1024x1024.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S1024x1024.Idx) :
    ∑ s ∈ Finset.range 11, part m c (11 * q + s) i = tMul (argA m c) (argG m c) (ix2 (i 0) (i 1)) := by
  exact sum_rows q fun k => argA m c (ix2 k (i 0)) * argG m c (ix2 k (i 1))

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (y 0) (y 1) : S1024x1024.Idx) := by blk_ext [e]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 1024) (g : Mat 8448 1024) :
    transpose S1024x1024 [1, 0] (Host.dotGeneral (F := Ideal) (φ₁ := .f32) (φ₂ := .f32) Reference7Ideal.dot_S8448x1024_S8448x1024_S1024x1024_0_0_1_1_n_n none g h)
      Reference7Ideal.Gen.transposes_S1024x1024_S1024x1024_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel7Ideal_Reference7Ideal (hKernel7Ideal := Kernel7Ideal.Gen.facts)
    (hReference7Ideal := Reference7Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel7Ideal.Value.run_blocks m ρ)
  · refine (θ_run _ _ _).mono (fun r h c => ⟨(h c).1.trans ?_, (h c).2⟩) (Reference7Ideal.Value.run m' ρ')
    rw [(hargs c).1, (hargs c).2.2]
    exact reference_eq _ _

/-- The two printed programs are the same text, so one run serves both. -/
theorem defs₀_eq : @Kernel7.defs₀ Bits _ _ = @Kernel7Ideal.defs₀ Bits _ _ :=
  congrArg Defs.onTc (funext fun l => funext fun x => match l, x with | 0, (_, _) => rfl)

theorem kernel_quiescent : Cert.quiescent_Kernel7 (hKernel7 := Kernel7.Gen.facts) := fun m ρ _ => by
  rw [show @Kernel7.defs Bits _ _ = @Kernel7Ideal.defs Bits _ _ from congrArg (Pipeline.defs _) defs₀_eq]
  exact Kernel7Ideal.Gen.frame (F := Bits) m ρ

/-- The reference leaves its arguments, and it has no counter to move. -/
theorem reference_quiescent : Cert.quiescent_Reference7Ideal (hReference7Ideal := Reference7Ideal.Gen.facts) :=
  fun m ρ _ => (θ_run _ _ _).mono (fun r h => ⟨fun c => (h c).2, sem_eq_zero_of_no_sems (by decide) r.2⟩)
    (Reference7Ideal.Value.run m ρ)

end Cert.Proof.OutDw

end
-- ==== Proof.Products.OutDx.lean ====
/- The gradient of one mixer's output (the attention's or the state space's): the gradient of the mixed output against that half of the
   transposed weight, a block of 768 × 512 at each grid point. -/
module

public import proofs.«01_k».proof.Defs
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Products.Common

@[expose] public section

set_option maxRecDepth 16384

noncomputable section

namespace Cert.Proof.OutDx

open Cert.Kernel6Ideal Cert.Kernel6Ideal.Gen Cert.Proof.Products
open Idealize.ShloMosaic Idealize.ShloMosaic.TcCoe Idealize.ShloMosaic.Tactic Idealize.SL.Sem

theorem pay_apply (x0 : Vec Ideal S768x1024 .bf16) (x1 : Vec Ideal S512x1024 .bf16) (a : Fin 768) (b : Fin 512) :
    k0_pay1 x0 x1 (ix2 a b) = ∑ k : Fin 1024, x0 (ix2 a k) * x1 (ix2 b k) := by
  pointwise [k0_pay1]

/-- Where each window's block lies at each point. -/
theorem idx : ∀ t : Fin cfg0.N, win0_0.index t = ![t.val / 2 % 11, 0] ∧ win0_1.index t = ![t.val % 2, 0]
    ∧ win0_2.index t = ![t.val / 2 % 11, t.val % 2] :=
  (by decide +kernel : ∀ t : Fin grid0.N, _)

variable (m : (ℓ : Loc nD τ sig) → Buf (Elt Ideal) ℓ) (c : Dev nD) (t : Fin cfg0.N)

abbrev argW : Mat 1024 1024 := m (c, Proc.tc.devRef main_arg1)
abbrev argG : Mat 8448 1024 := m (c, Proc.tc.devRef main_arg2)

/-- The product's column that column `b` of the block is. -/
def col (b : Fin 512) : Fin 1024 := ⟨512 * (t.val % 2) + b, by omega⟩

theorem blk0 (a : Fin 768) (k : Fin 1024) : iblk m c 0 t (ix2 a k) = argG m c (ix2 (row (t / 2) a) k) := by
  have e := (idx t).1
  have h : V m c main_v0 = truncf (F := Ideal) .bf16 (argG m c) bitsLt_bf16_f32 := by
    dsimp only [V, hostOps0, List.flatten, List.append]
    after_results
  refine Eq.trans ?_ (congrFun h (ix2 (row (t / 2) a) k))
  blk_ext [iblk, e, row]

theorem blk1 (b : Fin 512) (k : Fin 1024) : iblk m c 1 t (ix2 b k) = argW m c (ix2 (col t b) k) := by
  have e := (idx t).2.1
  have h : V m c main_v1 = truncf (F := Ideal) .bf16 (argW m c) bitsLt_bf16_f32 := by
    dsimp only [V, hostOps0, List.flatten, List.append]
    after_results
  refine Eq.trans ?_ (congrFun h (ix2 (col t b) k))
  blk_ext [iblk, e, col]

theorem out_apply (a : Fin 768) (b : Fin 512) :
    out0_2 (iblk m c 0 t) (iblk m c 1 t) (ix2 a b) = mulT (argG m c) (argW m c) (ix2 (row (t / 2) a) (col t b)) := by
  unfold out0_2
  rw [View.canon_unit_zero origin, View.ld_unit_zero origin, View.ld_unit_zero origin, pay_apply]
  exact Finset.sum_congr rfl fun k _ => congrArg₂ (· * ·) (blk0 m c t a k) (blk1 m c t b k)

/-- The array the launch leaves. -/
theorem final : (dats m 0 c).arrAt 2 cfg0.N = mulT (argG m c) (argW m c) := by
  refine (dats m 0 c).arrAt_eq_of_covers 2 _ (by decide +kernel) fun t hf y => ?_
  have e := (idx t).2.2
  blk_simp
  rw [after0_2]
  have ez : ((win0_2.blk t).view.emb y) = (ix2 (row (t / 2) (y 0)) (col t (y 1)) : S8448x1024.Idx) := by
    blk_ext [e, row, col]
  rw [ez]
  exact (congrArg _ (by blk_ext : y = (ix2 (y 0) (y 1) : S768x512.Idx))).trans (out_apply m c t (y 0) (y 1))

theorem reference_eq (w : Mat 1024 1024) (g : Mat 8448 1024) :
    Host.dotGeneral (F := Ideal) (φ₁ := .f32) (φ₂ := .f32) Reference6Ideal.dot_S8448x1024_S1024x1024_S8448x1024_1_1_0_0_n_n none g w
      = mulT g w := by
  funext i
  pointwise [mulT]

/-- Both programs end with the gradient. -/
theorem algebraic : Cert.algebraic_Kernel6Ideal_Reference6Ideal (hKernel6Ideal := Kernel6Ideal.Gen.facts)
    (hReference6Ideal := Reference6Ideal.Gen.facts) := by
  intro m ρ m' ρ' _ hargs
  refine ⟨fun c => mulT (argG m c) (argW m c), ?_, ?_⟩
  · exact (θ_run _ _ _).mono (fun r h c => ⟨(h c).1.trans (final m c), (h c).2⟩) (Kernel6Ideal.Value.run_blocks m ρ)
  · refine (θ_run _ _ _).mono (fun r h c => ⟨(h c).1.trans ?_, (h c).2⟩) (Reference6Ideal.Value.run m' ρ')
    rw [(hargs c).2.1, (hargs c).2.2]
    exact reference_eq _ _

/-- The two printed programs are the same text, so one run serves both. -/
theorem defs₀_eq : @Kernel6.defs₀ Bits _ _ = @Kernel6Ideal.defs₀ Bits _ _ :=
  congrArg Defs.onTc (funext fun l => funext fun x => match l, x with | 0, (_, _) => rfl)

theorem kernel_quiescent : Cert.quiescent_Kernel6 (hKernel6 := Kernel6.Gen.facts) := fun m ρ _ => by
  rw [show @Kernel6.defs Bits _ _ = @Kernel6Ideal.defs Bits _ _ from congrArg (Pipeline.defs _) defs₀_eq]
  exact Kernel6Ideal.Gen.frame (F := Bits) m ρ

/-- The reference leaves its arguments, and it has no counter to move. -/
theorem reference_quiescent : Cert.quiescent_Reference6Ideal (hReference6Ideal := Reference6Ideal.Gen.facts) :=
  fun m ρ _ => (θ_run _ _ _).mono (fun r h => ⟨fun c => (h c).2, sem_eq_zero_of_no_sems (by decide) r.2⟩)
    (Reference6Ideal.Value.run m ρ)

end Cert.Proof.OutDx

end
-- ==== Proof.Products.DownDw.lean ====
/- The gradient of the MLP's second weight: the gated activation transposed against the output's gradient, summed over eleven tiles
   of 768 rows into a block of 1408 rows. -/
module

public import proofs.«01_k».proof.Defs
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Products.Common

@[expose] public section

set_option maxRecDepth 16384

noncomputable section

namespace Cert.Proof.DownDw

open Cert.Kernel5Ideal Cert.Kernel5Ideal.Gen Cert.Proof.Products
open Idealize.ShloMosaic Idealize.ShloMosaic.TcCoe Idealize.ShloMosaic.Tactic Idealize.SL.Sem

/-- One step adds a tile's product. -/
theorem pay_apply (acc : Vec Ideal S1408x1024 .f32) (x0 : Vec Ideal S768x1408 .bf16) (x1 : Vec Ideal S768x1024 .bf16)
    (i : S1408x1024.Idx) : k0_pay2 acc x0 x1 i = acc i + ∑ k : Fin 768, x0 (ix2 k (i 0)) * x1 (ix2 k (i 1)) := by
  pointwise [k0_pay2]

theorem zero_apply (i : S1408x1024.Idx) : k0_pay1 (F := Ideal) i = 0 := by
  pointwise [k0_pay1]

/-- Where each window's block lies at each point. -/
theorem idx : ∀ t : Fin cfg0.N, win0_0.index t = ![t.val % 11, t.val / 11 % 2] ∧ win0_1.index t = ![t.val % 11, 0]
    ∧ win0_2.index t = ![t.val / 11 % 2, 0] :=
  (by decide +kernel : ∀ t : Fin grid0.N, _)

variable (m : (ℓ : Loc nD τ sig) → Buf (Elt Ideal) ℓ) (c : Dev nD)

abbrev argA : Mat 8448 2816 := m (c, Proc.tc.devRef main_arg0)
abbrev argG : Mat 8448 1024 := m (c, Proc.tc.devRef main_arg2)

/-- The product's row that row `b` of the block is. -/
def col (n : ℕ) (b : Fin 1408) : Fin 2816 := ⟨1408 * (n / 11 % 2) + b, by omega⟩

/-- What point `n` adds. -/
def part (n : ℕ) (i : S1408x1024.Idx) : EReal :=
  ∑ k : Fin 768, argA m c (ix2 (row n k) (col n (i 0))) * argG m c (ix2 (row n k) (i 1))

theorem blk0 (t : Fin cfg0.N) (k : Fin 768) (a : Fin 1408) :
    iblk m c 0 t (ix2 k a) = argA m c (ix2 (row t k) (col t a)) := by
  have e := (idx t).1
  have h : V m c main_v0 = truncf (F := Ideal) .bf16 (argA m c) bitsLt_bf16_f32 := by
    dsimp only [V, hostOps0, List.flatten, List.append]
    after_results
  refine Eq.trans ?_ (congrFun h (ix2 (row t k) (col t a)))
  blk_ext [iblk, e, row, col]

theorem blk1 (t : Fin cfg0.N) (k : Fin 768) (b : Fin 1024) : iblk m c 1 t (ix2 k b) = argG m c (ix2 (row t k) b) := by
  have e := (idx t).2.1
  have h : V m c main_v1 = truncf (F := Ideal) .bf16 (argG m c) bitsLt_bf16_f32 := by
    dsimp only [V, hostOps0, List.flatten, List.append]
    after_results
  refine Eq.trans ?_ (congrFun h (ix2 (row t k) b))
  blk_ext [iblk, e, row]

theorem step_apply (t : Fin cfg0.N) (acc : Vec Ideal S1408x1024 .f32) (i : S1408x1024.Idx) :
    k0_pay2 acc (iblk m c 0 t) (iblk m c 1 t) i = acc i + part m c t i := by
  rw [pay_apply]
  exact congrArg (acc i + ·) (Finset.sum_congr rfl fun k _ =>
    congrArg₂ (· * ·) (blk0 m c t k (i 0)) (blk1 m c t k (i 1)))

/-- The eleven tiles of a run make the whole contraction. -/
theorem run_sum (q : ℕ) (i : S1408x1024.Idx) :
    ∑ s ∈ Finset.range 11, part m c (11 * q + s) i = tMul (argA m c) (argG m c) (ix2 (col (11 * q) (i 0)) (i 1)) := by
  refine Eq.trans (Finset.sum_congr rfl fun s hs => ?_)
    (sum_rows q fun k => argA m c (ix2 k (col (11 * q) (i 0))) * argG m c (ix2 k (i 1)))
  have hc : col (11 * q + s) (i 0) = col (11 * q) (i 0) :=
    Fin.ext (by simp only [col]; have := Finset.mem_range.mp hs; omega)
  simp only [part, hc]

/-- The array the launch leaves. -/
theorem final : (dats m 0 c).arrAt 2 cfg0.N = tMul (argA m c) (argG m c) := by
  refine (dats m 0 c).arrAt_eq_of_covers 2 _ (by decide +kernel) fun t hf y => ?_
  have e := (idx t).2.2
  have hm : t.val % 11 = 10 := (flush0_2 t).mp hf
  blk_simp
  rw [after0_2, Value.outsAt_2_eq]
  have ez : ((win0_2.blk t).view.emb y) = (ix2 (col (11 * (t.val / 11)) (y 0)) (y 1) : S2816x1024.Idx) := by
    blk_ext [e, col]
  rw [ez]
  refine (Pipeline.accAt_add_apply (Value.reset2 m c) (Value.step2 m c) (fun _ => 0) (part m c) (11 * (t.val / 11)) 10
    (fun h i => ?_) (fun n h acc i _ _ => step_apply m c ⟨n, h⟩ acc i) (t.val % 11) (by omega) _ _).trans ?_
  · exact (step_apply m c ⟨_, h⟩ _ i).trans (congrArg (· + _) (zero_apply i))
  · rw [hm, zero_add]
    exact run_sum m c _ _

/-- The reference's product is the same sum, the factors in the other order. -/
theorem reference_eq (h : Mat 8448 2816) (g : Mat 8448 1024) :
    transpose S2816x1024 [1, 0] (Host.dotGeneral (F := Ideal) (φ₁ := .f32) (φ₂ := .f32) Reference5Ideal.dot_S8448x1024_S8448x2816_S1024x2816_0_0_1_1_n_n none g h)
      Reference5Ideal.Gen.transposes_S1024x2816_S2816x1024_1_0 = tMul h g := by
  funext i
  refine Eq.trans ?_ (Finset.sum_congr rfl fun k _ => mul_comm (g (ix2 k (i 1))) (h (ix2 k (i 0))))
  pointwise []

/-- Both programs end with the gradient. -/
theorem algebraic : Cert.algebraic_Kernel5Ideal_Reference5Ideal (hKernel5Ideal := Kernel5Ideal.Gen.facts)
    (hReference5Ideal := Reference5Ideal.Gen.facts) := by
  intro m ρ m' ρ' _ hargs
  refine ⟨fun c => tMul (argA m c) (argG m c), ?_, ?_⟩
  · exact (θ_run _ _ _).mono (fun r h c => ⟨(h c).1.trans (final m c), (h c).2⟩) (Kernel5Ideal.Value.run_blocks m ρ)
  · refine (θ_run _ _ _).mono (fun r h c => ⟨(h c).1.trans ?_, (h c).2⟩) (Reference5Ideal.Value.run m' ρ')
    rw [(hargs c).1, (hargs c).2.2]
    exact reference_eq _ _

/-- The two printed programs are the same text, so one run serves both. -/
theorem defs₀_eq : @Kernel5.defs₀ Bits _ _ = @Kernel5Ideal.defs₀ Bits _ _ :=
  congrArg Defs.onTc (funext fun l => funext fun x => match l, x with | 0, (_, _) => rfl)

theorem kernel_quiescent : Cert.quiescent_Kernel5 (hKernel5 := Kernel5.Gen.facts) := fun m ρ _ => by
  rw [show @Kernel5.defs Bits _ _ = @Kernel5Ideal.defs Bits _ _ from congrArg (Pipeline.defs _) defs₀_eq]
  exact Kernel5Ideal.Gen.frame (F := Bits) m ρ

/-- The reference leaves its arguments, and it has no counter to move. -/
theorem reference_quiescent : Cert.quiescent_Reference5Ideal (hReference5Ideal := Reference5Ideal.Gen.facts) :=
  fun m ρ _ => (θ_run _ _ _).mono (fun r h => ⟨fun c => (h c).2, sem_eq_zero_of_no_sems (by decide) r.2⟩)
    (Reference5Ideal.Value.run m ρ)

end Cert.Proof.DownDw

end
-- ==== Proof.Products.DownDx.lean ====
/- The gradient of the gated activation: the gradient of the MLP's output against the transposed weight, a block of 768 × 1408 at
   each grid point. -/
module

public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Products.Common

@[expose] public section

set_option maxRecDepth 16384

noncomputable section

namespace Cert.Proof.DownDx

open Cert.Kernel4Ideal Cert.Kernel4Ideal.Gen Cert.Proof.Products
open Idealize.ShloMosaic Idealize.ShloMosaic.TcCoe Idealize.ShloMosaic.Tactic Idealize.SL.Sem

theorem pay_apply (x0 : Vec Ideal S768x1024 .bf16) (x1 : Vec Ideal S1408x1024 .bf16) (a : Fin 768) (b : Fin 1408) :
    k0_pay1 x0 x1 (ix2 a b) = ∑ k : Fin 1024, x0 (ix2 a k) * x1 (ix2 b k) := by
  pointwise [k0_pay1]

/-- Where each window's block lies at each point. -/
theorem idx : ∀ t : Fin cfg0.N, win0_0.index t = ![t.val / 2 % 11, 0] ∧ win0_1.index t = ![t.val % 2, 0]
    ∧ win0_2.index t = ![t.val / 2 % 11, t.val % 2] :=
  (by decide +kernel : ∀ t : Fin grid0.N, _)

variable (m : (ℓ : Loc nD τ sig) → Buf (Elt Ideal) ℓ) (c : Dev nD) (t : Fin cfg0.N)

abbrev argW : Mat 2816 1024 := m (c, Proc.tc.devRef main_arg1)
abbrev argG : Mat 8448 1024 := m (c, Proc.tc.devRef main_arg2)

/-- The product's column that column `b` of the block is. -/
def col (b : Fin 1408) : Fin 2816 := ⟨1408 * (t.val % 2) + b, by omega⟩

theorem blk0 (a : Fin 768) (k : Fin 1024) : iblk m c 0 t (ix2 a k) = argG m c (ix2 (row (t / 2) a) k) := by
  have e := (idx t).1
  have h : V m c main_v0 = truncf (F := Ideal) .bf16 (argG m c) bitsLt_bf16_f32 := by
    dsimp only [V, hostOps0, List.flatten, List.append]
    after_results
  refine Eq.trans ?_ (congrFun h (ix2 (row (t / 2) a) k))
  blk_ext [iblk, e, row]

theorem blk1 (b : Fin 1408) (k : Fin 1024) : iblk m c 1 t (ix2 b k) = argW m c (ix2 (col t b) k) := by
  have e := (idx t).2.1
  have h : V m c main_v1 = truncf (F := Ideal) .bf16 (argW m c) bitsLt_bf16_f32 := by
    dsimp only [V, hostOps0, List.flatten, List.append]
    after_results
  refine Eq.trans ?_ (congrFun h (ix2 (col t b) k))
  blk_ext [iblk, e, col]

theorem out_apply (a : Fin 768) (b : Fin 1408) :
    out0_2 (iblk m c 0 t) (iblk m c 1 t) (ix2 a b) = mulT (argG m c) (argW m c) (ix2 (row (t / 2) a) (col t b)) := by
  unfold out0_2
  rw [View.canon_unit_zero origin, View.ld_unit_zero origin, View.ld_unit_zero origin, pay_apply]
  exact Finset.sum_congr rfl fun k _ => congrArg₂ (· * ·) (blk0 m c t a k) (blk1 m c t b k)

/-- The array the launch leaves. -/
theorem final : (dats m 0 c).arrAt 2 cfg0.N = mulT (argG m c) (argW m c) := by
  refine (dats m 0 c).arrAt_eq_of_covers 2 _ (by decide +kernel) fun t hf y => ?_
  have e := (idx t).2.2
  blk_simp
  rw [after0_2]
  have ez : ((win0_2.blk t).view.emb y) = (ix2 (row (t / 2) (y 0)) (col t (y 1)) : S8448x2816.Idx) := by
    blk_ext [e, row, col]
  rw [ez]
  exact (congrArg _ (by blk_ext : y = (ix2 (y 0) (y 1) : S768x1408.Idx))).trans (out_apply m c t (y 0) (y 1))

theorem reference_eq (w : Mat 2816 1024) (g : Mat 8448 1024) :
    Host.dotGeneral (F := Ideal) (φ₁ := .f32) (φ₂ := .f32) Reference4Ideal.dot_S8448x1024_S2816x1024_S8448x2816_1_1_0_0_n_n none g w
      = mulT g w := by
  funext i
  pointwise [mulT]

/-- Both programs end with the gradient. -/
theorem algebraic : Cert.algebraic_Kernel4Ideal_Reference4Ideal (hKernel4Ideal := Kernel4Ideal.Gen.facts)
    (hReference4Ideal := Reference4Ideal.Gen.facts) := by
  intro m ρ m' ρ' _ hargs
  refine ⟨fun c => mulT (argG m c) (argW m c), ?_, ?_⟩
  · exact (θ_run _ _ _).mono (fun r h c => ⟨(h c).1.trans (final m c), (h c).2⟩) (Kernel4Ideal.Value.run_blocks m ρ)
  · refine (θ_run _ _ _).mono (fun r h c => ⟨(h c).1.trans ?_, (h c).2⟩) (Reference4Ideal.Value.run m' ρ')
    rw [(hargs c).2.1, (hargs c).2.2]
    exact reference_eq _ _

/-- The two printed programs are the same text, so one run serves both. -/
theorem defs₀_eq : @Kernel4.defs₀ Bits _ _ = @Kernel4Ideal.defs₀ Bits _ _ :=
  congrArg Defs.onTc (funext fun l => funext fun x => match l, x with | 0, (_, _) => rfl)

theorem kernel_quiescent : Cert.quiescent_Kernel4 (hKernel4 := Kernel4.Gen.facts) := fun m ρ _ => by
  rw [show @Kernel4.defs Bits _ _ = @Kernel4Ideal.defs Bits _ _ from congrArg (Pipeline.defs _) defs₀_eq]
  exact Kernel4Ideal.Gen.frame (F := Bits) m ρ

/-- The reference leaves its arguments, and it has no counter to move. -/
theorem reference_quiescent : Cert.quiescent_Reference4Ideal (hReference4Ideal := Reference4Ideal.Gen.facts) :=
  fun m ρ _ => (θ_run _ _ _).mono (fun r h => ⟨fun c => (h c).2, sem_eq_zero_of_no_sems (by decide) r.2⟩)
    (Reference4Ideal.Value.run m ρ)

end Cert.Proof.DownDx

end
-- ==== Proof.lean ====
/- The claims: every program runs, leaves its arguments and comes to rest; the constants' exact values; the attention's two
   results are the reference's for finite queries and keys, and its gradient's three on finite arguments; and the products are
   the references'. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Literal.Run
public import proofs.«01_k».proof.Proof.Run
public import proofs.«01_k».proof.Proof.Result
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Pre_finite_qk
public import proofs.«01_k».proof.Proof.Forward.Literal.Run
public import proofs.«01_k».proof.Proof.Forward.Run
public import proofs.«01_k».proof.Proof.Forward.Result
public import proofs.«01_k».proof.Proof.Products.UpDx
public import proofs.«01_k».proof.Proof.Products.ProjDx
public import proofs.«01_k».proof.Proof.Products.ProjDwXbc
public import proofs.«01_k».proof.Proof.Products.ProjXbc
public import proofs.«01_k».proof.Proof.Products.ProjZ
public import proofs.«01_k».proof.Proof.Products.UpKvDx
public import proofs.«01_k».proof.Proof.Products.UpKvDw
public import proofs.«01_k».proof.Proof.Products.UpQDx
public import proofs.«01_k».proof.Proof.Products.UpQDw
public import proofs.«01_k».proof.Proof.Products.ProjQ
public import proofs.«01_k».proof.Proof.Products.ProjDwQ
public import proofs.«01_k».proof.Proof.Products.ProjKv
public import proofs.«01_k».proof.Proof.Products.ProjDwKv
public import proofs.«01_k».proof.Proof.Products.Delta
public import proofs.«01_k».proof.Proof.Products.UpQRope
public import proofs.«01_k».proof.Proof.Products.UpKvRope
public import proofs.«01_k».proof.Proof.Products.Norm
public import proofs.«01_k».proof.Proof.Products.ResidNorm
public import proofs.«01_k».proof.Proof.Products.UpDw
public import proofs.«01_k».proof.Proof.Products.Out
public import proofs.«01_k».proof.Proof.Products.Down
public import proofs.«01_k».proof.Proof.Products.Up
public import proofs.«01_k».proof.Proof.Products.OutDw
public import proofs.«01_k».proof.Proof.Products.OutDx
public import proofs.«01_k».proof.Proof.Products.DownDw
public import proofs.«01_k».proof.Proof.Products.DownDx
public import Idealize.ShloMosaic.Adequacy
public import Idealize.ShloMosaic.Init

@[expose] public section

set_option maxRecDepth 16384

noncomputable section

namespace Cert.Proof

open Idealize.ShloMosaic Idealize.SL.Sem

/-- The reference leaves its arguments, and it has no counter to move. -/
theorem reference_quiescent (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
        ∧ r.2.sem = fun _ => 0) :=
  (θ_run _ _ _).mono (fun r h => ⟨fun c => (h c).2.2.2, sem_eq_zero_of_no_sems (by decide) r.2⟩) (ReferenceIdeal.Value.run m ρ)

theorem algebraic : Cert.algebraic_KernelIdeal_ReferenceIdeal_pre_finite (hKernelIdeal := KernelIdeal.Gen.facts)
    (hReferenceIdeal := ReferenceIdeal.Gen.facts) (hPre_finite := Pre_finite.Gen.facts) := by
  intro m g m' g' hm hargs
  have hr := Result.reference_results hm m' (fun c => (hargs c).1) (fun c => (hargs c).2.1) (fun c => (hargs c).2.2.1)
    (fun c => (hargs c).2.2.2)
  refine ⟨fun c => Result.arrS (Result.heads m c), fun c => Grads.arrK (Result.heads m c), fun c => Grads.arrW (Result.heads m c),
    Result.kernel_run g hm, ?_⟩
  refine (θ_run _ _ _).mono (fun r h c => ?_) (ReferenceIdeal.Value.run m' g')
  exact ⟨(h c).1.trans (hr c).1, (h c).2.1.trans (hr c).2.1, (h c).2.2.1.trans (hr c).2.2, (h c).2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Pre_finite.Gen.facts, Cert.Pre_finite_qk.Gen.facts,
    fun m ρ _ => Literal.Run.quiescent m ρ, fun m ρ _ => Run.quiescent m ρ, fun m ρ _ => Run.quiescent m ρ,
    fun m ρ _ => reference_quiescent m ρ, fun m ρ _ => reference_quiescent m ρ,
    UpDx.kernel_quiescent, fun m ρ _ => Cert.Kernel2Ideal.Gen.frame m ρ, UpDx.reference_quiescent,
    UpDw.kernel_quiescent, fun m ρ _ => Cert.Kernel3Ideal.Gen.frame m ρ, UpDw.reference_quiescent,
    DownDx.kernel_quiescent, fun m ρ _ => Cert.Kernel4Ideal.Gen.frame m ρ, DownDx.reference_quiescent,
    DownDw.kernel_quiescent, fun m ρ _ => Cert.Kernel5Ideal.Gen.frame m ρ, DownDw.reference_quiescent,
    OutDx.kernel_quiescent, fun m ρ _ => Cert.Kernel6Ideal.Gen.frame m ρ, OutDx.reference_quiescent,
    OutDw.kernel_quiescent, fun m ρ _ => Cert.Kernel7Ideal.Gen.frame m ρ, OutDw.reference_quiescent,
    Up.kernel_quiescent, fun m ρ _ => Cert.Kernel8Ideal.Gen.frame m ρ, Up.reference_quiescent,
    Down.kernel_quiescent, fun m ρ _ => Cert.Kernel9Ideal.Gen.frame m ρ, Down.reference_quiescent,
    Out.kernel_quiescent, fun m ρ _ => Cert.Kernel10Ideal.Gen.frame m ρ, Out.reference_quiescent,
    fun m ρ _ => Forward.Literal.Run.quiescent m ρ, fun m ρ _ => Forward.Run.quiescent m ρ, fun m ρ _ => Forward.Run.quiescent m ρ,
    fun m ρ _ => Forward.Result.reference_quiescent m ρ, fun m ρ _ => Forward.Result.reference_quiescent m ρ,
    ProjDx.kernel_quiescent, fun m ρ _ => Cert.Kernel12Ideal.Gen.frame m ρ, ProjDx.reference_quiescent,
    ProjDwXbc.kernel_quiescent, fun m ρ _ => Cert.Kernel13Ideal.Gen.frame m ρ, ProjDwXbc.reference_quiescent,
    ProjXbc.kernel_quiescent, fun m ρ _ => Cert.Kernel14Ideal.Gen.frame m ρ, ProjXbc.reference_quiescent,
    ProjZ.kernel_quiescent, fun m ρ _ => Cert.Kernel15Ideal.Gen.frame m ρ, ProjZ.reference_quiescent,
    UpKvDx.kernel_quiescent, fun m ρ _ => Cert.Kernel16Ideal.Gen.frame m ρ, UpKvDx.reference_quiescent,
    UpKvDw.kernel_quiescent, fun m ρ _ => Cert.Kernel17Ideal.Gen.frame m ρ, UpKvDw.reference_quiescent,
    UpQDx.kernel_quiescent, fun m ρ _ => Cert.Kernel18Ideal.Gen.frame m ρ, UpQDx.reference_quiescent,
    UpQDw.kernel_quiescent, fun m ρ _ => Cert.Kernel19Ideal.Gen.frame m ρ, UpQDw.reference_quiescent,
    ProjQ.kernel_quiescent, fun m ρ _ => Cert.Kernel20Ideal.Gen.frame m ρ, ProjQ.reference_quiescent,
    ProjDwQ.kernel_quiescent, fun m ρ _ => Cert.Kernel21Ideal.Gen.frame m ρ, ProjDwQ.reference_quiescent,
    ProjKv.kernel_quiescent, fun m ρ _ => Cert.Kernel22Ideal.Gen.frame m ρ, ProjKv.reference_quiescent,
    ProjDwKv.kernel_quiescent, fun m ρ _ => Cert.Kernel23Ideal.Gen.frame m ρ, ProjDwKv.reference_quiescent,
    Delta.kernel_quiescent, fun m ρ _ => Cert.Kernel24Ideal.Gen.frame m ρ, Delta.reference_quiescent,
    UpQRope.kernel_quiescent, fun m ρ _ => Cert.Kernel25Ideal.Gen.frame m ρ, UpQRope.reference_quiescent,
    UpKvRope.kernel_quiescent, fun m ρ _ => Cert.Kernel26Ideal.Gen.frame m ρ, UpKvRope.reference_quiescent,
    Norm.kernel_quiescent, fun m ρ _ => Cert.Kernel27Ideal.Gen.frame m ρ, Norm.reference_quiescent,
    ResidNorm.kernel_quiescent, fun m ρ _ => Cert.Kernel28Ideal.Gen.frame m ρ, ResidNorm.reference_quiescent,
    ⟨IdealRules.named_const.statement _ _ _ _ _ rfl, IdealRules.named_const.statement _ _ _ _ _ rfl⟩, algebraic,
    trivial, UpDx.algebraic, trivial, UpDw.algebraic, trivial, DownDx.algebraic, trivial, DownDw.algebraic, trivial, OutDx.algebraic,
    trivial, OutDw.algebraic, trivial, Up.algebraic, trivial, Down.algebraic, trivial, Out.algebraic,
    ⟨IdealRules.named_const.statement _ _ _ _ _ rfl, IdealRules.named_const.statement _ _ _ _ _ rfl⟩, Forward.Result.algebraic,
    trivial, ProjDx.algebraic, trivial, ProjDwXbc.algebraic, trivial, ProjXbc.algebraic, trivial, ProjZ.algebraic,
    trivial, UpKvDx.algebraic, trivial, UpKvDw.algebraic, trivial, UpQDx.algebraic, trivial, UpQDw.algebraic,
    trivial, ProjQ.algebraic, trivial, ProjDwQ.algebraic, trivial, ProjKv.algebraic, trivial, ProjDwKv.algebraic, trivial, Delta.algebraic,
    trivial, UpQRope.algebraic, trivial, UpKvRope.algebraic,
    trivial, Norm.algebraic, trivial, ResidNorm.algebraic⟩

end Cert.Proof

end
